-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4)
      ∧ r.2.mem ((c.tc : Thread Cert.Half.nD Cert.Half.τ).loc Cert.Half.main_arg5) = m ((c.tc : Thread Cert.Half.nD Cert.Half.τ).loc Cert.Half.main_arg5))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
      ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4)
      ∧ r.2.mem ((c.tc : Thread Cert.HalfRefIdeal.nD Cert.HalfRefIdeal.τ).loc Cert.HalfRefIdeal.main_arg5) = m ((c.tc : Thread Cert.HalfRefIdeal.nD Cert.HalfRefIdeal.τ).loc Cert.HalfRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)
      ∧ m' ((c.tc : Thread Cert.HalfRefIdeal.nD Cert.HalfRefIdeal.τ).loc Cert.HalfRefIdeal.main_arg5) = m ((c.tc : Thread Cert.HalfIdeal.nD Cert.HalfIdeal.τ).loc Cert.HalfIdeal.main_arg5)) →
    ∃ (v0 : (c : Dev Cert.HalfIdeal.nD) → Buf (Elt Ideal) ((c.tc : Thread Cert.HalfIdeal.nD Cert.HalfIdeal.τ).loc Cert.HalfIdeal.main_v3)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v3) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
          ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v48) = v0 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4)
          ∧ r.2.mem ((c.tc : Thread Cert.HalfRefIdeal.nD Cert.HalfRefIdeal.τ).loc Cert.HalfRefIdeal.main_arg5) = m' ((c.tc : Thread Cert.HalfRefIdeal.nD Cert.HalfRefIdeal.τ).loc Cert.HalfRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v35) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v38) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v38) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v64_0)) (v1 : (c : Dev Cert.QkvIdeal.nD) → Buf (Elt Ideal) ((c.tc : Thread Cert.QkvIdeal.nD Cert.QkvIdeal.τ).loc Cert.QkvIdeal.main_v64_1)) (v2 : (c : Dev Cert.QkvIdeal.nD) → Buf (Elt Ideal) ((c.tc : Thread Cert.QkvIdeal.nD Cert.QkvIdeal.τ).loc Cert.QkvIdeal.main_v64_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v64_0) = v0 c
          ∧ r.2.mem ((c.tc : Thread Cert.QkvIdeal.nD Cert.QkvIdeal.τ).loc Cert.QkvIdeal.main_v64_1) = v1 c
          ∧ r.2.mem ((c.tc : Thread Cert.QkvIdeal.nD Cert.QkvIdeal.τ).loc Cert.QkvIdeal.main_v64_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v143) = v0 c
          ∧ r.2.mem ((c.tc : Thread Cert.QkvRefIdeal.nD Cert.QkvRefIdeal.τ).loc Cert.QkvRefIdeal.main_v153) = v1 c
          ∧ r.2.mem ((c.tc : Thread Cert.QkvRefIdeal.nD Cert.QkvRefIdeal.τ).loc Cert.QkvRefIdeal.main_v164) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hHalf : Cert.Half.Facts) (hHalfIdeal : Cert.HalfIdeal.Facts) (hHalfRefIdeal : Cert.HalfRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hLast : Cert.Last.Facts) (hLastIdeal : Cert.LastIdeal.Facts) (hLastRefIdeal : Cert.LastRefIdeal.Facts) (hQkv : Cert.Qkv.Facts) (hQkvIdeal : Cert.QkvIdeal.Facts) (hQkvRefIdeal : Cert.QkvRefIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Ffn (hFfn := hFfn)
    ∧ quiescent_FfnIdeal (hFfnIdeal := hFfnIdeal)
    ∧ quiescent_FfnRefIdeal (hFfnRefIdeal := hFfnRefIdeal)
    ∧ quiescent_Half (hHalf := hHalf)
    ∧ quiescent_HalfIdeal (hHalfIdeal := hHalfIdeal)
    ∧ quiescent_HalfRefIdeal (hHalfRefIdeal := hHalfRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ quiescent_Last (hLast := hLast)
    ∧ quiescent_LastIdeal (hLastIdeal := hLastIdeal)
    ∧ quiescent_LastRefIdeal (hLastRefIdeal := hLastRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Ffn_FfnIdeal
    ∧ algebraic_FfnIdeal_FfnRefIdeal (hFfnIdeal := hFfnIdeal) (hFfnRefIdeal := hFfnRefIdeal)
    ∧ preserves_Half_HalfIdeal
    ∧ algebraic_HalfIdeal_HalfRefIdeal (hHalfIdeal := hHalfIdeal) (hHalfRefIdeal := hHalfRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
    ∧ preserves_Last_LastIdeal
    ∧ algebraic_LastIdeal_LastRefIdeal (hLastIdeal := hLastIdeal) (hLastRefIdeal := hLastRefIdeal)
    ∧ preserves_Qkv_QkvIdeal
    ∧ algebraic_QkvIdeal_QkvRefIdeal (hQkvIdeal := hQkvIdeal) (hQkvRefIdeal := hQkvRefIdeal)
-- ==== Pre_finite_keys.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S2x256x16x128 : Shape := ⟨4, ![2, 256, 16, 128]⟩
abbrev S2x256x16x64 : Shape := ⟨4, ![2, 256, 16, 64]⟩
abbrev S2x256x64 : Shape := ⟨3, ![2, 256, 64]⟩
abbrev S_ : Shape := ⟨0, ![]⟩

class Facts : Prop where
  bcast_S_S2x4096x16x128 : S_.BroadcastsInDim S2x4096x16x128 (![] : Fin 0 → Fin S2x4096x16x128.rank)
  reducesTo_S2x4096x16x128_S_d0_1_2_3 : S2x4096x16x128.ReducesTo [0, 1, 2, 3] S_
  h_S_ : 0 < S_.numel
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_
  bcast_S_S2x256x16x128 : S_.BroadcastsInDim S2x256x16x128 (![] : Fin 0 → Fin S2x256x16x128.rank)
  reducesTo_S2x256x16x128_S_d0_1_2_3 : S2x256x16x128.ReducesTo [0, 1, 2, 3] S_
  bcast_S_S2x256x64 : S_.BroadcastsInDim S2x256x64 (![] : Fin 0 → Fin S2x256x64.rank)
  reducesTo_S2x256x64_S_d0_1_2 : S2x256x64.ReducesTo [0, 1, 2] S_

variable [Facts]

def fn_part1 {F : FTy → Type} [FloatOps F] (main_arg7 : FVec F S2x256x16x128 .f32) (main_arg8 : FVec F S2x256x64 .f32) (main_v13 : IVec S_ 1) (main_v16 : IVec S2x4096x64 1) : IVec S_ 1 :=
  let main_c_5 : IVec S_ 1 := constantI S_ 1 1#1
  let main_v17 : IVec S_ 1 := (fun x v => Host.reduce IntOp.andi x v reducesTo_S2x4096x64_S_d0_1_2 h_S_) main_v16 main_c_5
  let main_v18 : IVec S_ 1 := andi main_v13 main_v17
  let main_v19 : FVec F S2x256x16x128 .f32 := Host.absf main_arg7
  let main_cst_6 : FVec F S_ .f32 := constant S_ .f32 0x7F800000#32
  let main_v20 : FVec F S2x256x16x128 .f32 := broadcastInDim S2x256x16x128 ![] bcast_S_S2x256x16x128 main_cst_6
  let main_v21 : IVec S2x256x16x128 1 := cmpf .olt main_v19 main_v20
  let main_c_7 : IVec S_ 1 := constantI S_ 1 1#1
  let main_v22 : IVec S_ 1 := (fun x v => Host.reduce IntOp.andi x v reducesTo_S2x256x16x128_S_d0_1_2_3 h_S_) main_v21 main_c_7
  let main_v23 : IVec S_ 1 := andi main_v18 main_v22
  let main_v24 : FVec F S2x256x64 .f32 := Host.absf main_arg8
  let main_cst_8 : FVec F S_ .f32 := constant S_ .f32 0x7F800000#32
  let main_v25 : FVec F S2x256x64 .f32 := broadcastInDim S2x256x64 ![] bcast_S_S2x256x64 main_cst_8
  let main_v26 : IVec S2x256x64 1 := cmpf .olt main_v24 main_v25
  let main_c_9 : IVec S_ 1 := constantI S_ 1 1#1
  let main_v27 : IVec S_ 1 := (fun x v => Host.reduce IntOp.andi x v reducesTo_S2x256x64_S_d0_1_2 h_S_) main_v26 main_c_9
  let main_v28 : IVec S_ 1 := andi main_v23 main_v27
  main_v28

def fn {F : FTy → Type} [FloatOps F] (main_arg0 : FVec F S2x4096x16x128 .f32) (main_arg1 : FVec F S2x4096x16x64 .f32) (main_arg2 : FVec F S2x4096x16x128 .f32) (main_arg3 : FVec F S2x4096x64 .f32) (main_arg4 : FVec F S2x4096x16x128 .f32) (main_arg5 : FVec F S2x256x16x128 .f32) (main_arg6 : FVec F S2x256x16x64 .f32) (main_arg7 : FVec F S2x256x16x128 .f32) (main_arg8 : FVec F S2x256x64 .f32) (main_arg9 : FVec F S2x256x16x128 .f32) : IVec S_ 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_c : IVec S_ 1 := constantI S_ 1 1#1
  let main_v3 : IVec S_ 1 := (fun x v => Host.reduce IntOp.andi x v reducesTo_S2x4096x16x128_S_d0_1_2_3 h_S_) main_v2 main_c
  let main_v4 : FVec F S2x4096x16x64 .f32 := Host.absf main_arg1
  let main_cst_0 : FVec F S_ .f32 := constant S_ .f32 0x7F800000#32
  let main_v5 : FVec F S2x4096x16x64 .f32 := broadcastInDim S2x4096x16x64 ![] bcast_S_S2x4096x16x64 main_cst_0
  let main_v6 : IVec S2x4096x16x64 1 := cmpf .olt main_v4 main_v5
  let main_c_1 : IVec S_ 1 := constantI S_ 1 1#1
  let main_v7 : IVec S_ 1 := (fun x v => Host.reduce IntOp.andi x v reducesTo_S2x4096x16x64_S_d0_1_2_3 h_S_) main_v6 main_c_1
  let main_v8 : IVec S_ 1 := andi main_v3 main_v7
  let main_v9 : FVec F S2x4096x16x128 .f32 := Host.absf main_arg2
  let main_cst_2 : FVec F S_ .f32 := constant S_ .f32 0x7F800000#32
  let main_v10 : FVec F S2x4096x16x128 .f32 := broadcastInDim S2x4096x16x128 ![] bcast_S_S2x4096x16x128 main_cst_2
  let main_v11 : IVec S2x4096x16x128 1 := cmpf .olt main_v9 main_v10
  let main_c_3 : IVec S_ 1 := constantI S_ 1 1#1
  let main_v12 : IVec S_ 1 := (fun x v => Host.reduce IntOp.andi x v reducesTo_S2x4096x16x128_S_d0_1_2_3 h_S_) main_v11 main_c_3
  let main_v13 : IVec S_ 1 := andi main_v8 main_v12
  let main_v14 : FVec F S2x4096x64 .f32 := Host.absf main_arg3
  let main_cst_4 : FVec F S_ .f32 := constant S_ .f32 0x7F800000#32
  let main_v15 : FVec F S2x4096x64 .f32 := broadcastInDim S2x4096x64 ![] bcast_S_S2x4096x64 main_cst_4
  let main_v16 : IVec S2x4096x64 1 := cmpf .olt main_v14 main_v15
  fn_part1 (F := F) main_arg7 main_arg8 main_v13 main_v16
-- ==== Kernel.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S2x256x16x128 : Shape := ⟨4, ![2, 256, 16, 128]⟩
abbrev S2x256x16x64 : Shape := ⟨4, ![2, 256, 16, 64]⟩
abbrev S2x256x64 : Shape := ⟨3, ![2, 256, 64]⟩
abbrev S_ : Shape := ⟨0, ![]⟩
abbrev S2x16x4352x64 : Shape := ⟨4, ![2, 16, 4352, 64]⟩
abbrev S2x4352x16x128 : Shape := ⟨4, ![2, 4352, 16, 128]⟩
abbrev S2x16x4352x128 : Shape := ⟨4, ![2, 16, 4352, 128]⟩
abbrev S2x4352x16x64 : Shape := ⟨4, ![2, 4352, 16, 64]⟩
abbrev S2x16x4352x256 : Shape := ⟨4, ![2, 16, 4352, 256]⟩
abbrev S2x4352x64 : Shape := ⟨3, ![2, 4352, 64]⟩
abbrev S2x1x4352x64 : Shape := ⟨4, ![2, 1, 4352, 64]⟩
abbrev S2x4096x2048 : Shape := ⟨3, ![2, 4096, 2048]⟩
abbrev S1x1x4096x256 : Shape := ⟨4, ![1, 1, 4096, 256]⟩
abbrev S1x1x4352x256 : Shape := ⟨4, ![1, 1, 4352, 256]⟩
abbrev S1x4096x128 : Shape := ⟨3, ![1, 4096, 128]⟩
abbrev S1x1x256x256 : Shape := ⟨4, ![1, 1, 256, 256]⟩
abbrev S256x256 : Shape := ⟨2, ![256, 256]⟩
abbrev S4352x256 : Shape := ⟨2, ![4352, 256]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 36
  | .vmem => 8
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S2x256x16x128, .f32⟩
  | .hbm, ⟨6, _⟩ => ⟨S2x256x16x64, .f32⟩
  | .hbm, ⟨7, _⟩ => ⟨S2x256x16x128, .f32⟩
  | .hbm, ⟨8, _⟩ => ⟨S2x256x64, .f32⟩
  | .hbm, ⟨9, _⟩ => ⟨S2x256x16x128, .f32⟩
  | .hbm, ⟨10, _⟩ => ⟨S_, .f32⟩
  | .hbm, ⟨11, _⟩ => ⟨S2x16x4352x64, .f32⟩
  | .hbm, ⟨12, _⟩ => ⟨S2x4352x16x128, .f32⟩
  | .hbm, ⟨13, _⟩ => ⟨S2x16x4352x128, .f32⟩
  | .hbm, ⟨14, _⟩ => ⟨S2x4352x16x64, .f32⟩
  | .hbm, ⟨15, _⟩ => ⟨S2x16x4352x64, .f32⟩
  | .hbm, ⟨16, _⟩ => ⟨S2x16x4352x128, .f32⟩
  | .hbm, ⟨17, _⟩ => ⟨S2x16x4352x256, .f32⟩
  | .hbm, ⟨18, _⟩ => ⟨S2x4352x64, .f32⟩
  | .hbm, ⟨19, _⟩ => ⟨S2x1x4352x64, .f32⟩
  | .hbm, ⟨20, _⟩ => ⟨S2x16x4352x64, .f32⟩
  | .hbm, ⟨21, _⟩ => ⟨S2x4352x16x128, .f32⟩
  | .hbm, ⟨22, _⟩ => ⟨S2x16x4352x128, .f32⟩
  | .hbm, ⟨23, _⟩ => ⟨S2x16x4352x128, .f32⟩
  | .hbm, ⟨24, _⟩ => ⟨S2x16x4352x256, .f32⟩
  | .hbm, ⟨25, _⟩ => ⟨S2x16x4352x128, .i32⟩
  | .hbm, ⟨26, _⟩ => ⟨S_, .i32⟩
  | .hbm, ⟨27, _⟩ => ⟨S2x16x4352x128, .i32⟩
  | .hbm, ⟨28, _⟩ => ⟨S2x16x4352x128, .i1⟩
  | .hbm, ⟨29, _⟩ => ⟨S2x16x4352x128, .f32⟩
  | .hbm, ⟨30, _⟩ => ⟨S2x4352x16x128, .f32⟩
  | .hbm, ⟨31, _⟩ => ⟨S2x16x4352x128, .f32⟩
  | .hbm, ⟨32, _⟩ => ⟨S2x16x4352x256, .f32⟩
  | .hbm, ⟨33, _⟩ => ⟨S2x16x4352x256, .bf16⟩
  | .hbm, ⟨34, _⟩ => ⟨S2x16x4352x256, .bf16⟩
  | .hbm, ⟨35, _⟩ => ⟨S2x4096x2048, .bf16⟩
  | .local _ .vmem, ⟨0, _⟩ => ⟨S1x1x4096x256, .f32⟩
  | .local _ .vmem, ⟨1, _⟩ => ⟨S1x1x4096x256, .f32⟩
  | .local _ .vmem, ⟨2, _⟩ => ⟨S1x1x4352x256, .bf16⟩
  | .local _ .vmem, ⟨3, _⟩ => ⟨S1x1x4352x256, .bf16⟩
  | .local _ .vmem, ⟨4, _⟩ => ⟨S1x1x4352x256, .bf16⟩
  | .local _ .vmem, ⟨5, _⟩ => ⟨S1x1x4352x256, .bf16⟩
  | .local _ .vmem, ⟨6, _⟩ => ⟨S1x4096x128, .bf16⟩
  | .local _ .vmem, ⟨7, _⟩ => ⟨S1x4096x128, .bf16⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, arg1.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S2x256x16x128 : Shape := ⟨4, ![2, 256, 16, 128]⟩
abbrev S2x256x16x64 : Shape := ⟨4, ![2, 256, 16, 64]⟩
abbrev S2x256x64 : Shape := ⟨3, ![2, 256, 64]⟩
abbrev S2x4352x16x128 : Shape := ⟨4, ![2, 4352, 16, 128]⟩
abbrev S2x4352x64 : Shape := ⟨3, ![2, 4352, 64]⟩
abbrev S2x16x4096x4352 : Shape := ⟨4, ![2, 16, 4096, 4352]⟩
abbrev S2x4352x4096x16 : Shape := ⟨4, ![2, 4352, 4096, 16]⟩
abbrev S_ : Shape := ⟨0, ![]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S2x4096x2048 : Shape := ⟨3, ![2, 4096, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S2x256x16x128, .f32⟩
  | .hbm, ⟨6, _⟩ => ⟨S2x256x16x64, .f32⟩
  | .hbm, ⟨7, _⟩ => ⟨S2x256x16x128, .f32⟩
  | .hbm, ⟨8, _⟩ => ⟨S2x256x64, .f32⟩
  | .hbm, ⟨9, _⟩ => ⟨S2x256x16x128, .f32⟩
  | .hbm, ⟨10, _⟩ => ⟨S2x4352x16x128, .f32⟩
  | .hbm, ⟨11, _⟩ => ⟨S2x4352x64, .f32⟩
  | .hbm, ⟨12, _⟩ => ⟨S2x4352x16x128, .f32⟩
  | .hbm, ⟨13, _⟩ => ⟨S2x16x4096x4352, .f32⟩
  | .hbm, ⟨14, _⟩ => ⟨S2x4352x4096x16, .f32⟩
  | .hbm, ⟨15, _⟩ => ⟨S2x16x4096x4352, .f32⟩
  | .hbm, ⟨16, _⟩ => ⟨S2x16x4096x4352, .f32⟩
  | .hbm, ⟨17, _⟩ => ⟨S_, .f32⟩
  | .hbm, ⟨18, _⟩ => ⟨S_, .f32⟩
  | .hbm, ⟨19, _⟩ => ⟨S2x16x4096x4352, .f32⟩
  | .hbm, ⟨20, _⟩ => ⟨S2x16x4096x4352, .f32⟩
  | .hbm, ⟨21, _⟩ => ⟨S_, .f32⟩
  | .hbm, ⟨22, _⟩ => ⟨S2x16x4096, .f32⟩
  | .hbm, ⟨23, _⟩ => ⟨S_, .f32⟩
  | .hbm, ⟨24, _⟩ => ⟨S2x16x4096, .f32⟩
  | .hbm, ⟨25, _⟩ => ⟨S2x16x4096, .f32⟩
  | .hbm, ⟨26, _⟩ => ⟨S2x16x4096x1, .f32⟩
  | .hbm, ⟨27, _⟩ => ⟨S2x16x4096x4352, .f32⟩
  | .hbm, ⟨28, _⟩ => ⟨S2x16x4096x4352, .f32⟩
  | .hbm, ⟨29, _⟩ => ⟨S2x16x4096x4352, .f32⟩
  | .hbm, ⟨30, _⟩ => ⟨S_, .f32⟩
  | .hbm, ⟨31, _⟩ => ⟨S2x16x4096, .f32⟩
  | .hbm, ⟨32, _⟩ => ⟨S2x16x4096x1, .f32⟩
  | .hbm, ⟨33, _⟩ => ⟨S2x16x4096x4352, .f32⟩
  | .hbm, ⟨34, _⟩ => ⟨S2x16x4096x4352, .f32⟩
  | .hbm, ⟨35, _⟩ => ⟨S2x16x128x4096, .f32⟩
  | .hbm, ⟨36, _⟩ => ⟨S2x4096x16x128, .f32⟩
  | .hbm, ⟨37, _⟩ => ⟨S2x4096x2048, .f32⟩
  | .hbm, ⟨38, _⟩ => ⟨S2x4096x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Ffn.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S4x2048x11264 : Shape := ⟨3, ![4, 2048, 11264]⟩
abbrev S4x5632x2048 : Shape := ⟨3, ![4, 5632, 2048]⟩
abbrev S2048 : Shape := ⟨1, ![2048]⟩
abbrev S12x1x2048 : Shape := ⟨3, ![12, 1, 2048]⟩
abbrev S1x2048 : Shape := ⟨2, ![1, 2048]⟩
abbrev S8192x2048 : Shape := ⟨2, ![8192, 2048]⟩
abbrev S512x2048 : Shape := ⟨2, ![512, 2048]⟩
abbrev S1x1x9x2048 : Shape := ⟨4, ![1, 1, 9, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x1x1x2048 : Shape := ⟨4, ![1, 1, 1, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S12x1x2048, .f32⟩
  | .hbm, ⟨7, _⟩ => ⟨S4x2048x11264, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x9x2048, .f32⟩
  | .local _ .vmem, ⟨3, _⟩ => ⟨S1x1x9x2048, .f32⟩
  | .local _ .vmem, ⟨4, _⟩ => ⟨S1x1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .f32⟩
  | .local _ .vmem, ⟨10, _⟩ => ⟨S1x512x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S4x2048x11264 : Shape := ⟨3, ![4, 2048, 11264]⟩
abbrev S4x5632x2048 : Shape := ⟨3, ![4, 5632, 2048]⟩
abbrev S2048 : Shape := ⟨1, ![2048]⟩
abbrev S8192x2048 : Shape := ⟨2, ![8192, 2048]⟩
abbrev S2x4096x2048 : Shape := ⟨3, ![2, 4096, 2048]⟩
abbrev S1x2x9x2048 : Shape := ⟨4, ![1, 2, 9, 2048]⟩
abbrev S2x9x2048 : Shape := ⟨3, ![2, 9, 2048]⟩
abbrev S2x1x3x3x2048 : Shape := ⟨5, ![2, 1, 3, 3, 2048]⟩
abbrev S2x1x1x1x2048 : Shape := ⟨5, ![2, 1, 1, 1, 2048]⟩
abbrev S2x1x2048 : Shape := ⟨3, ![2, 1, 2048]⟩
abbrev S_ : Shape := ⟨0, ![]⟩
abbrev S1x1x2048 : Shape := ⟨3, ![1, 1, 2048]⟩
abbrev S2x4096 : Shape := ⟨2, ![2, 4096]⟩
abbrev S2x4096x1 : Shape := ⟨3, ![2, 4096, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x4096x11264 : Shape := ⟨3, ![2, 4096, 11264]⟩
abbrev S2x4096x5632 : Shape := ⟨3, ![2, 4096, 5632]⟩

abbrev nBuf : Space → Nat
  | .hbm => 83
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S8192x2048, .f32⟩
  | .hbm, ⟨7, _⟩ => ⟨S2x4096x2048, .f32⟩
  | .hbm, ⟨8, _⟩ => ⟨S1x2x9x2048, .f32⟩
  | .hbm, ⟨9, _⟩ => ⟨S2x9x2048, .f32⟩
  | .hbm, ⟨10, _⟩ => ⟨S2x1x3x3x2048, .f32⟩
  | .hbm, ⟨11, _⟩ => ⟨S2x1x1x1x2048, .f32⟩
  | .hbm, ⟨12, _⟩ => ⟨S2x1x2048, .f32⟩
  | .hbm, ⟨13, _⟩ => ⟨S_, .f32⟩
  | .hbm, ⟨14, _⟩ => ⟨S2x1x2048, .f32⟩
  | .hbm, ⟨15, _⟩ => ⟨S2x1x2048, .f32⟩
  | .hbm, ⟨16, _⟩ => ⟨S1x1x2048, .f32⟩
  | .hbm, ⟨17, _⟩ => ⟨S2048, .f32⟩
  | .hbm, ⟨18, _⟩ => ⟨S2x1x1x1x2048, .f32⟩
  | .hbm, ⟨19, _⟩ => ⟨S2x1x2048, .f32⟩
  | .hbm, ⟨20, _⟩ => ⟨S2x1x1x1x2048, .f32⟩
  | .hbm, ⟨21, _⟩ => ⟨S2x1x2048, .f32⟩
  | .hbm, ⟨22, _⟩ => ⟨S2x4096x2048, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S1x2048x11264, .f32⟩
  | .hbm, ⟨46, _⟩ => ⟨S2048x11264, .f32⟩
  | .hbm, ⟨47, _⟩ => ⟨S1x5632x2048, .f32⟩
  | .hbm, ⟨48, _⟩ => ⟨S5632x2048, .f32⟩
  | .hbm, ⟨49, _⟩ => ⟨S2x4096x11264, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S2x4096x5632, .f32⟩
  | .hbm, ⟨54, _⟩ => ⟨S_, .f32⟩
  | .hbm, ⟨55, _⟩ => ⟨S2x4096x5632, .f32⟩
  | .hbm, ⟨56, _⟩ => ⟨S2x4096x5632, .f32⟩
  | .hbm, ⟨57, _⟩ => ⟨S_, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S2x4096x5632, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S_, .f32⟩
  | .hbm, ⟨68, _⟩ => ⟨S2x4096, .f32⟩
  | .hbm, ⟨69, _⟩ => ⟨S2x4096x1, .f32⟩
  | .hbm, ⟨70, _⟩ => ⟨S_, .f32⟩
  | .hbm, ⟨71, _⟩ => ⟨S2x4096x1, .f32⟩
  | .hbm, ⟨72, _⟩ => ⟨S2x4096x1, .f32⟩
  | .hbm, ⟨73, _⟩ => ⟨S_, .f32⟩
  | .hbm, ⟨74, _⟩ => ⟨S2x4096x1, .f32⟩
  | .hbm, ⟨75, _⟩ => ⟨S2x4096x1, .f32⟩
  | .hbm, ⟨76, _⟩ => ⟨S2x4096x1, .f32⟩
  | .hbm, ⟨77, _⟩ => ⟨S2x4096x2048, .f32⟩
  | .hbm, ⟨78, _⟩ => ⟨S2x4096x2048, .f32⟩
  | .hbm, ⟨79, _⟩ => ⟨S1x1x2048, .f32⟩
  | .hbm, ⟨80, _⟩ => ⟨S2x4096x2048, .f32⟩
  | .hbm, ⟨81, _⟩ => ⟨S2x4096x2048, .f32⟩
  | .hbm, ⟨82, _⟩ => ⟨S8192x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Half.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S4x2048x11264 : Shape := ⟨3, ![4, 2048, 11264]⟩
abbrev S4x5632x2048 : Shape := ⟨3, ![4, 5632, 2048]⟩
abbrev S2048 : Shape := ⟨1, ![2048]⟩
abbrev S12x1x2048 : Shape := ⟨3, ![12, 1, 2048]⟩
abbrev S1x2048 : Shape := ⟨2, ![1, 2048]⟩
abbrev S512x2048 : Shape := ⟨2, ![512, 2048]⟩
abbrev S1x1x9x2048 : Shape := ⟨4, ![1, 1, 9, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x1x1x2048 : Shape := ⟨4, ![1, 1, 1, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S12x1x2048, .f32⟩
  | .hbm, ⟨7, _⟩ => ⟨S4x2048x11264, .bf16⟩
  | .hbm, ⟨8, _⟩ => ⟨S1x2048, .f32⟩
  | .hbm, ⟨9, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x1x9x2048, .f32⟩
  | .local _ .vmem, ⟨3, _⟩ => ⟨S1x1x9x2048, .f32⟩
  | .local _ .vmem, ⟨4, _⟩ => ⟨S1x1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .f32⟩
  | .local _ .vmem, ⟨10, _⟩ => ⟨S1x512x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== HalfRefIdeal.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2x9x2048 : Shape := ⟨4, ![1, 2, 9, 2048]⟩
abbrev S2x9x2048 : Shape := ⟨3, ![2, 9, 2048]⟩
abbrev S2x1x9x2048 : Shape := ⟨4, ![2, 1, 9, 2048]⟩
abbrev S2x4096x9x2048 : Shape := ⟨4, ![2, 4096, 9, 2048]⟩
abbrev S1x1x9x2048 : Shape := ⟨4, ![1, 1, 9, 2048]⟩
abbrev S9x2048 : Shape := ⟨2, ![9, 2048]⟩
abbrev S512x9x2048 : Shape := ⟨3, ![512, 9, 2048]⟩
abbrev S8192x9x2048 : Shape := ⟨3, ![8192, 9, 2048]⟩
abbrev S8704x9x2048 : Shape := ⟨3, ![8704, 9, 2048]⟩
abbrev S8704x3x3x2048 : Shape := ⟨4, ![8704, 3, 3, 2048]⟩
abbrev S8704x1x1x2048 : Shape := ⟨4, ![8704, 1, 1, 2048]⟩
abbrev S_ : Shape := ⟨0, ![]⟩
abbrev S1x1x2048 : Shape := ⟨3, ![1, 1, 2048]⟩
abbrev S8704 : Shape := ⟨1, ![8704]⟩
abbrev S8704x1 : Shape := ⟨2, ![8704, 1]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8704x11264 : Shape := ⟨2, ![8704, 11264]⟩
abbrev S8704x5632 : Shape := ⟨2, ![8704, 5632]⟩

abbrev nBuf : Space → Nat
  | .hbm => 68
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S1x2x9x2048, .f32⟩
  | .hbm, ⟨7, _⟩ => ⟨S2x9x2048, .f32⟩
  | .hbm, ⟨8, _⟩ => ⟨S2x1x9x2048, .f32⟩
  | .hbm, ⟨9, _⟩ => ⟨S2x4096x9x2048, .f32⟩
  | .hbm, ⟨10, _⟩ => ⟨S1x1x9x2048, .f32⟩
  | .hbm, ⟨11, _⟩ => ⟨S9x2048, .f32⟩
  | .hbm, ⟨12, _⟩ => ⟨S512x9x2048, .f32⟩
  | .hbm, ⟨13, _⟩ => ⟨S8192x9x2048, .f32⟩
  | .hbm, ⟨14, _⟩ => ⟨S8704x9x2048, .f32⟩
  | .hbm, ⟨15, _⟩ => ⟨S8704x3x3x2048, .f32⟩
  | .hbm, ⟨16, _⟩ => ⟨S8704x1x1x2048, .f32⟩
  | .hbm, ⟨17, _⟩ => ⟨S8704x2048, .f32⟩
  | .hbm, ⟨18, _⟩ => ⟨S_, .f32⟩
  | .hbm, ⟨19, _⟩ => ⟨S8704x2048, .f32⟩
  | .hbm, ⟨20, _⟩ => ⟨S8704x2048, .f32⟩
  | .hbm, ⟨21, _⟩ => ⟨S1x1x2048, .f32⟩
  | .hbm, ⟨22, _⟩ => ⟨S2048, .f32⟩
  | .hbm, ⟨23, _⟩ => ⟨S8704x1x1x2048, .f32⟩
  | .hbm, ⟨24, _⟩ => ⟨S8704x2048, .f32⟩
  | .hbm, ⟨25, _⟩ => ⟨S8704x1x1x2048, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704, .f32⟩
  | .hbm, ⟨30, _⟩ => ⟨S8704x1, .f32⟩
  | .hbm, ⟨31, _⟩ => ⟨S_, .f32⟩
  | .hbm, ⟨32, _⟩ => ⟨S8704x1, .f32⟩
  | .hbm, ⟨33, _⟩ => ⟨S8704x1, .f32⟩
  | .hbm, ⟨34, _⟩ => ⟨S_, .f32⟩
  | .hbm, ⟨35, _⟩ => ⟨S8704x1, .f32⟩
  | .hbm, ⟨36, _⟩ => ⟨S8704x1, .f32⟩
  | .hbm, ⟨37, _⟩ => ⟨S8704x1, .f32⟩
  | .hbm, ⟨38, _⟩ => ⟨S8704x2048, .f32⟩
  | .hbm, ⟨39, _⟩ => ⟨S8704x2048, .f32⟩
  | .hbm, ⟨40, _⟩ => ⟨S1x2048, .f32⟩
  | .hbm, ⟨41, _⟩ => ⟨S8704x2048, .f32⟩
  | .hbm, ⟨42, _⟩ => ⟨S8704x2048, .f32⟩
  | .hbm, ⟨43, _⟩ => ⟨S_, .f32⟩
  | .hbm, ⟨44, _⟩ => ⟨S8704x2048, .f32⟩
  | .hbm, ⟨45, _⟩ => ⟨S8704x2048, .f32⟩
  | .hbm, ⟨46, _⟩ => ⟨S8704x2048, .f32⟩
  | .hbm, ⟨47, _⟩ => ⟨S8704x2048, .f32⟩
  | .hbm, ⟨48, _⟩ => ⟨S1x2048x11264, .f32⟩
  | .hbm, ⟨49, _⟩ => ⟨S2048x11264, .f32⟩
  | .hbm, ⟨50, _⟩ => ⟨S1x5632x2048, .f32⟩
  | .hbm, ⟨51, _⟩ => ⟨S5632x2048, .f32⟩
  | .hbm, ⟨52, _⟩ => ⟨S8704x11264, .f32⟩
  | .hbm, ⟨53, _⟩ => ⟨S8704x5632, .f32⟩
  | .hbm, ⟨54, _⟩ => ⟨S8704x5632, .f32⟩
  | .hbm, ⟨55, _⟩ => ⟨S8704x5632, .f32⟩
  | .hbm, ⟨56, _⟩ => ⟨S8704x5632, .f32⟩
  | .hbm, ⟨57, _⟩ => ⟨S_, .f32⟩
  | .hbm, ⟨58, _⟩ => ⟨S8704x5632, .f32⟩
  | .hbm, ⟨59, _⟩ => ⟨S8704x5632, .f32⟩
  | .hbm, ⟨60, _⟩ => ⟨S_, .f32⟩
  | .hbm, ⟨61, _⟩ => ⟨S8704x5632, .f32⟩
  | .hbm, ⟨62, _⟩ => ⟨S8704x5632, .f32⟩
  | .hbm, ⟨63, _⟩ => ⟨S8704x5632, .f32⟩
  | .hbm, ⟨64, _⟩ => ⟨S8704x5632, .f32⟩
  | .hbm, ⟨65, _⟩ => ⟨S8704x2048, .f32⟩
  | .hbm, ⟨66, _⟩ => ⟨S8704x2048, .f32⟩
  | .hbm, ⟨67, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proj.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S2x2048x10240 : Shape := ⟨3, ![2, 2048, 10240]⟩
abbrev S12x1x2048 : Shape := ⟨3, ![12, 1, 2048]⟩
abbrev S8704x10240 : Shape := ⟨2, ![8704, 10240]⟩
abbrev S512x2048 : Shape := ⟨2, ![512, 2048]⟩
abbrev S1x1x9x2048 : Shape := ⟨4, ![1, 1, 9, 2048]⟩
abbrev S1x1x2048 : Shape := ⟨3, ![1, 1, 2048]⟩
abbrev S1x2048x2048 : Shape := ⟨3, ![1, 2048, 2048]⟩
abbrev S1x2048 : Shape := ⟨2, ![1, 2048]⟩
abbrev S1x1x1x2048 : Shape := ⟨4, ![1, 1, 1, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S2x2048x10240, .f32⟩
  | .hbm, ⟨4, _⟩ => ⟨S12x1x2048, .f32⟩
  | .hbm, ⟨5, _⟩ => ⟨S2x2048x10240, .bf16⟩
  | .hbm, ⟨6, _⟩ => ⟨S8704x10240, .f32⟩
  | .local _ .vmem, ⟨0, _⟩ => ⟨S512x2048, .f32⟩
  | .local _ .vmem, ⟨1, _⟩ => ⟨S512x2048, .f32⟩
  | .local _ .vmem, ⟨2, _⟩ => ⟨S1x1x9x2048, .f32⟩
  | .local _ .vmem, ⟨3, _⟩ => ⟨S1x1x9x2048, .f32⟩
  | .local _ .vmem, ⟨4, _⟩ => ⟨S1x1x2048, .f32⟩
  | .local _ .vmem, ⟨5, _⟩ => ⟨S1x2048x2048, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S2x2048x10240 : Shape := ⟨3, ![2, 2048, 10240]⟩
abbrev S1x2x9x2048 : Shape := ⟨4, ![1, 2, 9, 2048]⟩
abbrev S2x9x2048 : Shape := ⟨3, ![2, 9, 2048]⟩
abbrev S2x1x9x2048 : Shape := ⟨4, ![2, 1, 9, 2048]⟩
abbrev S2x4096x9x2048 : Shape := ⟨4, ![2, 4096, 9, 2048]⟩
abbrev S1x1x9x2048 : Shape := ⟨4, ![1, 1, 9, 2048]⟩
abbrev S9x2048 : Shape := ⟨2, ![9, 2048]⟩
abbrev S512x9x2048 : Shape := ⟨3, ![512, 9, 2048]⟩
abbrev S8192x9x2048 : Shape := ⟨3, ![8192, 9, 2048]⟩
abbrev S8704x9x2048 : Shape := ⟨3, ![8704, 9, 2048]⟩
abbrev S8704x3x3x2048 : Shape := ⟨4, ![8704, 3, 3, 2048]⟩
abbrev S1x1x2048 : Shape := ⟨3, ![1, 1, 2048]⟩
abbrev S2048 : Shape := ⟨1, ![2048]⟩
abbrev S8704x1x1x2048 : Shape := ⟨4, ![8704, 1, 1, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S1x2048x10240 : Shape := ⟨3, ![1, 2048, 10240]⟩
abbrev S2048x10240 : Shape := ⟨2, ![2048, 10240]⟩
abbrev S8704x10240 : Shape := ⟨2, ![8704, 10240]⟩

abbrev nBuf : Space → Nat
  | .hbm => 44
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S2x2048x10240, .f32⟩
  | .hbm, ⟨4, _⟩ => ⟨S1x2x9x2048, .f32⟩
  | .hbm, ⟨5, _⟩ => ⟨S2x9x2048, .f32⟩
  | .hbm, ⟨6, _⟩ => ⟨S2x1x9x2048, .f32⟩
  | .hbm, ⟨7, _⟩ => ⟨S2x4096x9x2048, .f32⟩
  | .hbm, ⟨8, _⟩ => ⟨S1x1x9x2048, .f32⟩
  | .hbm, ⟨9, _⟩ => ⟨S9x2048, .f32⟩
  | .hbm, ⟨10, _⟩ => ⟨S512x9x2048, .f32⟩
  | .hbm, ⟨11, _⟩ => ⟨S8192x9x2048, .f32⟩
  | .hbm, ⟨12, _⟩ => ⟨S8704x9x2048, .f32⟩
  | .hbm, ⟨13, _⟩ => ⟨S8704x3x3x2048, .f32⟩
  | .hbm, ⟨14, _⟩ => ⟨S1x1x2048, .f32⟩
  | .hbm, ⟨15, _⟩ => ⟨S2048, .f32⟩
  | .hbm, ⟨16, _⟩ => ⟨S8704x1x1x2048, .f32⟩
  | .hbm, ⟨17, _⟩ => ⟨S8704x2048, .f32⟩
  | .hbm, ⟨18, _⟩ => ⟨S8704x1x1x2048, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S_, .f32⟩
  | .hbm, ⟨28, _⟩ => ⟨S8704x1, .f32⟩
  | .hbm, ⟨29, _⟩ => ⟨S8704x1, .f32⟩
  | .hbm, ⟨30, _⟩ => ⟨S8704x1, .f32⟩
  | .hbm, ⟨31, _⟩ => ⟨S8704x2048, .f32⟩
  | .hbm, ⟨32, _⟩ => ⟨S8704x2048, .f32⟩
  | .hbm, ⟨33, _⟩ => ⟨S1x2048, .f32⟩
  | .hbm, ⟨34, _⟩ => ⟨S8704x2048, .f32⟩
  | .hbm, ⟨35, _⟩ => ⟨S8704x2048, .f32⟩
  | .hbm, ⟨36, _⟩ => ⟨S_, .f32⟩
  | .hbm, ⟨37, _⟩ => ⟨S8704x2048, .f32⟩
  | .hbm, ⟨38, _⟩ => ⟨S8704x2048, .f32⟩
  | .hbm, ⟨39, _⟩ => ⟨S8704x2048, .f32⟩
  | .hbm, ⟨40, _⟩ => ⟨S8704x2048, .f32⟩
  | .hbm, ⟨41, _⟩ => ⟨S1x2048x10240, .f32⟩
  | .hbm, ⟨42, _⟩ => ⟨S2048x10240, .f32⟩
  | .hbm, ⟨43, _⟩ => ⟨S8704x10240, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Out.lean ====
abbrev S2x4096x2048 : Shape := ⟨3, ![2, 4096, 2048]⟩
abbrev S2x256x2048 : Shape := ⟨3, ![2, 256, 2048]⟩
abbrev S1x2048x2048 : Shape := ⟨3, ![1, 2048, 2048]⟩
abbrev S8704x2048 : Shape := ⟨2, ![8704, 2048]⟩
abbrev S4x8x9x2048 : Shape := ⟨4, ![4, 8, 9, 2048]⟩
abbrev S2048x2048 : Shape := ⟨2, ![2048, 2048]⟩
abbrev S1x256x2048 : Shape := ⟨3, ![1, 256, 2048]⟩
abbrev S256x2048 : Shape := ⟨2, ![256, 2048]⟩
abbrev S1x1x9x2048 : Shape := ⟨4, ![1, 1, 9, 2048]⟩
abbrev S1x1x1x2048 : Shape := ⟨4, ![1, 1, 1, 2048]⟩
abbrev S1x2048 : Shape := ⟨2, ![1, 2048]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x2048, .bf16⟩
  | .hbm, ⟨1, _⟩ => ⟨S2x256x2048, .bf16⟩
  | .hbm, ⟨2, _⟩ => ⟨S1x2048x2048, .f32⟩
  | .hbm, ⟨3, _⟩ => ⟨S8704x2048, .f32⟩
  | .hbm, ⟨4, _⟩ => ⟨S4x8x9x2048, .f32⟩
  | .hbm, ⟨5, _⟩ => ⟨S2048x2048, .f32⟩
  | .hbm, ⟨6, _⟩ => ⟨S2048x2048, .bf16⟩
  | .hbm, ⟨7, _⟩ => ⟨S8704x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x9x2048, .f32⟩
  | .local _ .vmem, ⟨8, _⟩ => ⟨S1x1x9x2048, .f32⟩
  | .local _ .vmem, ⟨9, _⟩ => ⟨S256x2048, .f32⟩
  | .local _ .vmem, ⟨10, _⟩ => ⟨S256x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x9x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S2x4096x2048 : Shape := ⟨3, ![2, 4096, 2048]⟩
abbrev S2x256x2048 : Shape := ⟨3, ![2, 256, 2048]⟩
abbrev S1x2048x2048 : Shape := ⟨3, ![1, 2048, 2048]⟩
abbrev S8704x2048 : Shape := ⟨2, ![8704, 2048]⟩
abbrev S4x8x9x2048 : Shape := ⟨4, ![4, 8, 9, 2048]⟩
abbrev S1x2x9x2048 : Shape := ⟨4, ![1, 2, 9, 2048]⟩
abbrev S2x9x2048 : Shape := ⟨3, ![2, 9, 2048]⟩
abbrev S2x1x3x3x2048 : Shape := ⟨5, ![2, 1, 3, 3, 2048]⟩
abbrev S1x1x9x2048 : Shape := ⟨4, ![1, 1, 9, 2048]⟩
abbrev S9x2048 : Shape := ⟨2, ![9, 2048]⟩
abbrev S1x1x3x3x2048 : Shape := ⟨5, ![1, 1, 3, 3, 2048]⟩
abbrev S8192x2048 : Shape := ⟨2, ![8192, 2048]⟩
abbrev S2x1x1x1x2048 : Shape := ⟨5, ![2, 1, 1, 1, 2048]⟩
abbrev S2x1x2048 : Shape := ⟨3, ![2, 1, 2048]⟩
abbrev S2048x2048 : Shape := ⟨2, ![2048, 2048]⟩
abbrev S512x2048 : Shape := ⟨2, ![512, 2048]⟩
abbrev S1x1x1x1x2048 : Shape := ⟨5, ![1, 1, 1, 1, 2048]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x256x2048, .bf16⟩
  | .hbm, ⟨2, _⟩ => ⟨S1x2048x2048, .f32⟩
  | .hbm, ⟨3, _⟩ => ⟨S8704x2048, .f32⟩
  | .hbm, ⟨4, _⟩ => ⟨S4x8x9x2048, .f32⟩
  | .hbm, ⟨5, _⟩ => ⟨S1x2x9x2048, .f32⟩
  | .hbm, ⟨6, _⟩ => ⟨S2x9x2048, .f32⟩
  | .hbm, ⟨7, _⟩ => ⟨S2x1x3x3x2048, .f32⟩
  | .hbm, ⟨8, _⟩ => ⟨S1x1x9x2048, .f32⟩
  | .hbm, ⟨9, _⟩ => ⟨S9x2048, .f32⟩
  | .hbm, ⟨10, _⟩ => ⟨S1x1x3x3x2048, .f32⟩
  | .hbm, ⟨11, _⟩ => ⟨S8192x2048, .f32⟩
  | .hbm, ⟨12, _⟩ => ⟨S2x4096x2048, .f32⟩
  | .hbm, ⟨13, _⟩ => ⟨S2x1x1x1x2048, .f32⟩
  | .hbm, ⟨14, _⟩ => ⟨S2x1x2048, .f32⟩
  | .hbm, ⟨15, _⟩ => ⟨S2x4096x2048, .f32⟩
  | .hbm, ⟨16, _⟩ => ⟨S2048x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S512x2048, .f32⟩
  | .hbm, ⟨22, _⟩ => ⟨S2x256x2048, .f32⟩
  | .hbm, ⟨23, _⟩ => ⟨S1x1x1x1x2048, .f32⟩
  | .hbm, ⟨24, _⟩ => ⟨S1x1x2048, .f32⟩
  | .hbm, ⟨25, _⟩ => ⟨S2x256x2048, .f32⟩
  | .hbm, ⟨26, _⟩ => ⟨S2048x2048, .f32⟩
  | .hbm, ⟨27, _⟩ => ⟨S2x256x2048, .f32⟩
  | .hbm, ⟨28, _⟩ => ⟨S2x256x2048, .f32⟩
  | .hbm, ⟨29, _⟩ => ⟨S2x256x2048, .f32⟩
  | .hbm, ⟨30, _⟩ => ⟨S2x256x2048, .f32⟩
  | .hbm, ⟨31, _⟩ => ⟨S8192x2048, .f32⟩
  | .hbm, ⟨32, _⟩ => ⟨S512x2048, .f32⟩
  | .hbm, ⟨33, _⟩ => ⟨S8704x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Gate.lean ====
abbrev S8704x2048 : Shape := ⟨2, ![8704, 2048]⟩
abbrev S8704x10240 : Shape := ⟨2, ![8704, 10240]⟩
abbrev S2x2048 : Shape := ⟨2, ![2, 2048]⟩
abbrev S2x2048x2048 : Shape := ⟨3, ![2, 2048, 2048]⟩
abbrev S4x8x9x2048 : Shape := ⟨4, ![4, 8, 9, 2048]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S256x2048 : Shape := ⟨2, ![256, 2048]⟩
abbrev S1x1x9x2048 : Shape := ⟨4, ![1, 1, 9, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x1x1x2048 : Shape := ⟨4, ![1, 1, 1, 2048]⟩

abbrev nBuf : Space → Nat
  | .hbm => 14
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S8704x10240, .f32⟩
  | .hbm, ⟨3, _⟩ => ⟨S2x2048, .f32⟩
  | .hbm, ⟨4, _⟩ => ⟨S2x2048x2048, .f32⟩
  | .hbm, ⟨5, _⟩ => ⟨S8704x2048, .f32⟩
  | .hbm, ⟨6, _⟩ => ⟨S4x8x9x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | .local _ .vmem, ⟨10, _⟩ => ⟨S1x1x9x2048, .f32⟩
  | .local _ .vmem, ⟨11, _⟩ => ⟨S1x1x9x2048, .f32⟩
  | .local _ .vmem, ⟨12, _⟩ => ⟨S256x2048, .f32⟩
  | .local _ .vmem, ⟨13, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x9x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S8704x2048 : Shape := ⟨2, ![8704, 2048]⟩
abbrev S8704x10240 : Shape := ⟨2, ![8704, 10240]⟩
abbrev S2x2048 : Shape := ⟨2, ![2, 2048]⟩
abbrev S2x2048x2048 : Shape := ⟨3, ![2, 2048, 2048]⟩
abbrev S4x8x9x2048 : Shape := ⟨4, ![4, 8, 9, 2048]⟩
abbrev S1x2x9x2048 : Shape := ⟨4, ![1, 2, 9, 2048]⟩
abbrev S2x9x2048 : Shape := ⟨3, ![2, 9, 2048]⟩
abbrev S2x1x9x2048 : Shape := ⟨4, ![2, 1, 9, 2048]⟩
abbrev S2x4096x9x2048 : Shape := ⟨4, ![2, 4096, 9, 2048]⟩
abbrev S1x1x9x2048 : Shape := ⟨4, ![1, 1, 9, 2048]⟩
abbrev S9x2048 : Shape := ⟨2, ![9, 2048]⟩
abbrev S512x9x2048 : Shape := ⟨3, ![512, 9, 2048]⟩
abbrev S8192x9x2048 : Shape := ⟨3, ![8192, 9, 2048]⟩
abbrev S8704x9x2048 : Shape := ⟨3, ![8704, 9, 2048]⟩
abbrev S8704x3x3x2048 : Shape := ⟨4, ![8704, 3, 3, 2048]⟩
abbrev S8704x1x1x2048 : Shape := ⟨4, ![8704, 1, 1, 2048]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S8704x16x128 : Shape := ⟨3, ![8704, 16, 128]⟩
abbrev S16x128 : Shape := ⟨2, ![16, 128]⟩
abbrev S_ : Shape := ⟨0, ![]⟩
abbrev S8704x16 : Shape := ⟨2, ![8704, 16]⟩
abbrev S8704x16x1 : Shape := ⟨3, ![8704, 16, 1]⟩
abbrev S1x16x128 : Shape := ⟨3, ![1, 16, 128]⟩

abbrev nBuf : Space → Nat
  | .hbm => 57
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S8704x10240, .f32⟩
  | .hbm, ⟨3, _⟩ => ⟨S2x2048, .f32⟩
  | .hbm, ⟨4, _⟩ => ⟨S2x2048x2048, .f32⟩
  | .hbm, ⟨5, _⟩ => ⟨S8704x2048, .f32⟩
  | .hbm, ⟨6, _⟩ => ⟨S4x8x9x2048, .f32⟩
  | .hbm, ⟨7, _⟩ => ⟨S1x2x9x2048, .f32⟩
  | .hbm, ⟨8, _⟩ => ⟨S2x9x2048, .f32⟩
  | .hbm, ⟨9, _⟩ => ⟨S2x1x9x2048, .f32⟩
  | .hbm, ⟨10, _⟩ => ⟨S2x4096x9x2048, .f32⟩
  | .hbm, ⟨11, _⟩ => ⟨S1x1x9x2048, .f32⟩
  | .hbm, ⟨12, _⟩ => ⟨S9x2048, .f32⟩
  | .hbm, ⟨13, _⟩ => ⟨S512x9x2048, .f32⟩
  | .hbm, ⟨14, _⟩ => ⟨S8192x9x2048, .f32⟩
  | .hbm, ⟨15, _⟩ => ⟨S8704x9x2048, .f32⟩
  | .hbm, ⟨16, _⟩ => ⟨S8704x3x3x2048, .f32⟩
  | .hbm, ⟨17, _⟩ => ⟨S8704x1x1x2048, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S1x2048, .f32⟩
  | .hbm, ⟨22, _⟩ => ⟨S2048, .f32⟩
  | .hbm, ⟨23, _⟩ => ⟨S1x2048x2048, .f32⟩
  | .hbm, ⟨24, _⟩ => ⟨S2048x2048, .f32⟩
  | .hbm, ⟨25, _⟩ => ⟨S8704x16x128, .f32⟩
  | .hbm, ⟨26, _⟩ => ⟨S16x128, .f32⟩
  | .hbm, ⟨27, _⟩ => ⟨S8704x16x128, .f32⟩
  | .hbm, ⟨28, _⟩ => ⟨S_, .f32⟩
  | .hbm, ⟨29, _⟩ => ⟨S8704x16, .f32⟩
  | .hbm, ⟨30, _⟩ => ⟨S8704x16x1, .f32⟩
  | .hbm, ⟨31, _⟩ => ⟨S_, .f32⟩
  | .hbm, ⟨32, _⟩ => ⟨S8704x16x1, .f32⟩
  | .hbm, ⟨33, _⟩ => ⟨S8704x16x1, .f32⟩
  | .hbm, ⟨34, _⟩ => ⟨S_, .f32⟩
  | .hbm, ⟨35, _⟩ => ⟨S8704x16x1, .f32⟩
  | .hbm, ⟨36, _⟩ => ⟨S8704x16x1, .f32⟩
  | .hbm, ⟨37, _⟩ => ⟨S8704x16x1, .f32⟩
  | .hbm, ⟨38, _⟩ => ⟨S8704x16x128, .f32⟩
  | .hbm, ⟨39, _⟩ => ⟨S8704x16x128, .f32⟩
  | .hbm, ⟨40, _⟩ => ⟨S1x16x128, .f32⟩
  | .hbm, ⟨41, _⟩ => ⟨S8704x16x128, .f32⟩
  | .hbm, ⟨42, _⟩ => ⟨S8704x16x128, .f32⟩
  | .hbm, ⟨43, _⟩ => ⟨S8704x2048, .f32⟩
  | .hbm, ⟨44, _⟩ => ⟨S8704x2048, .f32⟩
  | .hbm, ⟨45, _⟩ => ⟨S8704x2048, .f32⟩
  | .hbm, ⟨46, _⟩ => ⟨S_, .f32⟩
  | .hbm, ⟨47, _⟩ => ⟨S8704x2048, .f32⟩
  | .hbm, ⟨48, _⟩ => ⟨S8704x2048, .f32⟩
  | .hbm, ⟨49, _⟩ => ⟨S_, .f32⟩
  | .hbm, ⟨50, _⟩ => ⟨S8704x2048, .f32⟩
  | .hbm, ⟨51, _⟩ => ⟨S8704x2048, .f32⟩
  | .hbm, ⟨52, _⟩ => ⟨S8704x2048, .f32⟩
  | .hbm, ⟨53, _⟩ => ⟨S8704x2048, .f32⟩
  | .hbm, ⟨54, _⟩ => ⟨S8704x2048, .f32⟩
  | .hbm, ⟨55, _⟩ => ⟨S8704x2048, .f32⟩
  | .hbm, ⟨56, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Last.lean ====
abbrev S8704x2048 : Shape := ⟨2, ![8704, 2048]⟩
abbrev S8704x10240 : Shape := ⟨2, ![8704, 10240]⟩
abbrev S2x2048 : Shape := ⟨2, ![2, 2048]⟩
abbrev S2x2048x2048 : Shape := ⟨3, ![2, 2048, 2048]⟩
abbrev S4x8x9x2048 : Shape := ⟨4, ![4, 8, 9, 2048]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S256x2048 : Shape := ⟨2, ![256, 2048]⟩
abbrev S1x1x9x2048 : Shape := ⟨4, ![1, 1, 9, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x1x1x2048 : Shape := ⟨4, ![1, 1, 1, 2048]⟩

abbrev nBuf : Space → Nat
  | .hbm => 14
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S8704x10240, .f32⟩
  | .hbm, ⟨3, _⟩ => ⟨S2x2048, .f32⟩
  | .hbm, ⟨4, _⟩ => ⟨S2x2048x2048, .f32⟩
  | .hbm, ⟨5, _⟩ => ⟨S8704x2048, .f32⟩
  | .hbm, ⟨6, _⟩ => ⟨S4x8x9x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | .local _ .vmem, ⟨10, _⟩ => ⟨S1x1x9x2048, .f32⟩
  | .local _ .vmem, ⟨11, _⟩ => ⟨S1x1x9x2048, .f32⟩
  | .local _ .vmem, ⟨12, _⟩ => ⟨S256x2048, .f32⟩
  | .local _ .vmem, ⟨13, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c3_i32 : BitVec 32 := 3#32
  let c0_i32_4 : BitVec 32 := 0#32
  let c0_i32_5 : BitVec 32 := 0#32
  let c0_i32_6 : BitVec 32 := 0#32
  ![c3_i32.toNat, v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x9x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LastRefIdeal.lean ====
abbrev S8704x2048 : Shape := ⟨2, ![8704, 2048]⟩
abbrev S8704x10240 : Shape := ⟨2, ![8704, 10240]⟩
abbrev S2x2048 : Shape := ⟨2, ![2, 2048]⟩
abbrev S2x2048x2048 : Shape := ⟨3, ![2, 2048, 2048]⟩
abbrev S4x8x9x2048 : Shape := ⟨4, ![4, 8, 9, 2048]⟩
abbrev S1x2x9x2048 : Shape := ⟨4, ![1, 2, 9, 2048]⟩
abbrev S2x9x2048 : Shape := ⟨3, ![2, 9, 2048]⟩
abbrev S2x1x3x3x2048 : Shape := ⟨5, ![2, 1, 3, 3, 2048]⟩
abbrev S2x4096x3x3x2048 : Shape := ⟨5, ![2, 4096, 3, 3, 2048]⟩
abbrev S8192x3x3x2048 : Shape := ⟨4, ![8192, 3, 3, 2048]⟩
abbrev S8192x2048 : Shape := ⟨2, ![8192, 2048]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S8192x16x128 : Shape := ⟨3, ![8192, 16, 128]⟩
abbrev S16x128 : Shape := ⟨2, ![16, 128]⟩
abbrev S_ : Shape := ⟨0, ![]⟩
abbrev S8192x16 : Shape := ⟨2, ![8192, 16]⟩
abbrev S8192x16x1 : Shape := ⟨3, ![8192, 16, 1]⟩
abbrev S1x16x128 : Shape := ⟨3, ![1, 16, 128]⟩
abbrev S8192x1x1x2048 : Shape := ⟨4, ![8192, 1, 1, 2048]⟩
abbrev S512x2048 : Shape := ⟨2, ![512, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S8704x10240, .f32⟩
  | .hbm, ⟨3, _⟩ => ⟨S2x2048, .f32⟩
  | .hbm, ⟨4, _⟩ => ⟨S2x2048x2048, .f32⟩
  | .hbm, ⟨5, _⟩ => ⟨S8704x2048, .f32⟩
  | .hbm, ⟨6, _⟩ => ⟨S4x8x9x2048, .f32⟩
  | .hbm, ⟨7, _⟩ => ⟨S1x2x9x2048, .f32⟩
  | .hbm, ⟨8, _⟩ => ⟨S2x9x2048, .f32⟩
  | .hbm, ⟨9, _⟩ => ⟨S2x1x3x3x2048, .f32⟩
  | .hbm, ⟨10, _⟩ => ⟨S2x4096x3x3x2048, .f32⟩
  | .hbm, ⟨11, _⟩ => ⟨S8192x3x3x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048x2048, .f32⟩
  | .hbm, ⟨19, _⟩ => ⟨S2048x2048, .f32⟩
  | .hbm, ⟨20, _⟩ => ⟨S8192x16x128, .f32⟩
  | .hbm, ⟨21, _⟩ => ⟨S16x128, .f32⟩
  | .hbm, ⟨22, _⟩ => ⟨S8192x16x128, .f32⟩
  | .hbm, ⟨23, _⟩ => ⟨S_, .f32⟩
  | .hbm, ⟨24, _⟩ => ⟨S8192x16, .f32⟩
  | .hbm, ⟨25, _⟩ => ⟨S8192x16x1, .f32⟩
  | .hbm, ⟨26, _⟩ => ⟨S_, .f32⟩
  | .hbm, ⟨27, _⟩ => ⟨S8192x16x1, .f32⟩
  | .hbm, ⟨28, _⟩ => ⟨S8192x16x1, .f32⟩
  | .hbm, ⟨29, _⟩ => ⟨S_, .f32⟩
  | .hbm, ⟨30, _⟩ => ⟨S8192x16x1, .f32⟩
  | .hbm, ⟨31, _⟩ => ⟨S8192x16x1, .f32⟩
  | .hbm, ⟨32, _⟩ => ⟨S8192x16x1, .f32⟩
  | .hbm, ⟨33, _⟩ => ⟨S8192x16x128, .f32⟩
  | .hbm, ⟨34, _⟩ => ⟨S8192x16x128, .f32⟩
  | .hbm, ⟨35, _⟩ => ⟨S1x16x128, .f32⟩
  | .hbm, ⟨36, _⟩ => ⟨S8192x16x128, .f32⟩
  | .hbm, ⟨37, _⟩ => ⟨S8192x16x128, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x1x1x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S512x2048, .f32⟩
  | .hbm, ⟨56, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Qkv.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S1x2048x1088 : Shape := ⟨3, ![1, 2048, 1088]⟩
abbrev S1x512 : Shape := ⟨2, ![1, 512]⟩
abbrev S1x512x3072 : Shape := ⟨3, ![1, 512, 3072]⟩
abbrev S1x512x4096 : Shape := ⟨3, ![1, 512, 4096]⟩
abbrev S4096x2x16 : Shape := ⟨3, ![4096, 2, 16]⟩
abbrev S2048x1088 : Shape := ⟨2, ![2048, 1088]⟩
abbrev S512x3072 : Shape := ⟨2, ![512, 3072]⟩
abbrev S512x4096 : Shape := ⟨2, ![512, 4096]⟩
abbrev S_ : Shape := ⟨0, ![]⟩
abbrev S2048x64 : Shape := ⟨2, ![2048, 64]⟩
abbrev S2048x1024 : Shape := ⟨2, ![2048, 1024]⟩
abbrev S64 : Shape := ⟨1, ![64]⟩
abbrev S64x1 : Shape := ⟨2, ![64, 1]⟩
abbrev S2048x1280 : Shape := ⟨2, ![2048, 1280]⟩
abbrev S512x16x192 : Shape := ⟨3, ![512, 16, 192]⟩
abbrev S512x16x64 : Shape := ⟨3, ![512, 16, 64]⟩
abbrev S512x16x128 : Shape := ⟨3, ![512, 16, 128]⟩
abbrev S512x2048 : Shape := ⟨2, ![512, 2048]⟩
abbrev S512x6144 : Shape := ⟨2, ![512, 6144]⟩
abbrev S512x16x256 : Shape := ⟨3, ![512, 16, 256]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S4096x128 : Shape := ⟨2, ![4096, 128]⟩
abbrev S256x64 : Shape := ⟨2, ![256, 64]⟩
abbrev S256x128 : Shape := ⟨2, ![256, 128]⟩
abbrev S4352x128 : Shape := ⟨2, ![4352, 128]⟩
abbrev S12x1x2048 : Shape := ⟨3, ![12, 1, 2048]⟩
abbrev S2x16x4352x256 : Shape := ⟨4, ![2, 16, 4352, 256]⟩
abbrev S256x2048 : Shape := ⟨2, ![256, 2048]⟩
abbrev S1x1x9x2048 : Shape := ⟨4, ![1, 1, 9, 2048]⟩
abbrev S1x1x2048 : Shape := ⟨3, ![1, 1, 2048]⟩
abbrev S1x16x256x256 : Shape := ⟨4, ![1, 16, 256, 256]⟩
abbrev S1x2048 : Shape := ⟨2, ![1, 2048]⟩
abbrev S1x1x1x2048 : Shape := ⟨4, ![1, 1, 1, 2048]⟩
abbrev S256 : Shape := ⟨1, ![256]⟩
abbrev S256x1 : Shape := ⟨2, ![256, 1]⟩
abbrev S256x1280 : Shape := ⟨2, ![256, 1280]⟩
abbrev S256x512 : Shape := ⟨2, ![256, 512]⟩
abbrev S256x6144 : Shape := ⟨2, ![256, 6144]⟩
abbrev S256x4096 : Shape := ⟨2, ![256, 4096]⟩
abbrev S1x1x256x128 : Shape := ⟨4, ![1, 1, 256, 128]⟩

abbrev nBuf : Space → Nat
  | .hbm => 89
  | .vmem => 20
  | .smem => 0
  | _ => 0

abbrev bufTy : (tb : Table) → Fin (tcTables nBuf tb) → BufTy
  | .hbm, ⟨0, _⟩ => ⟨S8704x2048, .f32⟩
  | .hbm, ⟨1, _⟩ => ⟨S4x8x9x2048, .f32⟩
  | .hbm, ⟨2, _⟩ => ⟨S4x3x2048, .f32⟩
  | .hbm, ⟨3, _⟩ => ⟨S1x2048x1088, .f32⟩
  | .hbm, ⟨4, _⟩ => ⟨S1x512, .f32⟩
  | .hbm, ⟨5, _⟩ => ⟨S1x512, .f32⟩
  | .hbm, ⟨6, _⟩ => ⟨S1x512x3072, .f32⟩
  | .hbm, ⟨7, _⟩ => ⟨S1x512x4096, .f32⟩
  | .hbm, ⟨8, _⟩ => ⟨S4096x2x16, .f32⟩
  | .hbm, ⟨9, _⟩ => ⟨S4096x2x16, .f32⟩
  | .hbm, ⟨10, _⟩ => ⟨S2048x1088, .f32⟩
  | .hbm, ⟨11, _⟩ => ⟨S512x3072, .f32⟩
  | .hbm, ⟨12, _⟩ => ⟨S512x4096, .f32⟩
  | .hbm, ⟨13, _⟩ => ⟨S_, .f32⟩
  | .hbm, ⟨14, _⟩ => ⟨S2048x64, .f32⟩
  | .hbm, ⟨15, _⟩ => ⟨S2048x64, .f32⟩
  | .hbm, ⟨16, _⟩ => ⟨S2048x1024, .f32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S2048x64, .f32⟩
  | .hbm, ⟨30, _⟩ => ⟨S2048x1280, .f32⟩
  | .hbm, ⟨31, _⟩ => ⟨S512x16x192, .f32⟩
  | .hbm, ⟨32, _⟩ => ⟨S512x16x64, .f32⟩
  | .hbm, ⟨33, _⟩ => ⟨S_, .f32⟩
  | .hbm, ⟨34, _⟩ => ⟨S512x16x64, .f32⟩
  | .hbm, ⟨35, _⟩ => ⟨S512x16x128, .f32⟩
  | .hbm, ⟨36, _⟩ => ⟨S512x2048, .f32⟩
  | .hbm, ⟨37, _⟩ => ⟨S512x16x128, .f32⟩
  | .hbm, ⟨38, _⟩ => ⟨S512x2048, .f32⟩
  | .hbm, ⟨39, _⟩ => ⟨S64, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S512x16x64, .f32⟩
  | .hbm, ⟨52, _⟩ => ⟨S512x16x128, .f32⟩
  | .hbm, ⟨53, _⟩ => ⟨S512x2048, .f32⟩
  | .hbm, ⟨54, _⟩ => ⟨S512x6144, .f32⟩
  | .hbm, ⟨55, _⟩ => ⟨S512x16x256, .f32⟩
  | .hbm, ⟨56, _⟩ => ⟨S512x16x128, .f32⟩
  | .hbm, ⟨57, _⟩ => ⟨S512x2048, .f32⟩
  | .hbm, ⟨58, _⟩ => ⟨S512x16x128, .f32⟩
  | .hbm, ⟨59, _⟩ => ⟨S512x2048, .f32⟩
  | .hbm, ⟨60, _⟩ => ⟨S512x4096, .f32⟩
  | .hbm, ⟨61, _⟩ => ⟨S2048x1280, .bf16⟩
  | .hbm, ⟨62, _⟩ => ⟨S512x6144, .bf16⟩
  | .hbm, ⟨63, _⟩ => ⟨S512x4096, .bf16⟩
  | .hbm, ⟨64, _⟩ => ⟨S4096x2x1x16, .f32⟩
  | .hbm, ⟨65, _⟩ => ⟨S4096x2x2x16, .f32⟩
  | .hbm, ⟨66, _⟩ => ⟨S4096x64, .f32⟩
  | .hbm, ⟨67, _⟩ => ⟨S4096x2x16, .f32⟩
  | .hbm, ⟨68, _⟩ => ⟨S4096x2x1x16, .f32⟩
  | .hbm, ⟨69, _⟩ => ⟨S4096x2x1x16, .f32⟩
  | .hbm, ⟨70, _⟩ => ⟨S4096x2x2x16, .f32⟩
  | .hbm, ⟨71, _⟩ => ⟨S4096x64, .f32⟩
  | .hbm, ⟨72, _⟩ => ⟨S_, .f32⟩
  | .hbm, ⟨73, _⟩ => ⟨S4096x64, .f32⟩
  | .hbm, ⟨74, _⟩ => ⟨S4096x128, .f32⟩
  | .hbm, ⟨75, _⟩ => ⟨S4096x128, .f32⟩
  | .hbm, ⟨76, _⟩ => ⟨S_, .f32⟩
  | .hbm, ⟨77, _⟩ => ⟨S256x64, .f32⟩
  | .hbm, ⟨78, _⟩ => ⟨S_, .f32⟩
  | .hbm, ⟨79, _⟩ => ⟨S256x64, .f32⟩
  | .hbm, ⟨80, _⟩ => ⟨S256x128, .f32⟩
  | .hbm, ⟨81, _⟩ => ⟨S4352x128, .f32⟩
  | .hbm, ⟨82, _⟩ => ⟨S_, .f32⟩
  | .hbm, ⟨83, _⟩ => ⟨S256x128, .f32⟩
  | .hbm, ⟨84, _⟩ => ⟨S4352x128, .f32⟩
  | .hbm, ⟨85, _⟩ => ⟨S12x1x2048, .f32⟩
  | .hbm, ⟨86, _⟩ => ⟨S2x16x4352x256, .bf16⟩
  | .hbm, ⟨87, _⟩ => ⟨S2x16x4352x256, .bf16⟩
  | .hbm, ⟨88, _⟩ => ⟨S2x16x4352x256, .bf16⟩
  | .local _ .vmem, ⟨0, _⟩ => ⟨S256x2048, .f32⟩
  | .local _ .vmem, ⟨1, _⟩ => ⟨S256x2048, .f32⟩
  | .local _ .vmem, ⟨2, _⟩ => ⟨S1x1x9x2048, .f32⟩
  | .local _ .vmem, ⟨3, _⟩ => ⟨S1x1x9x2048, .f32⟩
  | .local _ .vmem, ⟨4, _⟩ => ⟨S1x1x2048, .f32⟩
  | .local _ .vmem, ⟨5, _⟩ => ⟨S2048x1280, .bf16⟩
  | .local _ .vmem, ⟨6, _⟩ => ⟨S1x512, .f32⟩
  | .local _ .vmem, ⟨7, _⟩ => ⟨S1x512, .f32⟩
  | .local _ .vmem, ⟨8, _⟩ => ⟨S512x6144, .bf16⟩
  | .local _ .vmem, ⟨9, _⟩ => ⟨S512x4096, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x16x256x256, .bf16⟩
  | .local _ .vmem, ⟨15, _⟩ => ⟨S1x16x256x256, .bf16⟩
  | .local _ .vmem, ⟨16, _⟩ => ⟨S1x16x256x256, .bf16⟩
  | .local _ .vmem, ⟨17, _⟩ => ⟨S1x16x256x256, .bf16⟩
  | .local _ .vmem, ⟨18, _⟩ => ⟨S1x16x256x256, .bf16⟩
  | .local _ .vmem, ⟨19, _⟩ => ⟨S1x16x256x256, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_10 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.subi arg0 c32_i32_4
  let v19 : BitVec 32 := Scalar.select v0 v17 v18
  let c32_i32_5 : BitVec 32 := 32#32
  let v20 : BitVec 1 := Scalar.cmpi .slt arg0 c32_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c16_i32_12 : BitVec 32 := 16#32
  let v31 : BitVec 32 := Scalar.select v20 v30 c16_i32_12
  let c0_i32_13 : BitVec 32 := 0#32
  let c0_i32_14 : BitVec 32 := 0#32
  let c0_i32_15 : BitVec 32 := 0#32
  ![v19.toNat, c0_i32_13.toNat, v31.toNat, c0_i32_14.toNat]

def cc0_transform_11 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.subi arg0 c32_i32_4
  let v19 : BitVec 32 := Scalar.select v0 v17 v18
  let c32_i32_5 : BitVec 32 := 32#32
  let v20 : BitVec 1 := Scalar.cmpi .slt arg0 c32_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c16_i32_12 : BitVec 32 := 16#32
  let v31 : BitVec 32 := Scalar.select v20 v30 c16_i32_12
  let c0_i32_13 : BitVec 32 := 0#32
  let c0_i32_14 : BitVec 32 := 0#32
  let c0_i32_15 : BitVec 32 := 0#32
  ![v19.toNat, c0_i32_13.toNat, v31.toNat, c0_i32_14.toNat]

def cc0_transform_12 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.subi arg0 c32_i32_4
  let v19 : BitVec 32 := Scalar.select v0 v17 v18
  let c32_i32_5 : BitVec 32 := 32#32
  let v20 : BitVec 1 := Scalar.cmpi .slt arg0 c32_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c16_i32_12 : BitVec 32 := 16#32
  let v31 : BitVec 32 := Scalar.select v20 v30 c16_i32_12
  let c0_i32_13 : BitVec 32 := 0#32
  let c0_i32_14 : BitVec 32 := 0#32
  let c0_i32_15 : BitVec 32 := 0#32
  ![v19.toNat, c0_i32_13.toNat, v31.toNat, c0_i32_14.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S8704x2048 : Shape := ⟨2, ![8704, 2048]⟩
abbrev S4x8x9x2048 : Shape := ⟨4, ![4, 8, 9, 2048]⟩
abbrev S4x3x2048 : Shape := ⟨3, ![4, 3, 2048]⟩
abbrev S1x2048x1088 : Shape := ⟨3, ![1, 2048, 1088]⟩
abbrev S1x512 : Shape := ⟨2, ![1, 512]⟩
abbrev S1x512x3072 : Shape := ⟨3, ![1, 512, 3072]⟩
abbrev S1x512x4096 : Shape := ⟨3, ![1, 512, 4096]⟩
abbrev S4096x2x16 : Shape := ⟨3, ![4096, 2, 16]⟩
abbrev S1x2x9x2048 : Shape := ⟨4, ![1, 2, 9, 2048]⟩
abbrev S2x9x2048 : Shape := ⟨3, ![2, 9, 2048]⟩
abbrev S2x1x9x2048 : Shape := ⟨4, ![2, 1, 9, 2048]⟩
abbrev S2x4096x9x2048 : Shape := ⟨4, ![2, 4096, 9, 2048]⟩
abbrev S1x1x9x2048 : Shape := ⟨4, ![1, 1, 9, 2048]⟩
abbrev S9x2048 : Shape := ⟨2, ![9, 2048]⟩
abbrev S512x9x2048 : Shape := ⟨3, ![512, 9, 2048]⟩
abbrev S8192x9x2048 : Shape := ⟨3, ![8192, 9, 2048]⟩
abbrev S8704x9x2048 : Shape := ⟨3, ![8704, 9, 2048]⟩
abbrev S8704x3x3x2048 : Shape := ⟨4, ![8704, 3, 3, 2048]⟩
abbrev S1x1x2048 : Shape := ⟨3, ![1, 1, 2048]⟩
abbrev S2048 : Shape := ⟨1, ![2048]⟩
abbrev S8704x1x1x2048 : Shape := ⟨4, ![8704, 1, 1, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048x1088 : Shape := ⟨2, ![2048, 1088]⟩
abbrev S8704x1088 : Shape := ⟨2, ![8704, 1088]⟩
abbrev S8704x512 : Shape := ⟨2, ![8704, 512]⟩
abbrev S8704x64 : Shape := ⟨2, ![8704, 64]⟩
abbrev S512 : Shape := ⟨1, ![512]⟩
abbrev S512x3072 : Shape := ⟨2, ![512, 3072]⟩
abbrev S8704x3072 : Shape := ⟨2, ![8704, 3072]⟩
abbrev S8704x16x192 : Shape := ⟨3, ![8704, 16, 192]⟩
abbrev S512x4096 : Shape := ⟨2, ![512, 4096]⟩
abbrev S8704x4096 : Shape := ⟨2, ![8704, 4096]⟩
abbrev S8704x16x256 : Shape := ⟨3, ![8704, 16, 256]⟩
abbrev S8704x16x64 : Shape := ⟨3, ![8704, 16, 64]⟩
abbrev S8192x16x64 : Shape := ⟨3, ![8192, 16, 64]⟩
abbrev S2x4096x16x64 : Shape := ⟨4, ![2, 4096, 16, 64]⟩
abbrev S4096x1x2x16 : Shape := ⟨4, ![4096, 1, 2, 16]⟩
abbrev S2x4096x16x2x2x16 : Shape := ⟨6, ![2, 4096, 16, 2, 2, 16]⟩
abbrev S2x4096x16x2x1x16 : Shape := ⟨6, ![2, 4096, 16, 2, 1, 16]⟩
abbrev S2x4096x16x2x16 : Shape := ⟨5, ![2, 4096, 16, 2, 16]⟩
abbrev S1x4096x1x2x16 : Shape := ⟨5, ![1, 4096, 1, 2, 16]⟩
abbrev S512x16x64 : Shape := ⟨3, ![512, 16, 64]⟩
abbrev S2x256x16x64 : Shape := ⟨4, ![2, 256, 16, 64]⟩
abbrev S2x4352x16x64 : Shape := ⟨4, ![2, 4352, 16, 64]⟩
abbrev S8192x64 : Shape := ⟨2, ![8192, 64]⟩
abbrev S2x4096x64 : Shape := ⟨3, ![2, 4096, 64]⟩
abbrev S2x4096x2x2x16 : Shape := ⟨5, ![2, 4096, 2, 2, 16]⟩
abbrev S2x4096x2x1x16 : Shape := ⟨5, ![2, 4096, 2, 1, 16]⟩
abbrev S2x4096x2x16 : Shape := ⟨4, ![2, 4096, 2, 16]⟩
abbrev S1x4096x2x16 : Shape := ⟨4, ![1, 4096, 2, 16]⟩
abbrev S512x64 : Shape := ⟨2, ![512, 64]⟩
abbrev S2x256x64 : Shape := ⟨3, ![2, 256, 64]⟩
abbrev S2x4352x64 : Shape := ⟨3, ![2, 4352, 64]⟩
abbrev S2x4352x1x64 : Shape := ⟨4, ![2, 4352, 1, 64]⟩
abbrev S8704x16x128 : Shape := ⟨3, ![8704, 16, 128]⟩
abbrev S8192x16x128 : Shape := ⟨3, ![8192, 16, 128]⟩
abbrev S2x4096x16x128 : Shape := ⟨4, ![2, 4096, 16, 128]⟩
abbrev S512x16x128 : Shape := ⟨3, ![512, 16, 128]⟩
abbrev S2x256x16x128 : Shape := ⟨4, ![2, 256, 16, 128]⟩
abbrev S2x4352x16x128 : Shape := ⟨4, ![2, 4352, 16, 128]⟩
abbrev S2x4352x16x256 : Shape := ⟨4, ![2, 4352, 16, 256]⟩
abbrev S2x16x4352x256 : Shape := ⟨4, ![2, 16, 4352, 256]⟩
abbrev S2x4352x16x1 : Shape := ⟨4, ![2, 4352, 16, 1]⟩
abbrev S2x4352x16x127 : Shape := ⟨4, ![2, 4352, 16, 127]⟩

abbrev nBuf : Space → Nat
  | .hbm => 189
  | .vmem => 0
  | .smem => 0
  | _ => 0

abbrev hbmTy0_0 (i : Nat) : BufTy := match i % 128 with
  | 0 => ⟨S8704x2048, .f32⟩
  | 1 => ⟨S4x8x9x2048, .f32⟩
  | 2 => ⟨S4x3x2048, .f32⟩
  | 3 => ⟨S1x2048x1088, .f32⟩
  | 4 => ⟨S1x512, .f32⟩
  | 5 => ⟨S1x512, .f32⟩
  | 6 => ⟨S1x512x3072, .f32⟩
  | 7 => ⟨S1x512x4096, .f32⟩
  | 8 => ⟨S4096x2x16, .f32⟩
  | 9 => ⟨S4096x2x16, .f32⟩
  | 10 => ⟨S1x2x9x2048, .f32⟩
  | 11 => ⟨S2x9x2048, .f32⟩
  | 12 => ⟨S2x1x9x2048, .f32⟩
  | 13 => ⟨S2x4096x9x2048, .f32⟩
  | 14 => ⟨S1x1x9x2048, .f32⟩
  | 15 => ⟨S9x2048, .f32⟩
  | 16 => ⟨S512x9x2048, .f32⟩
  | 17 => ⟨S8192x9x2048, .f32⟩
  | 18 => ⟨S8704x9x2048, .f32⟩
  | 19 => ⟨S8704x3x3x2048, .f32⟩
  | 20 => ⟨S1x1x2048, .f32⟩
  | 21 => ⟨S2048, .f32⟩
  | 22 => ⟨S8704x1x1x2048, .f32⟩
  | 23 => ⟨S8704x2048, .f32⟩
  | 24 => ⟨S8704x1x1x2048, .f32⟩
  | 25 => ⟨S8704x2048, .f32⟩
  | 26 => ⟨S8704x2048, .f32⟩
  | 27 => ⟨S_, .f32⟩
  | 28 => ⟨S8704, .f32⟩
  | 29 => ⟨S8704x1, .f32⟩
  | 30 => ⟨S_, .f32⟩
  | 31 => ⟨S8704x1, .f32⟩
  | 32 => ⟨S8704x1, .f32⟩
  | 33 => ⟨S_, .f32⟩
  | 34 => ⟨S8704x1, .f32⟩
  | 35 => ⟨S8704x1, .f32⟩
  | 36 => ⟨S8704x1, .f32⟩
  | 37 => ⟨S8704x2048, .f32⟩
  | 38 => ⟨S8704x2048, .f32⟩
  | 39 => ⟨S1x2048, .f32⟩
  | 40 => ⟨S8704x2048, .f32⟩
  | 41 => ⟨S8704x2048, .f32⟩
  | 42 => ⟨S_, .f32⟩
  | 43 => ⟨S8704x2048, .f32⟩
  | 44 => ⟨S8704x2048, .f32⟩
  | 45 => ⟨S8704x2048, .f32⟩
  | 46 => ⟨S8704x2048, .f32⟩
  | 47 => ⟨S2048x1088, .f32⟩
  | 48 => ⟨S8704x1088, .f32⟩
  | 49 => ⟨S8704x512, .f32⟩
  | 50 => ⟨S8704x512, .f32⟩
  | 51 => ⟨S8704x64, .f32⟩
  | 52 => ⟨S512, .f32⟩
  | 53 => ⟨S8704x512, .f32⟩
  | 54 => ⟨S_, .f32⟩
  | 55 => ⟨S8704, .f32⟩
  | 56 => ⟨S8704x1, .f32⟩
  | 57 => ⟨S_, .f32⟩
  | 58 => ⟨S8704x1, .f32⟩
  | 59 => ⟨S8704x1, .f32⟩
  | 60 => ⟨S_, .f32⟩
  | 61 => ⟨S8704x1, .f32⟩
  | 62 => ⟨S8704x1, .f32⟩
  | 63 => ⟨S8704x1, .f32⟩
  | 64 => ⟨S8704x512, .f32⟩
  | 65 => ⟨S8704x512, .f32⟩
  | 66 => ⟨S1x512, .f32⟩
  | 67 => ⟨S8704x512, .f32⟩
  | 68 => ⟨S8704x512, .f32⟩
  | 69 => ⟨S512x3072, .f32⟩
  | 70 => ⟨S8704x3072, .f32⟩
  | 71 => ⟨S8704x16x192, .f32⟩
  | 72 => ⟨S512, .f32⟩
  | 73 => ⟨S8704x512, .f32⟩
  | 74 => ⟨S_, .f32⟩
  | 75 => ⟨S8704, .f32⟩
  | 76 => ⟨S8704x1, .f32⟩
  | 77 => ⟨S_, .f32⟩
  | 78 => ⟨S8704x1, .f32⟩
  | 79 => ⟨S8704x1, .f32⟩
  | 80 => ⟨S_, .f32⟩
  | 81 => ⟨S8704x1, .f32⟩
  | 82 => ⟨S8704x1, .f32⟩
  | 83 => ⟨S8704x1, .f32⟩
  | 84 => ⟨S8704x512, .f32⟩
  | 85 => ⟨S8704x512, .f32⟩
  | 86 => ⟨S1x512, .f32⟩
  | 87 => ⟨S8704x512, .f32⟩
  | 88 => ⟨S8704x512, .f32⟩
  | 89 => ⟨S512x4096, .f32⟩
  | 90 => ⟨S8704x4096, .f32⟩
  | 91 => ⟨S8704x16x256, .f32⟩
  | 92 => ⟨S8704x16x64, .f32⟩
  | 93 => ⟨S8192x16x64, .f32⟩
  | 94 => ⟨S2x4096x16x64, .f32⟩
  | 95 => ⟨S4096x1x2x16, .f32⟩
  | 96 => ⟨S4096x1x2x16, .f32⟩
  | 97 => ⟨S2x4096x16x2x2x16, .f32⟩
  | 98 => ⟨S2x4096x16x2x1x16, .f32⟩
  | 99 => ⟨S2x4096x16x2x16, .f32⟩
  | 100 => ⟨S2x4096x16x2x1x16, .f32⟩
  | 101 => ⟨S2x4096x16x2x16, .f32⟩
  | 102 => ⟨S1x4096x1x2x16, .f32⟩
  | 103 => ⟨S2x4096x16x2x16, .f32⟩
  | 104 => ⟨S2x4096x16x2x16, .f32⟩
  | 105 => ⟨S1x4096x1x2x16, .f32⟩
  | 106 => ⟨S2x4096x16x2x16, .f32⟩
  | 107 => ⟨S2x4096x16x2x16, .f32⟩
  | 108 => ⟨S2x4096x16x2x16, .f32⟩
  | 109 => ⟨S1x4096x1x2x16, .f32⟩
  | 110 => ⟨S2x4096x16x2x16, .f32⟩
  | 111 => ⟨S2x4096x16x2x16, .f32⟩
  | 112 => ⟨S1x4096x1x2x16, .f32⟩
  | 113 => ⟨S2x4096x16x2x16, .f32⟩
  | 114 => ⟨S2x4096x16x2x16, .f32⟩
  | 115 => ⟨S2x4096x16x2x16, .f32⟩
  | 116 => ⟨S2x4096x16x2x1x16, .f32⟩
  | 117 => ⟨S2x4096x16x2x1x16, .f32⟩
  | 118 => ⟨S2x4096x16x2x2x16, .f32⟩
  | 119 => ⟨S2x4096x16x64, .f32⟩
  | 120 => ⟨S8704x16x64, .f32⟩
  | 121 => ⟨S512x16x64, .f32⟩
  | 122 => ⟨S2x256x16x64, .f32⟩
  | 123 => ⟨S2x4352x16x64, .f32⟩
  | 124 => ⟨S8192x64, .f32⟩
  | 125 => ⟨S2x4096x64, .f32⟩
  | 126 => ⟨S2x4096x2x2x16, .f32⟩
  | 127 => ⟨S2x4096x2x1x16, .f32⟩
  | _ => ⟨S8704x2048, .f32⟩

abbrev hbmTy0_1 (i : Nat) : BufTy := match i % 128 with
  | 0 => ⟨S2x4096x2x16, .f32⟩
  | 1 => ⟨S2x4096x2x1x16, .f32⟩
  | 2 => ⟨S2x4096x2x16, .f32⟩
  | 3 => ⟨S1x4096x2x16, .f32⟩
  | 4 => ⟨S2x4096x2x16, .f32⟩
  | 5 => ⟨S2x4096x2x16, .f32⟩
  | 6 => ⟨S1x4096x2x16, .f32⟩
  | 7 => ⟨S2x4096x2x16, .f32⟩
  | 8 => ⟨S2x4096x2x16, .f32⟩
  | 9 => ⟨S2x4096x2x16, .f32⟩
  | 10 => ⟨S1x4096x2x16, .f32⟩
  | 11 => ⟨S2x4096x2x16, .f32⟩
  | 12 => ⟨S2x4096x2x16, .f32⟩
  | 13 => ⟨S1x4096x2x16, .f32⟩
  | 14 => ⟨S2x4096x2x16, .f32⟩
  | 15 => ⟨S2x4096x2x16, .f32⟩
  | 16 => ⟨S2x4096x2x16, .f32⟩
  | 17 => ⟨S2x4096x2x1x16, .f32⟩
  | 18 => ⟨S2x4096x2x1x16, .f32⟩
  | 19 => ⟨S2x4096x2x2x16, .f32⟩
  | 20 => ⟨S2x4096x64, .f32⟩
  | 21 => ⟨S512x64, .f32⟩
  | 22 => ⟨S2x256x64, .f32⟩
  | 23 => ⟨S2x4352x64, .f32⟩
  | 24 => ⟨S2x4352x1x64, .f32⟩
  | 25 => ⟨S2x4352x16x64, .f32⟩
  | 26 => ⟨S8704x16x128, .f32⟩
  | 27 => ⟨S8192x16x128, .f32⟩
  | 28 => ⟨S2x4096x16x128, .f32⟩
  | 29 => ⟨S512x16x128, .f32⟩
  | 30 => ⟨S2x256x16x128, .f32⟩
  | 31 => ⟨S2x4352x16x128, .f32⟩
  | 32 => ⟨S_, .f32⟩
  | 33 => ⟨S2x4352x16x64, .f32⟩
  | 34 => ⟨S2x4352x16x256, .f32⟩
  | 35 => ⟨S2x16x4352x256, .f32⟩
  | 36 => ⟨S2x16x4352x256, .bf16⟩
  | 37 => ⟨S8704x16x128, .f32⟩
  | 38 => ⟨S8192x16x128, .f32⟩
  | 39 => ⟨S2x4096x16x128, .f32⟩
  | 40 => ⟨S512x16x128, .f32⟩
  | 41 => ⟨S2x256x16x128, .f32⟩
  | 42 => ⟨S2x4352x16x128, .f32⟩
  | 43 => ⟨S_, .f32⟩
  | 44 => ⟨S2x4352x16x64, .f32⟩
  | 45 => ⟨S2x4352x16x256, .f32⟩
  | 46 => ⟨S2x16x4352x256, .f32⟩
  | 47 => ⟨S2x16x4352x256, .bf16⟩
  | 48 => ⟨S8704x16x128, .f32⟩
  | 49 => ⟨S8192x16x128, .f32⟩
  | 50 => ⟨S2x4096x16x128, .f32⟩
  | 51 => ⟨S512x16x128, .f32⟩
  | 52 => ⟨S2x256x16x128, .f32⟩
  | 53 => ⟨S2x4352x16x128, .f32⟩
  | 54 => ⟨S_, .f32⟩
  | 55 => ⟨S2x4352x16x1, .f32⟩
  | 56 => ⟨S_, .f32⟩
  | 57 => ⟨S2x4352x16x127, .f32⟩
  | 58 => ⟨S2x4352x16x256, .f32⟩
  | 59 => ⟨S2x16x4352x256, .f32⟩
  | 60 => ⟨S2x16x4352x256, .bf16⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_cst_9 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_10 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_cst_11 : Ref sig .tc := ⟨.hbm, 182, rfl⟩
abbrev main_v160 : Ref sig .tc := ⟨.hbm, 183, rfl⟩
abbrev main_cst_12 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩

abbrev nD : Nat := 1
abbrev τ : Topo := Topo.v7x

variable {F : FTy → Type} [FloatOps F]
-- ==== Proof.AttnBlock.lean ====
/- What one grid point of the attention kernel leaves in its output block. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The base-two score of query row `r` and key `x`: the scaled query times the key, over the 256 lanes. -/
def score (q : Vec Ideal S1x1x256x256 .f32) (k : Vec Ideal S1x1x4352x256 .bf16) (r : Fin 256) (x : Fin 4352) : EReal :=
  ∑ j : Fin 256, (q (ix4 0 0 r j) : EReal) * (((Real.sqrt 192)⁻¹ * (Real.log 2)⁻¹ : ℝ) : EReal) * (k (ix4 0 0 x j) : EReal)

/-- The weight of key `x` before normalisation. -/
def weight (q : Vec Ideal S1x1x256x256 .f32) (k : Vec Ideal S1x1x4352x256 .bf16) (r : Fin 256) (x : Fin 4352) : EReal :=
  Ideal.exp2 (score q k r x - Finset.fold max ⊥ (score q k r) Finset.univ)

/-- One chunk of 256 query rows: weighted values over the weighted column of lane 128. -/
theorem chunk_apply (q : Vec Ideal S1x1x256x256 .f32) (k v : Vec Ideal S1x1x4352x256 .bf16) (r : Fin 256) (d : Fin 128) :
    k0_pay2 (F := Ideal) q k v (ix3 0 r d)
      = Ideal.div (∑ x, weight q k r x * v (ix4 0 0 x ⟨d, by omega⟩)) (∑ x, weight q k r x * v (ix4 0 0 x 128)) := by
  have hn : Named.named (F := Ideal) κ "scale_log2e" (φ := .f32) 1037384597#32 = (((Real.sqrt 192)⁻¹ * (Real.log 2)⁻¹ : ℝ) : EReal) :=
    IdealRules.named_const.ideal_named_scalar _ _ _ _ rfl
  have hb : Ideal.ofBits .f32 4286578688#32 = (⊥ : EReal) := by simp [Ideal.ofBits, Ideal.ieee]
  pointwise [k0_pay2]
  simp only [hn, hb]
  rfl

theorem point (c : Dev nD) (t : Fin cfg0.N) (y : S1x4096x128.Idx) :
    outsAt0 m c t y = k0_pay2 (F := Ideal)
      (fun i => X0_0 m c t (ix4 0 0 ⟨(y 1 : ℕ) / 256 * 256 + i 2, by have := (y 1).isLt; have := (i 2).isLt; simp at *; omega⟩ (i 3)))
      (iblk m c 1 t) (iblk m c 2 t) (ix3 0 ⟨(y 1 : ℕ) % 256, by omega⟩ (y 2)) := by
  unfold outsAt0
  frame_out
  canon_tiles x h
  all_goals
    refine congrArg₂ (fun q j => k0_pay2 (F := Ideal) q (iblk m c 1 t) (iblk m c 2 t) j)
      (funext fun i => ?_) ?_
    · have b0 : (i 0 : ℕ) < 1 := (i 0).isLt
      have b1 : (i 1 : ℕ) < 1 := (i 1).isLt
      refine View.ld_unit_apply_of _ _ _ _ i _ fun a => ?_
      fin_cases a <;> simp <;> omega
    · blk_ext

end Cert.KernelIdeal.Attn

end
-- ==== Proof.AttnHost.lean ====
/- What the three operands of the attention kernel hold, entry by entry. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- Where each window's block lies. -/
theorem idx : ∀ t : Fin cfg0.N, win0_0.index t = ![t.val / 16, t.val % 16, 0, 0] ∧ win0_1.index t = ![t.val / 16, t.val % 16, 0, 0]
    ∧ win0_2.index t = ![t.val / 16, t.val % 16, 0, 0] ∧ win0_3.index t = ![t.val / 16, 0, t.val % 16] :=
  (by decide +kernel : ∀ t : Fin grid0.N, _)

theorem qread (c : Dev nD) (t : Fin cfg0.N) (b : Fin 2) (h : Fin 16) (r : Fin 4096) (j : Fin 256) (hb : (b : ℕ) = t.val / 16)
    (hh : (h : ℕ) = t.val % 16) :
    X0_0 m c t (ix4 0 0 r j) = V m c main_v6 (ix4 b h ⟨r, by omega⟩ j) := by
  unfold X0_0 Pipeline.Window.fill
  rw [dif_pos (moved0_0 t _)]
  blk_ext [iblk, idx t]

theorem kread (c : Dev nD) (t : Fin cfg0.N) (b : Fin 2) (h : Fin 16) (r : Fin 4352) (j : Fin 256) (hb : (b : ℕ) = t.val / 16)
    (hh : (h : ℕ) = t.val % 16) :
    iblk m c 1 t (ix4 0 0 r j) = V m c main_v21 (ix4 b h r j) := by
  blk_ext [iblk, idx t]

theorem vread (c : Dev nD) (t : Fin cfg0.N) (b : Fin 2) (h : Fin 16) (r : Fin 4352) (j : Fin 256) (hb : (b : ℕ) = t.val / 16)
    (hh : (h : ℕ) = t.val % 16) :
    iblk m c 2 t (ix4 0 0 r j) = V m c main_v22 (ix4 b h r j) := by
  blk_ext [iblk, idx t]

/-- Query rows: the position-free part in the first 128 lanes, the rotary part in the next 64, zeros after. -/
theorem q_apply (c : Dev nD) (b : Fin 2) (h : Fin 16) (r : Fin 4352) (j : Fin 256) (hr : (r : ℕ) < 4096) :
    (V m c main_v6 : FVec Ideal S2x16x4352x256 .f32) (ix4 b h r j)
      = (if hj : (j : ℕ) < 128 then m ((c : Thread nD τ).loc main_arg0) (ix4 b ⟨r, hr⟩ h ⟨j, hj⟩)
        else if hj' : (j : ℕ) - 128 < 64 then m ((c : Thread nD τ).loc main_arg1) (ix4 b ⟨r, hr⟩ h ⟨j - 128, hj'⟩) else 0 : EReal) := by
  entry_read
  pointwise
  after_results_simp
  pointwise
  after_results_simp
  pointwise
  simp only [hr, dite_true]

/-- Key rows, latent tokens first: the position-free part in the first 128 lanes, the rotary part (one for all
    heads) in the next 64, zeros after. -/
theorem k_apply (c : Dev nD) (b : Fin 2) (h : Fin 16) (r : Fin 4352) (j : Fin 256) :
    (V m c main_v21 : FVec Ideal S2x16x4352x256 .bf16) (ix4 b h r j)
      = (if hj : (j : ℕ) < 128 then
          if hr : (r : ℕ) < 4096 then m ((c : Thread nD τ).loc main_arg2) (ix4 b ⟨r, hr⟩ h ⟨j, hj⟩)
          else m ((c : Thread nD τ).loc main_arg7) (ix4 b ⟨r - 4096, by omega⟩ h ⟨j, hj⟩)
        else if hj' : (j : ℕ) - 128 < 64 then
          if hr : (r : ℕ) < 4096 then m ((c : Thread nD τ).loc main_arg3) (ix3 b ⟨r, hr⟩ ⟨j - 128, hj'⟩)
          else m ((c : Thread nD τ).loc main_arg8) (ix3 b ⟨r - 4096, by omega⟩ ⟨j - 128, hj'⟩)
        else 0 : EReal) := by
  entry_read
  pointwise

/-- Value rows, latent tokens first: the values in the first 128 lanes. -/
theorem v_apply (c : Dev nD) (b : Fin 2) (h : Fin 16) (r : Fin 4352) (j : Fin 256) (hj : (j : ℕ) < 128) :
    (V m c main_v22 : FVec Ideal S2x16x4352x256 .bf16) (ix4 b h r j)
      = (if hr : (r : ℕ) < 4096 then m ((c : Thread nD τ).loc main_arg4) (ix4 b ⟨r, hr⟩ h ⟨j, hj⟩)
          else m ((c : Thread nD τ).loc main_arg9) (ix4 b ⟨r - 4096, by omega⟩ h ⟨j, hj⟩) : EReal) := by
  entry_read
  pointwise
  simp only [hj, dite_true]

/-- … and a one in lane 128. -/
theorem v_one (c : Dev nD) (b : Fin 2) (h : Fin 16) (r : Fin 4352) :
    (V m c main_v22 : FVec Ideal S2x16x4352x256 .bf16) (ix4 b h r 128) = (1 : EReal) := by
  entry_read
  pointwise
  change (((1#1 : BitVec 1).toNat : ℝ) : EReal) = 1
  norm_num

end Cert.KernelIdeal.Attn

end
-- ==== Proof.AttnRef.lean ====
/- The attention reference read at one entry. -/
module

public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem

variable (x0 : (⟨S2x4096x16x128, .f32⟩ : BufTy).Contents (Elt Ideal)) (x1 : (⟨S2x4096x16x64, .f32⟩ : BufTy).Contents (Elt Ideal))
  (x2 : (⟨S2x4096x16x128, .f32⟩ : BufTy).Contents (Elt Ideal)) (x3 : (⟨S2x4096x64, .f32⟩ : BufTy).Contents (Elt Ideal))
  (x4 : (⟨S2x4096x16x128, .f32⟩ : BufTy).Contents (Elt Ideal))
  (x7 : (⟨S2x256x16x128, .f32⟩ : BufTy).Contents (Elt Ideal)) (x8 : (⟨S2x256x64, .f32⟩ : BufTy).Contents (Elt Ideal))
  (x9 : (⟨S2x256x16x128, .f32⟩ : BufTy).Contents (Elt Ideal))

/-- A score: the position-free product plus the rotary product, over the square root of 192. -/
theorem score_apply (b : Fin 2) (h : Fin 16) (q : Fin 4096) (k : Fin 4352) :
    val_main_v9 x0 x1 x2 x3 x7 x8 (ix4 b h q k)
      = Ideal.div ((∑ x : Fin 128, x0 (ix4 b q h x) * val_main_v0 x2 x7 (ix4 b k h x) : EReal)
          + ∑ x : Fin 64, val_main_v1 x3 x8 (ix3 b k x) * x1 (ix4 b q h x)) ((Real.sqrt 192 : ℝ) : EReal) := by
  have hc : Ideal.sqrt (Ideal.ofBits FTy.f32 1128267776#32) = ((Real.sqrt 192 : ℝ) : EReal) := by
    have : Ideal.ofBits FTy.f32 1128267776#32 = ((192 : ℝ) : EReal) := by
      simp [Ideal.ofBits, Ideal.ieee]
      rw [← EReal.coe_mul]
      norm_num
    rw [this, Ideal.sqrt_coe, if_neg (by norm_num)]
  pointwise [val_main_v9, val_main_v8, val_main_v7, val_main_cst, val_main_v6, val_main_v5, val_main_v4, val_main_v3]
  rw [hc]

/-- The keys, context tokens first. -/
theorem key_apply (b : Fin 2) (k : Fin 4352) (h : Fin 16) (j : Fin 128) :
    (val_main_v0 x2 x7 (ix4 b k h j) : EReal) = if hk : (k : ℕ) < 256 then x7 (ix4 b ⟨k, hk⟩ h j) else x2 (ix4 b ⟨k - 256, by omega⟩ h j) := by
  pointwise [val_main_v0]

/-- The rotary keys, context tokens first. -/
theorem rope_apply (b : Fin 2) (k : Fin 4352) (j : Fin 64) :
    (val_main_v1 x3 x8 (ix3 b k j) : EReal) = if hk : (k : ℕ) < 256 then x8 (ix3 b ⟨k, hk⟩ j) else x3 (ix3 b ⟨k - 256, by omega⟩ j) := by
  pointwise [val_main_v1]

/-- The values, context tokens first. -/
theorem val_apply (b : Fin 2) (k : Fin 4352) (h : Fin 16) (j : Fin 128) :
    (val_main_v2 x4 x9 (ix4 b k h j) : EReal) = if hk : (k : ℕ) < 256 then x9 (ix4 b ⟨k, hk⟩ h j) else x4 (ix4 b ⟨k - 256, by omega⟩ h j) := by
  pointwise [val_main_v2]

/-- The rotation taking a key's place with the latent tokens first to its place with the context tokens first. -/
def turn : Fin 4352 ≃ Fin 4352 := Equiv.addRight 256

theorem turn_val (x : Fin 4352) : ((turn x : Fin 4352) : ℕ) = if (x : ℕ) < 4096 then (x : ℕ) + 256 else (x : ℕ) - 4096 := by
  show ((x + 256 : Fin 4352) : ℕ) = _
  rw [Fin.val_add, show ((256 : Fin 4352) : ℕ) = 256 from rfl]
  split <;> omega

/-- The keys with the latent tokens first. -/
theorem key_turn (b : Fin 2) (x : Fin 4352) (h : Fin 16) (j : Fin 128) :
    (val_main_v0 x2 x7 (ix4 b (turn x) h j) : EReal)
      = if hk : (x : ℕ) < 4096 then x2 (ix4 b ⟨x, hk⟩ h j) else x7 (ix4 b ⟨x - 4096, by omega⟩ h j) := by
  have ht := turn_val x
  rw [key_apply]
  by_cases hk : (x : ℕ) < 4096
  · rw [if_pos hk] at ht
    simp only [hk, ht, show ¬ (x : ℕ) + 256 < 256 by omega, dite_true, dite_false, Nat.add_sub_cancel]
  · rw [if_neg hk] at ht
    simp only [hk, ht, show (x : ℕ) - 4096 < 256 by omega, dite_true, dite_false]

/-- The rotary keys with the latent tokens first. -/
theorem rope_turn (b : Fin 2) (x : Fin 4352) (j : Fin 64) :
    (val_main_v1 x3 x8 (ix3 b (turn x) j) : EReal)
      = if hk : (x : ℕ) < 4096 then x3 (ix3 b ⟨x, hk⟩ j) else x8 (ix3 b ⟨x - 4096, by omega⟩ j) := by
  have ht := turn_val x
  rw [rope_apply]
  by_cases hk : (x : ℕ) < 4096
  · rw [if_pos hk] at ht
    simp only [hk, ht, show ¬ (x : ℕ) + 256 < 256 by omega, dite_true, dite_false, Nat.add_sub_cancel]
  · rw [if_neg hk] at ht
    simp only [hk, ht, show (x : ℕ) - 4096 < 256 by omega, dite_true, dite_false]

/-- The values with the latent tokens first. -/
theorem val_turn (b : Fin 2) (x : Fin 4352) (h : Fin 16) (j : Fin 128) :
    (val_main_v2 x4 x9 (ix4 b (turn x) h j) : EReal)
      = if hk : (x : ℕ) < 4096 then x4 (ix4 b ⟨x, hk⟩ h j) else x9 (ix4 b ⟨x - 4096, by omega⟩ h j) :=
  key_turn x4 x9 b x h j

/-- The largest score of a row. -/
theorem max_apply (b : Fin 2) (h : Fin 16) (q : Fin 4096) :
    (val_main_v10 x0 x1 x2 x3 x7 x8 (ix3 b h q) : EReal) = Finset.fold max (⊥ : EReal)
      (fun k : Fin 4352 => val_main_v9 x0 x1 x2 x3 x7 x8 (ix4 b h q k)) Finset.univ := by
  have hb : Ideal.ofBits .f32 4286578688#32 = (⊥ : EReal) := by simp [Ideal.ofBits, Ideal.ieee]
  pointwise [val_main_v10, val_main_cst_0]
  rw [hb]

/-- The largest score of a row, joined with minus infinity. -/
theorem top_apply (b : Fin 2) (h : Fin 16) (q : Fin 4096) :
    (val_main_v12 x0 x1 x2 x3 x7 x8 (ix3 b h q) : EReal) = max ⊥ (val_main_v10 x0 x1 x2 x3 x7 x8 (ix3 b h q) : EReal) := by
  have hb : Ideal.ofBits .f32 4286578688#32 = (⊥ : EReal) := by simp [Ideal.ofBits, Ideal.ieee]
  rw [val_main_v12_apply, val_main_v11_apply, val_main_cst_1_apply]
  generalize val_main_v10 (F := Ideal) x0 x1 x2 x3 x7 x8 (ix3 b h q) = y
  change max (Ideal.ofBits .f32 4286578688#32) y = _
  rw [hb]

/-- … read along the row. -/
theorem top_row_apply (b : Fin 2) (h : Fin 16) (q : Fin 4096) (k : Fin 4352) :
    (val_main_v14 x0 x1 x2 x3 x7 x8 (ix4 b h q k) : EReal) = (val_main_v12 x0 x1 x2 x3 x7 x8 (ix3 b h q) : EReal) := by
  unfold val_main_v14 val_main_v13
  generalize val_main_v12 (F := Ideal) x0 x1 x2 x3 x7 x8 = y
  pointwise

/-- The exponential of a score less the largest of its row. -/
theorem exp_apply (b : Fin 2) (h : Fin 16) (q : Fin 4096) (k : Fin 4352) :
    (val_main_v16 x0 x1 x2 x3 x7 x8 (ix4 b h q k) : EReal) = Ideal.exp ((val_main_v9 x0 x1 x2 x3 x7 x8 (ix4 b h q k) : EReal)
      - max ⊥ (Finset.fold max (⊥ : EReal) (fun k : Fin 4352 => val_main_v9 x0 x1 x2 x3 x7 x8 (ix4 b h q k)) Finset.univ)) := by
  rw [← max_apply, ← top_apply, ← top_row_apply x0 x1 x2 x3 x7 x8 b h q k]
  rfl

/-- A row's normaliser. -/
theorem sum_apply (b : Fin 2) (h : Fin 16) (q : Fin 4096) :
    (val_main_v17 x0 x1 x2 x3 x7 x8 (ix3 b h q) : EReal) = ∑ k : Fin 4352, (val_main_v16 x0 x1 x2 x3 x7 x8 (ix4 b h q k) : EReal) := by
  pointwise [val_main_v17, val_main_cst_2]

/-- The result: head `e / 128`, value lane `e % 128`. -/
theorem result_apply (b : Fin 2) (q : Fin 4096) (e : Fin 2048) :
    (val_main_v24 x0 x1 x2 x3 x4 x7 x8 x9 (ix3 b q e) : EReal)
      = ∑ k : Fin 4352, (val_main_v2 x4 x9 (ix4 b k ⟨(e : ℕ) / 128, by omega⟩ ⟨(e : ℕ) % 128, by omega⟩) : EReal)
          * Ideal.div (val_main_v16 x0 x1 x2 x3 x7 x8 (ix4 b ⟨(e : ℕ) / 128, by omega⟩ q k))
              (val_main_v17 x0 x1 x2 x3 x7 x8 (ix3 b ⟨(e : ℕ) / 128, by omega⟩ q)) := by
  pointwise [val_main_v24, val_main_v23, val_main_v22, val_main_v21, val_main_v20, val_main_v19, val_main_v18]

end Cert.ReferenceIdeal.Attn

end
-- ==== Proof.AttnPre.lean ====
/- What the precondition of the attention claim says: every entry of the queries and keys is a real number. -/
module

public import proofs.«01_k».proof.Defs
public import Idealize.ShloMosaic.Lib.Pointwise
public import Idealize.ShloMosaic.Lib.ReduceAll

@[expose] public section

set_option maxRecDepth 16384

noncomputable section

namespace Cert.Pre_finite_keys

open Idealize.ShloMosaic

instance facts : Cert.Pre_finite_keys.Facts where
  bcast_S_S2x4096x16x128 := by decide
  reducesTo_S2x4096x16x128_S_d0_1_2_3 := by decide
  h_S_ := by decide
  bcast_S_S2x4096x16x64 := by decide
  reducesTo_S2x4096x16x64_S_d0_1_2_3 := by decide
  bcast_S_S2x4096x64 := by decide
  reducesTo_S2x4096x64_S_d0_1_2 := by decide
  bcast_S_S2x256x16x128 := by decide
  reducesTo_S2x256x16x128_S_d0_1_2_3 := by decide
  bcast_S_S2x256x64 := by decide
  reducesTo_S2x256x64_S_d0_1_2 := by decide

instance : Subsingleton S_.Idx := ⟨fun a b => funext fun i => i.elim0⟩

/-- An array's entries are all real numbers. -/
def AllReal {s : Shape} (x : FVec Ideal s .f32) : Prop := ∀ i, (x i : EReal) = ((x i : EReal).toReal : EReal)

/-- An extended real whose absolute value lies below infinity is a real number. -/
theorem real_of_abs_lt {x : EReal} (h : max x (-x) < ⊤) : x = (x.toReal : EReal) := by
  refine (EReal.coe_toReal ?_ ?_).symm
  · rintro rfl
    simp at h
  · rintro rfl
    simp at h

/-- An array all of whose absolute values compare below infinity has real entries. -/
theorem real_of_cmp {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) : AllReal x := by
  intro i
  refine real_of_abs_lt ?_
  have e := h i
  have ht : Ideal.ofBits .f32 0x7F800000#32 = (⊤ : EReal) := by simp [Ideal.ofBits, Ideal.ieee]
  have hc : broadcastInDim s ![] hb (constant (F := Ideal) S_ .f32 0x7F800000#32) i = (⊤ : EReal) := by
    rw [broadcastInDim_apply _ hb _ i (fun a => a.elim0) (fun a => a.elim0)]
    exact ht
  change FloatOps.cmpf .olt (Host.absf x i) (broadcastInDim s ![] hb (constant (F := Ideal) S_ .f32 0x7F800000#32) i) = 1#1 at e
  rw [hc] at e
  exact (Ideal.cmp_olt_eq_one _ _).1 e

/-- The precondition read: the six arrays it names have real entries. -/
theorem real_of_pre (x0 : FVec Ideal S2x4096x16x128 .f32) (x1 : FVec Ideal S2x4096x16x64 .f32) (x2 : FVec Ideal S2x4096x16x128 .f32)
    (x3 : FVec Ideal S2x4096x64 .f32) (x4 : FVec Ideal S2x4096x16x128 .f32) (x5 : FVec Ideal S2x256x16x128 .f32)
    (x6 : FVec Ideal S2x256x16x64 .f32) (x7 : FVec Ideal S2x256x16x128 .f32) (x8 : FVec Ideal S2x256x64 .f32)
    (x9 : FVec Ideal S2x256x16x128 .f32) (h : fn (F := Ideal) x0 x1 x2 x3 x4 x5 x6 x7 x8 x9 = fun _ => 1#1) :
    AllReal x0 ∧ AllReal x1 ∧ AllReal x2 ∧ AllReal x3 ∧ AllReal x7 ∧ AllReal x8 := by
  have e := congrFun h (fun a => a.elim0)
  simp only [fn, fn_part1, andi, IntOp.andi_eq_one] at e
  obtain ⟨⟨⟨⟨⟨e0, e1⟩, e2⟩, e3⟩, e7⟩, e8⟩ := e
  exact ⟨real_of_cmp x0 _ fun i => Host.reduce_andi_all _ _ _ _ _ e0 i, real_of_cmp x1 _ fun i => Host.reduce_andi_all _ _ _ _ _ e1 i,
    real_of_cmp x2 _ fun i => Host.reduce_andi_all _ _ _ _ _ e2 i, real_of_cmp x3 _ fun i => Host.reduce_andi_all _ _ _ _ _ e3 i,
    real_of_cmp x7 _ fun i => Host.reduce_andi_all _ _ _ _ _ e7 i, real_of_cmp x8 _ fun i => Host.reduce_andi_all _ _ _ _ _ e8 i⟩

end Cert.Pre_finite_keys

end
-- ==== Proof.AttnMath.lean ====
/- The arithmetic of one attention row: a base-two softmax whose denominator is one more column of the value
   product, against the natural softmax whose weights are divided first. -/
module

public import Idealize.ShloMosaic.PureOps.Ideal.Laws
public import Mathlib.Analysis.SpecialFunctions.Pow.Real

@[expose] public section

noncomputable section

namespace Cert.AttnMath

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The largest of finitely many reals, folded from `-∞`, is one of them. -/
theorem fold_max {n : ℕ} [NeZero n] (f : Fin n → ℝ) :
    ∃ M : ℝ, Finset.fold max (⊥ : EReal) (fun k => ((f k : ℝ) : EReal)) Finset.univ = (M : EReal)
      ∧ (∀ k, f k ≤ M) ∧ ∃ k, f k = M := by
  obtain ⟨k, -, hk⟩ := Finset.exists_max_image Finset.univ f ⟨(0 : Fin n), Finset.mem_univ _⟩
  refine ⟨f k, le_antisymm ?_ ?_, fun i => hk i (Finset.mem_univ i), k, rfl⟩
  · exact (Finset.fold_max_le _).2 ⟨bot_le, fun i hi => EReal.coe_le_coe_iff.2 (hk i hi)⟩
  · exact (Finset.le_fold_max _).2 (Or.inr ⟨k, Finset.mem_univ k, le_rfl⟩)

/-- The base-two exponential of a real divided by `log 2` is the natural one. -/
theorem rpow_two (x : ℝ) : Real.rpow 2 ((Real.log 2)⁻¹ * x) = Real.exp x := by
  have h : Real.log 2 ≠ 0 := (Real.log_pos (by norm_num)).ne'
  show (2 : ℝ) ^ ((Real.log 2)⁻¹ * x) = _
  rw [Real.rpow_def_of_pos (by norm_num), ← mul_assoc, mul_inv_cancel₀ h, one_mul]

/-- ONE ATTENTION ROW. The scores `g` are real, the values `v` any extended reals; `σ` is the order in which the
    left side meets the keys. -/
theorem row {n : ℕ} [NeZero n] (g : Fin n → ℝ) (v : Fin n → EReal) (σ : Fin n ≃ Fin n) (s t : Fin n → EReal)
    (hs : ∀ k, s k = (((Real.log 2)⁻¹ * g (σ k) : ℝ) : EReal)) (ht : ∀ k, t k = (g k : EReal)) :
    Ideal.div (∑ k, Ideal.exp2 (s k - Finset.fold max ⊥ s Finset.univ) * v (σ k))
        (∑ k, Ideal.exp2 (s k - Finset.fold max ⊥ s Finset.univ) * 1)
      = ∑ k, v k * Ideal.div (Ideal.exp (t k - max ⊥ (Finset.fold max ⊥ t Finset.univ)))
          (∑ x, Ideal.exp (t x - max ⊥ (Finset.fold max ⊥ t Finset.univ))) := by
  obtain rfl : s = fun k => (((Real.log 2)⁻¹ * g (σ k) : ℝ) : EReal) := funext hs
  obtain rfl : t = fun k => (g k : EReal) := funext ht
  have hl : 0 < (Real.log 2)⁻¹ := inv_pos.2 (Real.log_pos (by norm_num))
  obtain ⟨M, hM, hle, k₀, hk₀⟩ := fold_max g
  have hM' : Finset.fold max (⊥ : EReal) (fun k => (((Real.log 2)⁻¹ * g (σ k) : ℝ) : EReal)) Finset.univ
      = (((Real.log 2)⁻¹ * M : ℝ) : EReal) := by
    obtain ⟨M', h', hle', k₁, hk₁⟩ := fold_max fun k => (Real.log 2)⁻¹ * g (σ k)
    rw [h']
    congr 1
    apply le_antisymm
    · rw [← hk₁]; exact mul_le_mul_of_nonneg_left (hle _) hl.le
    · have := hle' (σ.symm k₀); rwa [Equiv.apply_symm_apply, hk₀] at this
  have hp : ∀ k, Ideal.exp2 ((((Real.log 2)⁻¹ * g (σ k) : ℝ) : EReal) - (((Real.log 2)⁻¹ * M : ℝ) : EReal))
      = (Real.exp (g (σ k) - M) : EReal) := fun k => by
    rw [← EReal.coe_sub, ← mul_sub, Ideal.exp2_coe, rpow_two]
  have hq : ∀ k, Ideal.exp ((g k : EReal) - (M : EReal)) = (Real.exp (g k - M) : EReal) := fun k => by
    rw [← EReal.coe_sub, Ideal.exp_coe]
  have hL : 0 < ∑ k, Real.exp (g k - M) :=
    Finset.sum_pos (fun k _ => Real.exp_pos _) ⟨0, Finset.mem_univ _⟩
  simp only [hM, hM', hp, hq, mul_one, max_eq_right (bot_le : (⊥ : EReal) ≤ _)]
  rw [Equiv.sum_comp σ fun k => (Real.exp (g k - M) : EReal) * v k, Equiv.sum_comp σ fun k => (Real.exp (g k - M) : EReal),
    ← coe_sum, Ideal.div_coe hL.ne', sum_mul_coe _ _ _ (by positivity)]
  refine Finset.sum_congr rfl fun k _ => ?_
  rw [Ideal.div_coe hL.ne', mul_comm (Real.exp _ : EReal), mul_assoc]

/-- The 256-lane product of a query and a key, each laid out as 128 position-free lanes, 64 rotary lanes and 64
    zeros, with the query scaled by `1/√192 · 1/log 2`: the reference's score over `log 2`. -/
theorem lanes (Q K : Fin 256 → EReal) (q0 k0 : Fin 128 → ℝ) (q1 k1 : Fin 64 → ℝ)
    (hQ : ∀ j : Fin 256, Q j = if h : (j : ℕ) < 128 then (q0 ⟨j, h⟩ : EReal)
      else if h' : (j : ℕ) - 128 < 64 then (q1 ⟨j - 128, h'⟩ : EReal) else 0)
    (hK : ∀ j : Fin 256, K j = if h : (j : ℕ) < 128 then (k0 ⟨j, h⟩ : EReal)
      else if h' : (j : ℕ) - 128 < 64 then (k1 ⟨j - 128, h'⟩ : EReal) else 0) :
    ∑ j, Q j * (((Real.sqrt 192)⁻¹ * (Real.log 2)⁻¹ : ℝ) : EReal) * K j
      = (((Real.log 2)⁻¹ * ((∑ j, q0 j * k0 j + ∑ j, k1 j * q1 j) * (Real.sqrt 192)⁻¹) : ℝ) : EReal) := by
  have h0 : ∀ j : Fin 128, Q (Fin.castAdd (64 + 64) j) = (q0 j : EReal) ∧ K (Fin.castAdd (64 + 64) j) = (k0 j : EReal) := fun j => by
    have hj : ((Fin.castAdd (64 + 64) j : Fin 256) : ℕ) < 128 := by simp
    exact ⟨(hQ _).trans (dif_pos hj), (hK _).trans (dif_pos hj)⟩
  have h1 : ∀ j : Fin 64, Q (Fin.natAdd 128 (Fin.castAdd 64 j)) = (q1 j : EReal) ∧ K (Fin.natAdd 128 (Fin.castAdd 64 j)) = (k1 j : EReal) := fun j => by
    have hj : ¬ ((Fin.natAdd 128 (Fin.castAdd 64 j) : Fin 256) : ℕ) < 128 := by simp
    have hj' : ((Fin.natAdd 128 (Fin.castAdd 64 j) : Fin 256) : ℕ) - 128 < 64 := by simp
    have e : (⟨((Fin.natAdd 128 (Fin.castAdd 64 j) : Fin 256) : ℕ) - 128, hj'⟩ : Fin 64) = j := Fin.ext (by simp)
    exact ⟨(hQ _).trans ((dif_neg hj).trans ((dif_pos hj').trans (by rw [e]))),
      (hK _).trans ((dif_neg hj).trans ((dif_pos hj').trans (by rw [e])))⟩
  have h2 : ∀ j : Fin 64, Q (Fin.natAdd 128 (Fin.natAdd 64 j)) = 0 ∧ K (Fin.natAdd 128 (Fin.natAdd 64 j)) = 0 := fun j => by
    have hj : ¬ ((Fin.natAdd 128 (Fin.natAdd 64 j) : Fin 256) : ℕ) < 128 := by simp
    have hj' : ¬ ((Fin.natAdd 128 (Fin.natAdd 64 j) : Fin 256) : ℕ) - 128 < 64 := by simp
    exact ⟨(hQ _).trans ((dif_neg hj).trans (dif_neg hj')), (hK _).trans ((dif_neg hj).trans (dif_neg hj'))⟩
  have hs : ∀ f : Fin 256 → EReal, ∑ j, f j = (∑ j : Fin 128, f (Fin.castAdd (64 + 64) j))
      + ((∑ j : Fin 64, f (Fin.natAdd 128 (Fin.castAdd 64 j))) + ∑ j : Fin 64, f (Fin.natAdd 128 (Fin.natAdd 64 j))) := fun f => by
    rw [← Fin.sum_univ_add (fun j : Fin (64 + 64) => f (Fin.natAdd 128 j))]
    exact Fin.sum_univ_add (a := 128) (b := 64 + 64) f
  rw [hs]
  simp only [(h0 _).1, (h0 _).2, (h1 _).1, (h1 _).2, (h2 _).1, (h2 _).2, mul_zero, Finset.sum_const_zero, add_zero]
  simp only [← EReal.coe_mul, ← coe_sum, ← EReal.coe_add]
  refine congrArg _ ?_
  rw [add_mul, Finset.sum_mul, Finset.sum_mul, mul_add, Finset.mul_sum, Finset.mul_sum]
  refine congrArg₂ _ (Finset.sum_congr rfl fun j _ => by ring) (Finset.sum_congr rfl fun j _ => by ring)

end Cert.AttnMath

end
-- ==== Proof.AttnEq.lean ====
/- The attention kernel's array and the reference's, entry by entry: one row of scores on each side. -/
module

public import proofs.«01_k».proof.Proof.AttnBlock
public import proofs.«01_k».proof.Proof.AttnHost
public import proofs.«01_k».proof.Proof.AttnRef
public import proofs.«01_k».proof.Proof.AttnPre
public import proofs.«01_k».proof.Proof.AttnMath

@[expose] public section

set_option maxRecDepth 16384

noncomputable section

namespace Cert.KernelIdeal.Attn

open Cert.KernelIdeal Cert.KernelIdeal.Gen Idealize.ShloMosaic Idealize.ShloMosaic.TcCoe Idealize.SL.Sem
open Cert.Pre_finite_keys (AllReal)

variable (m : (ℓ : Loc nD τ sig) → Buf (Elt Ideal) ℓ)

/-- The arguments the reference reads: queries, keys and values of the latent tokens, … -/
abbrev X0 (c : Dev nD) : FVec Ideal S2x4096x16x128 .f32 := m ((c : Thread nD τ).loc main_arg0)
abbrev X1 (c : Dev nD) : FVec Ideal S2x4096x16x64 .f32 := m ((c : Thread nD τ).loc main_arg1)
abbrev X2 (c : Dev nD) : FVec Ideal S2x4096x16x128 .f32 := m ((c : Thread nD τ).loc main_arg2)
abbrev X3 (c : Dev nD) : FVec Ideal S2x4096x64 .f32 := m ((c : Thread nD τ).loc main_arg3)
abbrev X4 (c : Dev nD) : FVec Ideal S2x4096x16x128 .f32 := m ((c : Thread nD τ).loc main_arg4)
/-- … and keys and values of the context tokens. -/
abbrev X7 (c : Dev nD) : FVec Ideal S2x256x16x128 .f32 := m ((c : Thread nD τ).loc main_arg7)
abbrev X8 (c : Dev nD) : FVec Ideal S2x256x64 .f32 := m ((c : Thread nD τ).loc main_arg8)
abbrev X9 (c : Dev nD) : FVec Ideal S2x256x16x128 .f32 := m ((c : Thread nD τ).loc main_arg9)

/-- The queries and keys of every device are real numbers. -/
structure Keys (c : Dev nD) : Prop where
  h0 : AllReal (X0 m c)
  h1 : AllReal (X1 m c)
  h2 : AllReal (X2 m c)
  h3 : AllReal (X3 m c)
  h7 : AllReal (X7 m c)
  h8 : AllReal (X8 m c)

/-- The reference's keys. -/
abbrev key (c : Dev nD) (b : Fin 2) (h : Fin 16) (k : Fin 4352) (j : Fin 128) : EReal :=
  ReferenceIdeal.Read.val_main_v0 (F := Ideal) (X2 m c) (X7 m c) (ix4 b k h j)
abbrev rope (c : Dev nD) (b : Fin 2) (k : Fin 4352) (j : Fin 64) : EReal :=
  ReferenceIdeal.Read.val_main_v1 (F := Ideal) (X3 m c) (X8 m c) (ix3 b k j)

theorem key_real {c : Dev nD} (H : Keys m c) (b : Fin 2) (h : Fin 16) (k : Fin 4352) (j : Fin 128) :
    key m c b h k j = ((key m c b h k j).toReal : EReal) := by
  unfold key
  rw [ReferenceIdeal.Attn.key_apply]
  split
  · exact H.h7 _
  · exact H.h2 _

theorem rope_real {c : Dev nD} (H : Keys m c) (b : Fin 2) (k : Fin 4352) (j : Fin 64) :
    rope m c b k j = ((rope m c b k j).toReal : EReal) := by
  unfold rope
  rw [ReferenceIdeal.Attn.rope_apply]
  split
  · exact H.h8 _
  · exact H.h3 _

/-- The real score of query `r` and key `k`. -/
def real (c : Dev nD) (b : Fin 2) (h : Fin 16) (r : Fin 4096) (k : Fin 4352) : ℝ :=
  (∑ j : Fin 128, (X0 m c (ix4 b r h j) : EReal).toReal * (key m c b h k j).toReal
    + ∑ j : Fin 64, (rope m c b k j).toReal * (X1 m c (ix4 b r h j) : EReal).toReal) * (Real.sqrt 192)⁻¹

/-- The reference's score is the real one. -/
theorem ref_score {c : Dev nD} (H : Keys m c) (b : Fin 2) (h : Fin 16) (r : Fin 4096) (k : Fin 4352) :
    (ReferenceIdeal.Read.val_main_v9 (F := Ideal) (X0 m c) (X1 m c) (X2 m c) (X3 m c) (X7 m c) (X8 m c) (ix4 b h r k) : EReal)
      = (real m c b h r k : EReal) := by
  rw [ReferenceIdeal.Attn.score_apply, Ideal.div_coe (by positivity), one_div]
  have e0 : ∀ j, (X0 m c (ix4 b r h j) : EReal) * key m c b h k j
      = (((X0 m c (ix4 b r h j) : EReal).toReal * (key m c b h k j).toReal : ℝ) : EReal) := fun j => by
    rw [EReal.coe_mul, ← key_real m H, ← H.h0]
  have e1 : ∀ j, rope m c b k j * (X1 m c (ix4 b r h j) : EReal)
      = (((rope m c b k j).toReal * (X1 m c (ix4 b r h j) : EReal).toReal : ℝ) : EReal) := fun j => by
    rw [EReal.coe_mul, ← rope_real m H, ← H.h1]
  rw [Finset.sum_congr rfl fun j _ => e0 j, Finset.sum_congr rfl fun j _ => e1 j, ← AttnMath.coe_sum, ← AttnMath.coe_sum,
    ← EReal.coe_add, ← EReal.coe_mul]
  rfl

/-- The kernel's base-two score is the real one, over `log 2`, at the key's place in the reference. -/
theorem kernel_score {c : Dev nD} (H : Keys m c) (b : Fin 2) (h : Fin 16) (r : Fin 4096) (x : Fin 4352)
    (q : Vec Ideal S1x1x256x256 .f32) (k : Vec Ideal S1x1x4352x256 .bf16) (s : Fin 256)
    (hq : ∀ j, (q (ix4 0 0 s j) : EReal) = (V m c main_v6 : FVec Ideal S2x16x4352x256 .f32) (ix4 b h ⟨r, by omega⟩ j))
    (hk : ∀ x j, (k (ix4 0 0 x j) : EReal) = (V m c main_v21 : FVec Ideal S2x16x4352x256 .bf16) (ix4 b h x j)) :
    score q k s x = (((Real.log 2)⁻¹ * real m c b h r (ReferenceIdeal.Attn.turn x) : ℝ) : EReal) := by
  refine AttnMath.lanes _ _ (fun j => (X0 m c (ix4 b r h j) : EReal).toReal) (fun j => (key m c b h (ReferenceIdeal.Attn.turn x) j).toReal)
    (fun j => (X1 m c (ix4 b r h j) : EReal).toReal) (fun j => (rope m c b (ReferenceIdeal.Attn.turn x) j).toReal) (fun j => ?_) (fun j => ?_)
  · rw [hq, q_apply m c b h ⟨r, by omega⟩ j r.isLt]
    split
    · exact H.h0 _
    split
    · exact H.h1 _
    · rfl
  · rw [hk, k_apply]
    split
    · rw [← key_real m H]
      exact (ReferenceIdeal.Attn.key_turn _ _ _ _ _ _).symm
    split
    · rw [← rope_real m H]
      exact (ReferenceIdeal.Attn.rope_turn _ _ _ _ _).symm
    · rfl

/-- One entry of a chunk is the reference's entry: head `h` and value lane `d` at column `h * 128 + d`. -/
theorem chunk_eq {c : Dev nD} (H : Keys m c) (b : Fin 2) (h : Fin 16) (r : Fin 4096)
    (q : Vec Ideal S1x1x256x256 .f32) (k v : Vec Ideal S1x1x4352x256 .bf16) (s : Fin 256) (d : Fin 128) (e : Fin 2048)
    (he : (e : ℕ) = (h : ℕ) * 128 + d)
    (hq : ∀ j, (q (ix4 0 0 s j) : EReal) = (V m c main_v6 : FVec Ideal S2x16x4352x256 .f32) (ix4 b h ⟨r, by omega⟩ j))
    (hk : ∀ x j, (k (ix4 0 0 x j) : EReal) = (V m c main_v21 : FVec Ideal S2x16x4352x256 .bf16) (ix4 b h x j))
    (hv : ∀ x j, (v (ix4 0 0 x j) : EReal) = (V m c main_v22 : FVec Ideal S2x16x4352x256 .bf16) (ix4 b h x j)) :
    (k0_pay2 (F := Ideal) q k v (ix3 0 s d) : EReal)
      = ReferenceIdeal.Read.val_main_v24 (F := Ideal) (X0 m c) (X1 m c) (X2 m c) (X3 m c) (X4 m c) (X7 m c) (X8 m c) (X9 m c) (ix3 b r e) := by
  have eh : (⟨(e : ℕ) / 128, by omega⟩ : Fin 16) = h := Fin.ext (by show (e : ℕ) / 128 = h; omega)
  have ed : (⟨(e : ℕ) % 128, by omega⟩ : Fin 128) = d := Fin.ext (by show (e : ℕ) % 128 = d; omega)
  have hval : ∀ x, (v (ix4 0 0 x ⟨d, by omega⟩) : EReal)
      = ReferenceIdeal.Read.val_main_v2 (F := Ideal) (X4 m c) (X9 m c) (ix4 b (ReferenceIdeal.Attn.turn x) h d) := fun x => by
    rw [hv, v_apply m c b h x ⟨d, by omega⟩ d.isLt]
    exact (ReferenceIdeal.Attn.val_turn _ _ _ _ _ _).symm
  have hone : ∀ x, (v (ix4 0 0 x 128) : EReal) = 1 := fun x => (hv x 128).trans (v_one m c b h x)
  rw [chunk_apply, ReferenceIdeal.Attn.result_apply, eh, ed, ReferenceIdeal.Attn.sum_apply]
  simp only [hval, hone, ReferenceIdeal.Attn.exp_apply, weight]
  exact AttnMath.row (real m c b h r)
    (fun x => ReferenceIdeal.Read.val_main_v2 (F := Ideal) (X4 m c) (X9 m c) (ix4 b x h d)) ReferenceIdeal.Attn.turn (score q k s)
    (fun x => ReferenceIdeal.Read.val_main_v9 (F := Ideal) (X0 m c) (X1 m c) (X2 m c) (X3 m c) (X7 m c) (X8 m c) (ix4 b h r x))
    (fun x => kernel_score m H b h r x q k s hq hk) (fun x => ref_score m H b h r x)

end Cert.KernelIdeal.Attn

end
-- ==== Proof.AttnFinal.lean ====
/- The attention claim: the array the launch leaves is the reference's result. -/
module

public import proofs.«01_k».proof.Proof.AttnEq

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- One entry of one grid point's output block. -/
theorem block_eq {c : Dev nD} (H : Keys m c) (t : Fin cfg0.N) (b : Fin 2) (h : Fin 16) (hb : (b : ℕ) = t.val / 16)
    (hh : (h : ℕ) = t.val % 16) (r : Fin 4096) (d : Fin 128) (e : Fin 2048) (he : (e : ℕ) = (h : ℕ) * 128 + d) :
    (outsAt0 m c t (ix3 0 r d) : EReal)
      = ReferenceIdeal.Read.val_main_v24 (F := Ideal) (X0 m c) (X1 m c) (X2 m c) (X3 m c) (X4 m c) (X7 m c) (X8 m c) (X9 m c) (ix3 b r e) := by
  rw [point]
  refine chunk_eq m H b h r _ _ _ ⟨(r : ℕ) % 256, by omega⟩ d e he (fun j => ?_) (fun x j => kread m c t b h x j hb hh)
    (fun x j => vread m c t b h x j hb hh)
  refine Eq.trans (congrArg (X0_0 m c t) ?_) (qread m c t b h r j hb hh)
  refine congrArg (fun k : Fin 4096 => ix4 0 0 k j) (Fin.ext ?_)
  show (r : ℕ) / 256 * 256 + (r : ℕ) % 256 = r
  omega

theorem final {c : Dev nD} (H : Keys m c) :
    (dats m 0 c).arrAt 3 cfg0.N = (ReferenceIdeal.Read.val_main_v24 (F := Ideal) (X0 m c) (X1 m c) (X2 m c) (X3 m c) (X4 m c) (X7 m c) (X8 m c) (X9 m c)
      : FVec Ideal S2x4096x2048 .bf16) := by
  refine (dats m 0 c).arrAt_eq_of_covers 3 _ (by decide +kernel) fun t hf y => ?_
  blk_simp
  rw [after0_3]
  have ht : t.val < 32 := t.isLt
  have y0 : (y 0 : ℕ) < 1 := (y 0).isLt
  have y1 : (y 1 : ℕ) < 4096 := (y 1).isLt
  have y2 : (y 2 : ℕ) < 128 := (y 2).isLt
  have e0 : y = (ix3 (0 : Fin 1) (⟨y 1, y1⟩ : Fin 4096) (⟨y 2, y2⟩ : Fin 128) : S1x4096x128.Idx) := by
    funext a
    refine Fin.ext ?_
    fin_cases a
    · show (y 0 : ℕ) = 0
      omega
    · rfl
    · rfl
  refine (congrArg (outsAt0 m c t) e0).trans ?_
  rw [block_eq m H t ⟨t.val / 16, by omega⟩ ⟨t.val % 16, by omega⟩ rfl rfl ⟨y 1, y1⟩ ⟨y 2, y2⟩ ⟨t.val % 16 * 128 + y 2, by omega⟩ rfl]
  blk_ext [idx t]

end Cert.KernelIdeal.Attn

end
-- ==== Proof.FfnMath.lean ====
/- The feed-forward half step, row by row, over the extended reals: the modulated norm, the gated unit, the residual and the
   last norm, as functions of one row. -/
module

public import Idealize.ShloMosaic.Lib.Pointwise
public import Idealize.ShloMosaic.Lib.Pipeline.ValueKit

@[expose] public section

noncomputable section

namespace Cert.Step

open Idealize.ShloMosaic

/-- Equal arguments, three of them. -/
theorem congr₃ {α β γ δ : Type} (f : α → β → γ → δ) {a a' : α} {b b' : β} {c c' : γ} (ha : a = a') (hb : b = b') (hc : c = c') :
    f a b c = f a' b' c' := by
  rw [ha, hb, hc]

/-- One over the root of a row's mean square, with the small constant added under the root. -/
def inv (x : Fin 2048 → EReal) : EReal :=
  Ideal.rsqrt (Ideal.div (∑ j, x j * x j) (Ideal.ofBits .f32 1157627904#32) + Ideal.ofBits .f32 897988541#32)

/-- The normed row, scaled by `g`, modulated by `scale` and `shift`. -/
def norm (x g shift scale : Fin 2048 → EReal) (d : Fin 2048) : EReal :=
  x d * inv x * g d * (1 + scale d) + shift d

/-- One hidden unit: its gate times the gate's logistic, times the other product. -/
def unit (n wg wu : Fin 2048 → EReal) : EReal :=
  (∑ j, n j * wg j) * Ideal.logistic (∑ j, n j * wg j) * ∑ j, n j * wu j

/-- The row plus half the gated update. -/
def residual (x gate o : Fin 2048 → EReal) (d : Fin 2048) : EReal :=
  x d + Ideal.ofBits .f32 1056964608#32 * gate d * o d

/-- The last norm. -/
def last (h g : Fin 2048 → EReal) (d : Fin 2048) : EReal := h d * inv h * g d

/-- The update of a row: all hidden units of the normed row, taken back to the row's lanes. -/
def update (n : Fin 2048 → EReal) (wg wu : Fin 2048 → Fin 5632 → EReal) (wd : Fin 5632 → Fin 2048 → EReal) (d : Fin 2048) : EReal :=
  ∑ k, unit n (fun j => wg j k) (fun j => wu j k) * wd k d

/-- The part of the update that a tile of 512 hidden units adds. -/
def part (n : Fin 2048 → EReal) (wg wu : Fin 2048 → Fin 5632 → EReal) (wd : Fin 5632 → Fin 2048 → EReal) (d : Fin 2048) (f : ℕ) : EReal :=
  if hf : f < 11 then
    ∑ k : Fin 512, unit n (fun j => wg j ⟨512 * f + k, by omega⟩) (fun j => wu j ⟨512 * f + k, by omega⟩) * wd ⟨512 * f + k, by omega⟩ d
  else 0

/-- The eleven tiles' parts make the update. -/
theorem sum_part (n : Fin 2048 → EReal) (wg wu : Fin 2048 → Fin 5632 → EReal) (wd : Fin 5632 → Fin 2048 → EReal) (d : Fin 2048) :
    ∑ f ∈ Finset.range 11, part n wg wu wd d f = update n wg wu wd d := by
  rw [Finset.sum_range]
  unfold update part
  simp only [Fin.is_lt, dite_true]
  rw [← Finset.sum_product']
  refine Finset.sum_bij' (fun p _ => ⟨512 * p.1 + p.2, by omega⟩) (fun k _ => (⟨k / 512, by omega⟩, ⟨k % 512, by omega⟩))
    (fun _ _ => Finset.mem_univ _) (fun _ _ => by simp) (fun p _ => ?_) (fun k _ => ?_) (fun _ _ => rfl)
  · refine Prod.ext (Fin.ext ?_) (Fin.ext ?_)
    · show (512 * (p.1 : ℕ) + p.2) / 512 = p.1
      omega
    · show (512 * (p.1 : ℕ) + p.2) % 512 = p.2
      omega
  · refine Fin.ext ?_
    show 512 * ((k : ℕ) / 512) + (k : ℕ) % 512 = k
    omega

end Cert.Step

end
-- ==== Proof.FfnRows.lean ====
/- The feed-forward kernel's arithmetic on sixteen rows and on one tile of hidden units, and how its blocks are cut into rows. -/
module

public import proofs.«01_k».proof.Proof.Gen.FfnIdeal.Skeleton
public import proofs.«01_k».proof.Proof.FfnMath
public import Idealize.ShloMosaic.Lib.Pipeline.ValueKit
public import Idealize.ShloMosaic.Lib.Pipeline.ReadBack

@[expose] public section

set_option maxRecDepth 16384

noncomputable section

namespace Cert.Step

open Cert.FfnIdeal Cert.FfnIdeal.Gen Idealize.ShloMosaic Idealize.ShloMosaic.TcCoe Idealize.SL.Sem

/-- Sixteen rows normed and modulated. -/
theorem norm_apply (G : Vec Ideal S1x1x2048 .f32) (sh sc : Vec Ideal S1x1x1x2048 .f32) (X : Vec Ideal S16x2048 .f32) (r : Fin 16)
    (d : Fin 2048) : (k0_pay7 (F := Ideal) G sh sc X (ix2 r d) : EReal) = norm (fun j => X (ix2 r j)) (fun j => G (ix3 0 0 j))
      (fun j => sh (ix4 0 0 0 j)) (fun j => sc (ix4 0 0 0 j)) d := by
  pointwise [k0_pay7, k0_pay4, k0_pay5, k0_pay6]
  rfl

/-- The running update plus one tile's part. -/
theorem tile_apply (n : Vec Ideal S512x2048 .bf16) (wg wu : Vec Ideal S1x2048x512 .bf16) (o : Vec Ideal S512x2048 .f32)
    (wd : Vec Ideal S1x512x2048 .f32) (r : Fin 512) (d : Fin 2048) :
    (k0_pay3 (F := Ideal) n wg wu o wd (ix2 r d) : EReal) = o (ix2 r d)
      + ∑ k : Fin 512, unit (fun j => n (ix2 r j)) (fun j => wg (ix3 0 j k)) (fun j => wu (ix3 0 j k)) * wd (ix3 0 k d) := by
  pointwise [k0_pay3]
  rfl

/-- Sixteen rows of the result. -/
theorem last_apply (gt : Vec Ideal S1x1x1x2048 .f32) (X o : Vec Ideal S16x2048 .f32) (g : Vec Ideal S1x2048 .f32) (r : Fin 16) (d : Fin 2048) :
    (k0_pay52 (F := Ideal) gt X o g (ix2 r d) : EReal) = last (residual (fun j => X (ix2 r j)) (fun j => gt (ix4 0 0 0 j))
      (fun j => o (ix2 r j))) (fun j => g (ix2 0 j)) d := by
  pointwise [k0_pay52, k0_pay51]
  rfl

/-- Stores read at an index that one of the last `n` covers: the earlier ones do not matter. -/
theorem canon_take {S : Shape} {e : EltTy} (n : ℕ) (L : List (View.Piece (Elt Ideal) S e)) (y : S.Idx) (hc : ∃ p ∈ L.take n, y ∈ p.1.set) :
    View.canon L y = View.canon (L.take n) y := by
  induction L generalizing n with
  | nil => simp
  | cons p L ih =>
    cases n with
    | zero => simp at hc
    | succ n =>
      rw [List.take_succ_cons] at hc ⊢
      by_cases hy : y ∈ p.1.set
      · obtain ⟨x, rfl⟩ := p.1.exists_idx_of_mem hy
        exact (View.canon_cons_emb p.1 p.2 L x).trans (View.canon_cons_emb p.1 p.2 _ x).symm
      · rw [View.canon_cons_of_not_mem p L hy, View.canon_cons_of_not_mem p _ hy]
        refine ih n ?_
        obtain ⟨q, hq, hq'⟩ := hc
        rcases List.mem_cons.mp hq with rfl | hq
        · exact absurd hq' hy
        · exact ⟨q, hq, hq'⟩

/-- A row of the modulation block. -/
abbrev modRow (X : Vec Ideal S1x1x9x2048 .f32) (k : ℕ) (h : ∀ a : Fin 4, (![0, 0, k, 0] : Fin 4 → ℕ) a + (![1, 1, 1, 2048] : Fin 4 → ℕ) a ≤ S1x1x9x2048.size a) :
    Vec Ideal S1x1x1x2048 .f32 :=
  View.ld X (Rect.unit (s := S1x1x9x2048) ![0, 0, k, 0] ![1, 1, 1, 2048] h)

/-- The sixteen rows of a block of rows that hold row `r`. -/
abbrev rows (X : Vec Ideal S512x2048 .f32) (r : Fin 512) : Vec Ideal S16x2048 .f32 :=
  fun i => X (ix2 ⟨(r : ℕ) / 16 * 16 + i 0, by have := r.isLt; have := (i 0).isLt; simp at *; omega⟩ (i 1))

theorem modRow_apply (X : Vec Ideal S1x1x9x2048 .f32) (k : Fin 9)
    (h : ∀ a : Fin 4, (![0, 0, (k : ℕ), 0] : Fin 4 → ℕ) a + (![1, 1, 1, 2048] : Fin 4 → ℕ) a ≤ S1x1x9x2048.size a) (j : Fin 2048) :
    modRow X k h (ix4 0 0 0 j) = X (ix4 0 0 k j) := by
  refine View.ld_unit_apply_of _ _ _ _ _ _ fun a => ?_
  fin_cases a <;> simp

/-- Row `r` among the sixteen that hold it. -/
theorem rows_apply (X : Vec Ideal S512x2048 .f32) (r : Fin 512) (j : Fin 2048) : rows X r (ix2 ⟨(r : ℕ) % 16, by omega⟩ j) = X (ix2 r j) := by
  refine congrArg X (congrArg (fun q => ix2 q j) (Fin.ext ?_))
  show (r : ℕ) / 16 * 16 + (r : ℕ) % 16 = r
  omega

end Cert.Step

end
-- ==== Proof.FfnBlock.lean ====
/- What one grid point of the last feed-forward call leaves in its scratch and in its output block. -/
module

public import proofs.«01_k».proof.Proof.Gen.FfnIdeal.Value
public import proofs.«01_k».proof.Proof.FfnRows
public import Idealize.ShloMosaic.Lib.Pipeline.ReadBack

@[expose] public section

set_option maxRecDepth 16384

noncomputable section

namespace Cert.FfnIdeal.Step

open Cert.FfnIdeal Cert.FfnIdeal.Gen Cert.Step Idealize.ShloMosaic Idealize.ShloMosaic.TcCoe Idealize.SL.Sem

variable (m : (ℓ : Loc nD τ sig) → Buf (Elt Ideal) ℓ)

/-- The first tile of a block of rows leaves the normed rows in the scratch. -/
theorem scratch_tiles (c : Dev nD) (t : Fin cfg0.N) (ha : t.val % 11 = 0) (hc : ¬t.val % 11 = 10) (y : S512x2048.Idx) :
    (outsAt0 m c t.val t.isLt).2 y = k0_pay7 (F := Ideal) (iblk m c 2 t) (modRow (iblk m c 1 t) 6 (by decide))
      (modRow (iblk m c 1 t) 7 (by decide)) (rows (iblk m c 0 t) (y 0)) (ix2 ⟨(y 0 : ℕ) % 16, by omega⟩ (y 1)) := by
  rw [outsAt0_A m c t ha hc]
  dsimp only
  frame_out
  canon_tiles x h
  all_goals
    refine congrArg₂ (fun q j => k0_pay7 (F := Ideal) (iblk m c 2 t) (modRow (iblk m c 1 t) 6 (by decide))
      (modRow (iblk m c 1 t) 7 (by decide)) q j) (funext fun i => ?_) ?_
    · refine View.ld_unit_apply_of _ _ _ _ i _ fun a => ?_
      fin_cases a <;> simp <;> omega
    · blk_ext

/-- … and its part in the output block. -/
theorem out_first (c : Dev nD) (t : Fin cfg0.N) (ha : t.val % 11 = 0) (hc : ¬t.val % 11 = 10) :
    (outsAt0 m c t.val t.isLt).1 = k0_pay3 (F := Ideal) (outsAt0 m c t.val t.isLt).2 (iblk m c 3 t) (iblk m c 4 t)
      (k0_pay2 (F := Ideal)) (iblk m c 5 t) := by
  rw [outsAt0_A m c t ha hc]
  dsimp only
  frame_out
  refine congrArg (fun n => k0_pay3 (F := Ideal) n (iblk m c 3 t) (iblk m c 4 t) (k0_pay2 (F := Ideal)) (iblk m c 5 t)) ?_
  rw [View.readCov_eq_canon_ld _ _ _ (View.cover_of_tiledL _ ![16, 2048] (by sl_kernel_rfl))]
  exact View.ld_unit_lit' _ _ (by decide)

/-- A later tile keeps the scratch. -/
theorem scratch_mid (c : Dev nD) (t : Fin cfg0.N) (ha : ¬t.val % 11 = 0) (hc : ¬t.val % 11 = 10) :
    (outsAt0 m c t.val t.isLt).2 = (outsAt0 m c (t.val - 1) (by omega)).2 := by
  rw [outsAt0_B m c t ha hc]
  rfl

/-- … and adds its part to the output block. -/
theorem out_mid (c : Dev nD) (t : Fin cfg0.N) (ha : ¬t.val % 11 = 0) (hc : ¬t.val % 11 = 10) :
    (outsAt0 m c t.val t.isLt).1 = k0_pay3 (F := Ideal) (outsAt0 m c (t.val - 1) (by omega)).2 (iblk m c 3 t) (iblk m c 4 t)
      (outsAt0 m c (t.val - 1) (by omega)).1 (iblk m c 5 t) := by
  rw [outsAt0_B m c t ha hc]
  dsimp only
  frame_out
  simp only [read_unread_whole]

/-- The last tile finishes each row of the output block. -/
theorem out_last (c : Dev nD) (t : Fin cfg0.N) (ha : ¬t.val % 11 = 0) (hc : t.val % 11 = 10) (y : S512x2048.Idx) :
    (outsAt0 m c t.val t.isLt).1 y = k0_pay52 (F := Ideal) (modRow (iblk m c 1 t) 8 (by decide)) (rows (iblk m c 0 t) (y 0))
      (rows (k0_pay3 (F := Ideal) (outsAt0 m c (t.val - 1) (by omega)).2 (iblk m c 3 t) (iblk m c 4 t)
        (outsAt0 m c (t.val - 1) (by omega)).1 (iblk m c 5 t)) (y 0)) (iblk m c 6 t) (ix2 ⟨(y 0 : ℕ) % 16, by omega⟩ (y 1)) := by
  rw [outsAt0_C m c t ha hc]
  dsimp only
  frame_open
  simp (disch := decide) only [↓ View.readCov_skip, ↓ View.readCov_cons_toLoadRect, ↓ View.readCov_fill]
  frame_out
  simp only [read_unread_whole]
  refine (canon_take 32 _ y (View.cover_of_tiledL _ ![16, 2048] (by sl_kernel_rfl) y)).trans ?_
  simp only [List.take]
  canon_tiles x h
  all_goals
    refine congr₃ (fun q p j => k0_pay52 (F := Ideal) (modRow (iblk m c 1 t) 8 (by decide)) q p (iblk m c 6 t) j)
      (funext fun i => ?_) (funext fun i => ?_) ?_
    · refine View.ld_unit_apply_of _ _ _ _ i _ fun a => ?_
      fin_cases a <;> simp <;> omega
    · refine View.ld_unit_apply_of _ _ _ _ i _ fun a => ?_
      fin_cases a <;> simp <;> omega
    · blk_ext

end Cert.FfnIdeal.Step

end
-- ==== Proof.FfnHost.lean ====
/- What the operands of the last feed-forward call hold, entry by entry. -/
module

public import proofs.«01_k».proof.Proof.Gen.FfnIdeal.Value
public import Idealize.ShloMosaic.Lib.Pointwise
public import Idealize.ShloMosaic.Lib.Pipeline.ValueKit

@[expose] public section

set_option maxRecDepth 16384

noncomputable section

namespace Cert.FfnIdeal.Step

open Cert.FfnIdeal Cert.FfnIdeal.Gen Idealize.ShloMosaic Idealize.ShloMosaic.TcCoe Idealize.SL.Sem

variable (m : (ℓ : Loc nD τ sig) → Buf (Elt Ideal) ℓ)

/-- Where each window's block lies. -/
theorem idx : ∀ t : Fin cfg0.N, win0_0.index t = ![t.val / 11, 0] ∧ win0_1.index t = ![3, t.val / 88, 0, 0]
    ∧ win0_2.index t = ![11, 0, 0] ∧ win0_3.index t = ![3, 0, t.val % 11] ∧ win0_4.index t = ![3, 0, t.val % 11 + 11]
    ∧ win0_5.index t = ![3, t.val % 11, 0] ∧ win0_6.index t = ![0, 0] :=
  (by decide +kernel : ∀ t : Fin grid0.N, _)

/-- A row of the hidden state. -/
abbrev xrow (c : Dev nD) (r : Fin 8704) (j : Fin 2048) : EReal := m ((c : Thread nD τ).loc main_arg0) (ix2 r j)

/-- A modulation row of batch entry `b`. -/
abbrev mod (c : Dev nD) (b : Fin 8) (k : Fin 9) (j : Fin 2048) : EReal := m ((c : Thread nD τ).loc main_arg1) (ix4 3 b k j)

/-- The norm's scale. -/
abbrev gain (c : Dev nD) (j : Fin 2048) : EReal := m ((c : Thread nD τ).loc main_arg2) (ix3 3 2 j)

/-- The gate's weights. -/
abbrev wgate (c : Dev nD) (j : Fin 2048) (k : Fin 5632) : EReal := m ((c : Thread nD τ).loc main_arg3) (ix3 3 j ⟨k, by omega⟩)

/-- The other product's weights. -/
abbrev wup (c : Dev nD) (j : Fin 2048) (k : Fin 5632) : EReal := m ((c : Thread nD τ).loc main_arg3) (ix3 3 j ⟨5632 + k, by omega⟩)

/-- The weights back to the row's lanes. -/
abbrev wdown (c : Dev nD) (k : Fin 5632) (d : Fin 2048) : EReal := m ((c : Thread nD τ).loc main_arg4) (ix3 3 k d)

/-- The last norm's scale. -/
abbrev lgain (c : Dev nD) (j : Fin 2048) : EReal := m ((c : Thread nD τ).loc main_arg5) (ix1 j)

theorem x_read (c : Dev nD) (t : Fin cfg0.N) (r : Fin 512) (j : Fin 2048) (R : Fin 8704) (hR : (R : ℕ) = t.val / 11 * 512 + r) :
    (iblk m c 0 t (ix2 r j) : EReal) = xrow m c R j := by
  have e : iblk m c 0 t (ix2 r j) = V m c main_arg0 (ix2 R j) := by blk_ext [iblk, idx t]
  rw [e]
  entry_read
  rfl

theorem mod_read (c : Dev nD) (t : Fin cfg0.N) (k : Fin 9) (j : Fin 2048) (b : Fin 8) (hb : (b : ℕ) = t.val / 88) :
    (iblk m c 1 t (ix4 0 0 k j) : EReal) = mod m c b k j := by
  have e : iblk m c 1 t (ix4 0 0 k j) = V m c main_arg1 (ix4 3 b k j) := by blk_ext [iblk, idx t]
  rw [e]
  entry_read
  rfl

theorem gain_read (c : Dev nD) (t : Fin cfg0.N) (j : Fin 2048) : (iblk m c 2 t (ix3 0 0 j) : EReal) = gain m c j := by
  have e : iblk m c 2 t (ix3 0 0 j) = V m c main_v0 (ix3 11 0 j) := by blk_ext [iblk, idx t]
  rw [e]
  entry_read
  pointwise

theorem wgate_read (c : Dev nD) (t : Fin cfg0.N) (j : Fin 2048) (k : Fin 512) (K : Fin 5632) (hK : (K : ℕ) = 512 * (t.val % 11) + k) :
    (iblk m c 3 t (ix3 0 j k) : EReal) = wgate m c j K := by
  have e : iblk m c 3 t (ix3 0 j k) = V m c main_v1 (ix3 3 j ⟨K, by omega⟩) := by blk_ext [iblk, idx t]
  rw [e]
  entry_read
  pointwise

theorem wup_read (c : Dev nD) (t : Fin cfg0.N) (j : Fin 2048) (k : Fin 512) (K : Fin 5632) (hK : (K : ℕ) = 512 * (t.val % 11) + k) :
    (iblk m c 4 t (ix3 0 j k) : EReal) = wup m c j K := by
  have e : iblk m c 4 t (ix3 0 j k) = V m c main_v1 (ix3 3 j ⟨5632 + K, by omega⟩) := by blk_ext [iblk, idx t]
  rw [e]
  entry_read
  pointwise

theorem wdown_read (c : Dev nD) (t : Fin cfg0.N) (k : Fin 512) (d : Fin 2048) (K : Fin 5632) (hK : (K : ℕ) = 512 * (t.val % 11) + k) :
    (iblk m c 5 t (ix3 0 k d) : EReal) = wdown m c K d := by
  have e : iblk m c 5 t (ix3 0 k d) = V m c main_arg4 (ix3 3 K d) := by blk_ext [iblk, idx t]
  rw [e]
  entry_read
  rfl

theorem lgain_read (c : Dev nD) (t : Fin cfg0.N) (j : Fin 2048) : (iblk m c 6 t (ix2 0 j) : EReal) = lgain m c j := by
  have e : iblk m c 6 t (ix2 0 j) = V m c main_v2 (ix2 0 j) := by blk_ext [iblk, idx t]
  rw [e]
  entry_read
  pointwise

end Cert.FfnIdeal.Step

end
-- ==== Proof.FfnFinal.lean ====
/- The last feed-forward call's result, entry by entry: the row's half step, then the last norm. -/
module

public import proofs.«01_k».proof.Proof.FfnBlock
public import proofs.«01_k».proof.Proof.FfnHost

@[expose] public section

set_option maxRecDepth 16384

noncomputable section

namespace Cert.FfnIdeal.Step

open Cert.FfnIdeal Cert.FfnIdeal.Gen Cert.Step Idealize.ShloMosaic Idealize.ShloMosaic.TcCoe Idealize.SL.Sem

variable (m : (ℓ : Loc nD τ sig) → Buf (Elt Ideal) ℓ)

/-- The normed row `R` of batch entry `b`. -/
abbrev nrow (c : Dev nD) (R : Fin 8704) (b : Fin 8) : Fin 2048 → EReal := norm (xrow m c R) (gain m c) (mod m c b 6) (mod m c b 7)

theorem scratch_row (c : Dev nD) (t : Fin cfg0.N) (ha : t.val % 11 = 0) (r : Fin 512) (j : Fin 2048) (R : Fin 8704) (b : Fin 8)
    (hR : (R : ℕ) = t.val / 11 * 512 + r) (hb : (b : ℕ) = t.val / 88) :
    ((outsAt0 m c t.val t.isLt).2 (ix2 r j) : EReal) = nrow m c R b j := by
  refine (scratch_tiles m c t ha (by omega) (ix2 r j)).trans ((norm_apply _ _ _ _ _ _).trans ?_)
  unfold nrow
  congr 1
  · funext i
    exact (rows_apply _ r i).trans (x_read m c t r i R hR)
  · funext i
    exact gain_read m c t i
  · funext i
    exact (modRow_apply _ 6 _ i).trans (mod_read m c t 6 i b hb)
  · funext i
    exact (modRow_apply _ 7 _ i).trans (mod_read m c t 7 i b hb)

theorem tile_row (c : Dev nD) (t : Fin cfg0.N) (n : Vec Ideal S512x2048 .bf16) (o : Vec Ideal S512x2048 .f32) (r : Fin 512) (d : Fin 2048)
    (w : Fin 2048 → EReal) (hn : ∀ j, (n (ix2 r j) : EReal) = w j) :
    (k0_pay3 (F := Ideal) n (iblk m c 3 t) (iblk m c 4 t) o (iblk m c 5 t) (ix2 r d) : EReal)
      = o (ix2 r d) + part w (wgate m c) (wup m c) (wdown m c) d (t.val % 11) := by
  refine (tile_apply _ _ _ _ _ _ _).trans (congrArg _ ?_)
  unfold part
  rw [dif_pos (Nat.mod_lt _ (by decide))]
  refine Finset.sum_congr rfl fun k _ => ?_
  refine congrArg₂ (· * ·) (congr₃ unit (funext fun j => hn j) (funext fun j => ?_) (funext fun j => ?_)) ?_
  · exact wgate_read m c t j k _ rfl
  · exact wup_read m c t j k _ rfl
  · exact wdown_read m c t k d _ rfl

/-- Before the last tile: the scratch holds the normed rows, the output block the parts so far. -/
theorem sofar (c : Dev nD) (p f : ℕ) (hf : f < 10) (hp : p < 16) (hN : 11 * p + f < cfg0.N) (r : Fin 512) (R : Fin 8704) (b : Fin 8)
    (hR : (R : ℕ) = p * 512 + r) (hb : (b : ℕ) = p / 8) :
    (∀ j, ((outsAt0 m c (11 * p + f) hN).2 (ix2 r j) : EReal) = nrow m c R b j)
      ∧ ∀ d, ((outsAt0 m c (11 * p + f) hN).1 (ix2 r d) : EReal)
        = ∑ g ∈ Finset.range (f + 1), part (nrow m c R b) (wgate m c) (wup m c) (wdown m c) d g := by
  induction f with
  | zero =>
    have hs : ∀ j, ((outsAt0 m c (11 * p + 0) hN).2 (ix2 r j) : EReal) = nrow m c R b j := fun j =>
      scratch_row m c ⟨11 * p + 0, hN⟩ (by simp) r j R b (by simp [hR]) (by simp [hb]; omega)
    refine ⟨hs, fun d => ?_⟩
    rw [out_first m c ⟨11 * p + 0, hN⟩ (by simp) (by simp)]
    refine (tile_row m c _ _ _ r d _ hs).trans ?_
    have hz : (k0_pay2 (F := Ideal) (ix2 r d) : EReal) = 0 := by pointwise [k0_pay2]
    rw [hz]
    simp
  | succ f ih =>
    obtain ⟨hs, ho⟩ := ih (by omega) (by omega)
    have h1 : ¬(11 * p + (f + 1)) % 11 = 0 := by omega
    have h2 : ¬(11 * p + (f + 1)) % 11 = 10 := by omega
    refine ⟨fun j => ?_, fun d => ?_⟩
    · rw [scratch_mid m c ⟨11 * p + (f + 1), hN⟩ h1 h2]
      exact hs j
    · rw [out_mid m c ⟨11 * p + (f + 1), hN⟩ h1 h2]
      refine (tile_row m c _ _ _ r d _ hs).trans ?_
      rw [Finset.sum_range_succ, ← ho d]
      have e : (11 * p + (f + 1)) % 11 = f + 1 := by omega
      exact congrArg _ (congrArg _ e)

/-- The last tile leaves the finished row. -/
theorem done (c : Dev nD) (p : ℕ) (hp : p < 16) (hN : 11 * p + 10 < cfg0.N) (r : Fin 512) (d : Fin 2048) (R : Fin 8704) (b : Fin 8)
    (hR : (R : ℕ) = p * 512 + r) (hb : (b : ℕ) = p / 8) :
    ((outsAt0 m c (11 * p + 10) hN).1 (ix2 r d) : EReal)
      = last (residual (xrow m c R) (mod m c b 8) (update (nrow m c R b) (wgate m c) (wup m c) (wdown m c))) (lgain m c) d := by
  obtain ⟨hs, ho⟩ := sofar m c p 9 (by omega) hp (by omega) r R b hR hb
  have h1 : ¬(11 * p + 10) % 11 = 0 := by omega
  have h2 : (11 * p + 10) % 11 = 10 := by omega
  have hR' : (R : ℕ) = (11 * p + 10) / 11 * 512 + r := by omega
  have hb' : (b : ℕ) = (11 * p + 10) / 88 := by omega
  refine (out_last m c ⟨11 * p + 10, hN⟩ h1 h2 (ix2 r d)).trans ((last_apply _ _ _ _ _ _).trans ?_)
  refine congr₃ last (congr₃ residual ?_ ?_ ?_) ?_ rfl
  · funext i
    exact (rows_apply _ r i).trans (x_read m c _ r i R hR')
  · funext i
    exact (modRow_apply _ 8 _ i).trans (mod_read m c _ 8 i b hb')
  · funext i
    refine (rows_apply _ r i).trans ((tile_row m c _ _ _ r i _ hs).trans ?_)
    rw [← sum_part, Finset.sum_range_succ _ 10, ← ho i]
    exact congrArg _ (congrArg _ h2)
  · funext i
    exact lgain_read m c _ i

/-- The result, entry by entry. -/
theorem result (c : Dev nD) (r : Fin 8192) (d : Fin 2048) (R : Fin 8704) (b : Fin 8) (hR : (R : ℕ) = r) (hb : (b : ℕ) = r / 4096) :
    (Value.G7 m c (ix2 r d) : EReal)
      = last (residual (xrow m c R) (mod m c b 8) (update (nrow m c R b) (wgate m c) (wup m c) (wdown m c))) (lgain m c) d := by
  have hN : 11 * ((r : ℕ) / 512) + 10 < cfg0.N := by
    have h : cfg0.N = 176 := N_0
    omega
  have hpt : Value.pt7Of (ix2 r d) = 11 * ((r : ℕ) / 512) + 10 := by
    show 11 * (1 * ((r : ℕ) / 512 - 0) + 1 * ((d : ℕ) / 2048 - 0)) + 10 = _
    omega
  have hloc : Value.loc7Of (ix2 r d) = ix2 ⟨(r : ℕ) % 512, by omega⟩ d := by
    funext a
    refine Fin.ext ?_
    match a with
    | ⟨0, _⟩ => rfl
    | ⟨1, _⟩ => exact Nat.mod_eq_of_lt d.isLt
  have hat : ∀ (n : ℕ) (h : n < cfg0.N), n = 11 * ((r : ℕ) / 512) + 10 →
      (outsAt0 m c n h).1 = (outsAt0 m c (11 * ((r : ℕ) / 512) + 10) hN).1 := by
    rintro n h rfl
    rfl
  unfold Value.G7
  rw [dif_pos (hpt ▸ hN), ← Value.outsAt0_sweep m c _ (hpt ▸ hN), hat _ _ hpt, hloc]
  refine done m c _ (by omega) hN _ d R b ?_ ?_
  · show (R : ℕ) = (r : ℕ) / 512 * 512 + (r : ℕ) % 512
    omega
  · omega

end Cert.FfnIdeal.Step

end
-- ==== Proof.FfnRef.lean ====
/- The last feed-forward half step as its reference states it, entry by entry. -/
module

public import proofs.«01_k».proof.Proof.Gen.FfnRefIdeal.Read
public import proofs.«01_k».proof.Proof.FfnMath
public import Idealize.ShloMosaic.Lib.Pointwise

@[expose] public section

set_option maxRecDepth 16384

noncomputable section

namespace Cert.FfnRefIdeal.Step

open Cert.FfnRefIdeal Cert.FfnRefIdeal.Gen Cert.FfnRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S4x2048x11264, .f32⟩ : BufTy).Contents (Elt Ideal))
  (x4 : (⟨S4x5632x2048, .f32⟩ : BufTy).Contents (Elt Ideal)) (x5 : (⟨S2048, .f32⟩ : BufTy).Contents (Elt Ideal))

/-- Row `r` of batch entry `b` in the flat hidden state. -/
abbrev flat (b : Fin 2) (r : Fin 4096) : Fin 8704 := ⟨b * 4096 + r, by omega⟩

abbrev lane (k : Fin 9) (b : Fin 2) (j : Fin 2048) : EReal := x1 (ix4 3 ⟨b, by omega⟩ k j)

theorem x_apply (b : Fin 2) (r : Fin 4096) (j : Fin 2048) : (val_main_v1 x0 (ix3 b r j) : EReal) = x0 (ix2 (flat b r) j) := by
  pointwise [val_main_v1, val_main_v0]

theorem gate_apply (b : Fin 2) (j : Fin 2048) : (val_main_v6 x1 (ix3 b 0 j) : EReal) = lane x1 8 b j := by
  pointwise [val_main_v6, val_main_v5, val_main_v4, val_main_v3, val_main_v2]

theorem shift_apply (b : Fin 2) (j : Fin 2048) : (val_main_v12 x1 (ix3 b 0 j) : EReal) = lane x1 6 b j := by
  pointwise [val_main_v12, val_main_v11, val_main_v4, val_main_v3, val_main_v2]

theorem scale_apply (b : Fin 2) (j : Fin 2048) : (val_main_v14 x1 (ix3 b 0 j) : EReal) = lane x1 7 b j := by
  pointwise [val_main_v14, val_main_v13, val_main_v4, val_main_v3, val_main_v2]

theorem gain_apply (j : Fin 2048) : (val_main_v10 x2 (ix1 j) : EReal) = x2 (ix3 3 2 j) := by
  pointwise [val_main_v10, val_main_v9]

theorem inv_apply (b : Fin 2) (r : Fin 4096) : (val_main_v22 x0 (ix3 b r 0) : EReal) = inv (fun j => val_main_v1 x0 (ix3 b r j)) := by
  unfold val_main_v22 val_main_v21 val_main_v20 val_main_cst_2 val_main_v19 val_main_v18 val_main_cst_1 val_main_v17 val_main_v16
    val_main_cst_0 val_main_v15
  generalize val_main_v1 (F := Ideal) x0 = y
  pointwise
  rfl

theorem norm_apply (b : Fin 2) (r : Fin 4096) (d : Fin 2048) : (val_main_v33 x0 x1 x2 (ix3 b r d) : EReal)
    = norm (fun j => x0 (ix2 (flat b r) j)) (fun j => x2 (ix3 3 2 j)) (lane x1 6 b) (lane x1 7 b) d := by
  have hx := x_apply x0 b r
  have hs := shift_apply x1 b
  have hc := scale_apply x1 b
  have hg := gain_apply x2
  have hi := inv_apply x0 b r
  simp only [hx] at hi
  unfold val_main_v33 val_main_v32 val_main_v31 val_main_v30 val_main_v29 val_main_v28 val_main_cst_3 val_main_v27 val_main_v26
    val_main_v25 val_main_v24 val_main_v23
  generalize val_main_v1 (F := Ideal) x0 = y at hx ⊢
  generalize val_main_v12 (F := Ideal) x1 = s at hs ⊢
  generalize val_main_v14 (F := Ideal) x1 = k at hc ⊢
  generalize val_main_v10 (F := Ideal) x2 = g at hg ⊢
  generalize val_main_v22 (F := Ideal) x0 = i at hi ⊢
  pointwise
  rw [hx, hi, hg, hc, hs]
  rfl

theorem hidden_apply (b : Fin 2) (r : Fin 4096) (k : Fin 5632) (n wg wu : Fin 2048 → EReal)
    (hn : ∀ j, (val_main_v33 x0 x1 x2 (ix3 b r j) : EReal) = n j) (hg : ∀ j, (x3 (ix3 3 j ⟨k, by omega⟩) : EReal) = wg j)
    (hu : ∀ j, (x3 (ix3 3 j ⟨5632 + k, by omega⟩) : EReal) = wu j) : (val_main_v42 x0 x1 x2 x3 (ix3 b r k) : EReal) = unit n wg wu := by
  unfold val_main_v42 val_main_v41 val_main_call0_v5 val_main_call0_v4 val_main_call0_cst_0 val_main_call0_v3 val_main_call0_v2
    val_main_call0_cst val_main_call0_v1 val_main_call0_v0 val_main_v40 val_main_v39 val_main_v38 val_main_v35 val_main_v34
  generalize val_main_v33 (F := Ideal) x0 x1 x2 = y at hn ⊢
  pointwise
  simp only [hn, hg, hu]
  rfl

theorem residual_apply (b : Fin 2) (r : Fin 4096) (d : Fin 2048) : (val_main_v46 x0 x1 x2 x3 x4 (ix3 b r d) : EReal)
    = residual (fun j => x0 (ix2 (flat b r) j)) (lane x1 8 b)
        (update (norm (fun j => x0 (ix2 (flat b r) j)) (fun j => x2 (ix3 3 2 j)) (lane x1 6 b) (lane x1 7 b))
          (fun j k => x3 (ix3 3 j ⟨k, by omega⟩)) (fun j k => x3 (ix3 3 j ⟨5632 + k, by omega⟩)) (fun k j => x4 (ix3 3 k j))) d := by
  have hx := x_apply x0 b r
  have hg := gate_apply x1 b
  have hh := fun k => hidden_apply x0 x1 x2 x3 b r k _ _ _ (norm_apply x0 x1 x2 b r) (fun _ => rfl) (fun _ => rfl)
  unfold val_main_v46 val_main_v45 val_main_v44 val_main_v8 val_main_v7 val_main_cst val_main_v43 val_main_v37 val_main_v36
  generalize val_main_v1 (F := Ideal) x0 = y at hx ⊢
  generalize val_main_v6 (F := Ideal) x1 = g at hg ⊢
  generalize val_main_v42 (F := Ideal) x0 x1 x2 x3 = h at hh ⊢
  pointwise
  rw [hx, hg]
  simp only [hh]
  rfl

/-- The result, row `q` of the flat result. -/
theorem result (q : Fin 8192) (d : Fin 2048) : (val_main_v60 x0 x1 x2 x3 x4 x5 (ix2 q d) : EReal)
    = last (fun j => val_main_v46 x0 x1 x2 x3 x4 (ix3 ⟨(q : ℕ) / 4096, by omega⟩ ⟨(q : ℕ) % 4096, by omega⟩ j)) (fun j => x5 (ix1 j)) d := by
  unfold val_main_v60 val_main_v59 val_main_v58 val_main_v57 val_main_v56 val_main_v55 val_main_v54 val_main_v53 val_main_v52
    val_main_cst_6 val_main_v51 val_main_v50 val_main_cst_5 val_main_v49 val_main_v48 val_main_cst_4 val_main_v47
  generalize val_main_v46 (F := Ideal) x0 x1 x2 x3 x4 = y
  pointwise
  rfl

end Cert.FfnRefIdeal.Step

end
-- ==== Proof.FfnEq.lean ====
/- The last feed-forward call and its reference leave equal results. -/
module

public import proofs.«01_k».proof.Proof.FfnFinal
public import proofs.«01_k».proof.Proof.FfnRef

@[expose] public section

set_option maxRecDepth 16384

noncomputable section

namespace Cert.FfnIdeal.Step

open Cert.FfnIdeal Cert.FfnIdeal.Gen Cert.Step Idealize.ShloMosaic Idealize.ShloMosaic.TcCoe Idealize.SL.Sem

variable (m : (ℓ : Loc nD τ sig) → Buf (Elt Ideal) ℓ)

/-- A row of the flat result is row `q % 4096` of batch entry `q / 4096`. -/
theorem flat_row (q : Fin 8192) :
    FfnRefIdeal.Step.flat ⟨(q : ℕ) / 4096, by omega⟩ ⟨(q : ℕ) % 4096, by omega⟩ = (⟨q, by omega⟩ : Fin 8704) := by
  refine Fin.ext ?_
  show (q : ℕ) / 4096 * 4096 + (q : ℕ) % 4096 = q
  omega

theorem equal (c : Dev nD) : Value.G7 m c
    = (FfnRefIdeal.Read.val_main_v60 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) : Vec Ideal S8192x2048 .f32) := by
  funext i
  obtain ⟨q, d, rfl⟩ : ∃ (q : Fin 8192) (d : Fin 2048), i = ix2 q d := ⟨i 0, i 1, by funext a; fin_cases a <;> rfl⟩
  refine (result m c q d ⟨q, by omega⟩ ⟨(q : ℕ) / 4096, by omega⟩ rfl rfl).trans
    (Eq.trans ?_ (FfnRefIdeal.Step.result _ _ _ _ _ _ q d).symm)
  refine congrArg (fun y => last y (lgain m c) d) (funext fun j => ?_)
  refine Eq.trans ?_ (FfnRefIdeal.Step.residual_apply _ _ _ _ _ _ _ j).symm
  rw [flat_row q]

end Cert.FfnIdeal.Step

end
-- ==== Proof.HalfBlock.lean ====
/- What one grid point of a feed-forward call before the last leaves in its scratch and in its output block. -/
module

public import proofs.«01_k».proof.Proof.Gen.HalfIdeal.Value
public import proofs.«01_k».proof.Proof.FfnRows
public import Idealize.ShloMosaic.Lib.Pipeline.ReadBack

@[expose] public section

set_option maxRecDepth 16384

noncomputable section

namespace Cert.HalfIdeal.Step

open Cert.HalfIdeal Cert.HalfIdeal.Gen Cert.Step Idealize.ShloMosaic Idealize.ShloMosaic.TcCoe Idealize.SL.Sem

/-- Sixteen rows of the result. -/
theorem half_apply (gt : Vec Ideal S1x1x1x2048 .f32) (X o : Vec Ideal S16x2048 .f32) (r : Fin 16) (d : Fin 2048) :
    (k0_pay55 (F := Ideal) gt X o (ix2 r d) : EReal)
      = residual (fun j => X (ix2 r j)) (fun j => gt (ix4 0 0 0 j)) (fun j => o (ix2 r j)) d := by
  pointwise [k0_pay55, k0_pay54]
  rfl

variable (m : (ℓ : Loc nD τ sig) → Buf (Elt Ideal) ℓ)

/-- The first tile of a block of rows leaves the normed rows in the scratch. -/
theorem scratch_tiles (c : Dev nD) (t : Fin cfg0.N) (ha : t.val % 11 = 0) (hc : ¬t.val % 11 = 10) (y : S512x2048.Idx) :
    (outsAt0 m c t.val t.isLt).2 y = Cert.FfnIdeal.Gen.k0_pay7 (F := Ideal) (iblk m c 2 t) (modRow (iblk m c 1 t) 0 (by decide))
      (modRow (iblk m c 1 t) 1 (by decide)) (rows (iblk m c 0 t) (y 0)) (ix2 ⟨(y 0 : ℕ) % 16, by omega⟩ (y 1)) := by
  rw [outsAt0_A m c t ha hc]
  dsimp only
  frame_out
  canon_tiles x h
  all_goals
    refine congrArg₂ (fun q j => Cert.FfnIdeal.Gen.k0_pay7 (F := Ideal) (iblk m c 2 t) (modRow (iblk m c 1 t) 0 (by decide))
      (modRow (iblk m c 1 t) 1 (by decide)) q j) (funext fun i => ?_) ?_
    · refine View.ld_unit_apply_of _ _ _ _ i _ fun a => ?_
      fin_cases a <;> simp <;> omega
    · blk_ext

/-- … and its part in the output block. -/
theorem out_first (c : Dev nD) (t : Fin cfg0.N) (ha : t.val % 11 = 0) (hc : ¬t.val % 11 = 10) :
    (outsAt0 m c t.val t.isLt).1 = Cert.FfnIdeal.Gen.k0_pay3 (F := Ideal) (outsAt0 m c t.val t.isLt).2 (iblk m c 3 t) (iblk m c 4 t)
      (Cert.FfnIdeal.Gen.k0_pay2 (F := Ideal)) (iblk m c 5 t) := by
  rw [outsAt0_A m c t ha hc]
  dsimp only
  frame_out
  refine congrArg (fun n => Cert.FfnIdeal.Gen.k0_pay3 (F := Ideal) n (iblk m c 3 t) (iblk m c 4 t) (Cert.FfnIdeal.Gen.k0_pay2 (F := Ideal)) (iblk m c 5 t)) ?_
  rw [View.readCov_eq_canon_ld _ _ _ (View.cover_of_tiledL _ ![16, 2048] (by sl_kernel_rfl))]
  exact View.ld_unit_lit' _ _ (by decide)

/-- A later tile keeps the scratch. -/
theorem scratch_mid (c : Dev nD) (t : Fin cfg0.N) (ha : ¬t.val % 11 = 0) (hc : ¬t.val % 11 = 10) :
    (outsAt0 m c t.val t.isLt).2 = (outsAt0 m c (t.val - 1) (by omega)).2 := by
  rw [outsAt0_B m c t ha hc]
  rfl

/-- … and adds its part to the output block. -/
theorem out_mid (c : Dev nD) (t : Fin cfg0.N) (ha : ¬t.val % 11 = 0) (hc : ¬t.val % 11 = 10) :
    (outsAt0 m c t.val t.isLt).1 = Cert.FfnIdeal.Gen.k0_pay3 (F := Ideal) (outsAt0 m c (t.val - 1) (by omega)).2 (iblk m c 3 t) (iblk m c 4 t)
      (outsAt0 m c (t.val - 1) (by omega)).1 (iblk m c 5 t) := by
  rw [outsAt0_B m c t ha hc]
  dsimp only
  frame_out
  simp only [read_unread_whole]
  rfl

/-- The last tile finishes each row of the output block. -/
theorem out_last (c : Dev nD) (t : Fin cfg0.N) (ha : ¬t.val % 11 = 0) (hc : t.val % 11 = 10) (y : S512x2048.Idx) :
    (outsAt0 m c t.val t.isLt).1 y = k0_pay55 (F := Ideal) (modRow (iblk m c 1 t) 2 (by decide)) (rows (iblk m c 0 t) (y 0))
      (rows (Cert.FfnIdeal.Gen.k0_pay3 (F := Ideal) (outsAt0 m c (t.val - 1) (by omega)).2 (iblk m c 3 t) (iblk m c 4 t)
        (outsAt0 m c (t.val - 1) (by omega)).1 (iblk m c 5 t)) (y 0)) (ix2 ⟨(y 0 : ℕ) % 16, by omega⟩ (y 1)) := by
  rw [outsAt0_C m c t ha hc]
  dsimp only
  frame_open
  simp (disch := decide) only [↓ View.readCov_skip, ↓ View.readCov_cons_toLoadRect, ↓ View.readCov_fill]
  frame_out
  simp only [read_unread_whole]
  refine (canon_take 32 _ y (View.cover_of_tiledL _ ![16, 2048] (by sl_kernel_rfl) y)).trans ?_
  simp only [List.take]
  canon_tiles x h
  all_goals
    refine congr₃ (fun q p j => k0_pay55 (F := Ideal) (modRow (iblk m c 1 t) 2 (by decide)) q p j)
      (funext fun i => ?_) (funext fun i => ?_) ?_
    · refine View.ld_unit_apply_of _ _ _ _ i _ fun a => ?_
      fin_cases a <;> simp <;> omega
    · refine View.ld_unit_apply_of _ _ _ _ i _ fun a => ?_
      fin_cases a <;> simp <;> omega
    · blk_ext

end Cert.HalfIdeal.Step

end
-- ==== Proof.HalfHost.lean ====
/- What the operands of a feed-forward call before the last hold, entry by entry. -/
module

public import proofs.«01_k».proof.Proof.Gen.HalfIdeal.Value
public import Idealize.ShloMosaic.Lib.Pointwise
public import Idealize.ShloMosaic.Lib.Pipeline.ValueKit

@[expose] public section

set_option maxRecDepth 16384

noncomputable section

namespace Cert.HalfIdeal.Step

open Cert.HalfIdeal Cert.HalfIdeal.Gen Idealize.ShloMosaic Idealize.ShloMosaic.TcCoe Idealize.SL.Sem

variable (m : (ℓ : Loc nD τ sig) → Buf (Elt Ideal) ℓ)

/-- Where each window's block lies. -/
theorem idx : ∀ t : Fin cfg0.N, win0_0.index t = ![t.val / 11, 0] ∧ win0_1.index t = ![0, t.val / 88, 0, 0]
    ∧ win0_2.index t = ![0, 0, 0] ∧ win0_3.index t = ![0, 0, t.val % 11] ∧ win0_4.index t = ![0, 0, t.val % 11 + 11]
    ∧ win0_5.index t = ![0, t.val % 11, 0] :=
  (by decide +kernel : ∀ t : Fin grid0.N, _)

/-- A row of the hidden state. -/
abbrev xrow (c : Dev nD) (r : Fin 8704) (j : Fin 2048) : EReal := m ((c : Thread nD τ).loc main_arg0) (ix2 r j)

/-- A modulation row of batch entry `b`. -/
abbrev mod (c : Dev nD) (b : Fin 8) (k : Fin 9) (j : Fin 2048) : EReal := m ((c : Thread nD τ).loc main_arg1) (ix4 0 b k j)

/-- The norm's scale. -/
abbrev gain (c : Dev nD) (j : Fin 2048) : EReal := m ((c : Thread nD τ).loc main_arg2) (ix3 0 0 j)

/-- The gate's weights. -/
abbrev wgate (c : Dev nD) (j : Fin 2048) (k : Fin 5632) : EReal := m ((c : Thread nD τ).loc main_arg3) (ix3 0 j ⟨k, by omega⟩)

/-- The other product's weights. -/
abbrev wup (c : Dev nD) (j : Fin 2048) (k : Fin 5632) : EReal := m ((c : Thread nD τ).loc main_arg3) (ix3 0 j ⟨5632 + k, by omega⟩)

/-- The weights back to the row's lanes. -/
abbrev wdown (c : Dev nD) (k : Fin 5632) (d : Fin 2048) : EReal := m ((c : Thread nD τ).loc main_arg4) (ix3 0 k d)

theorem x_read (c : Dev nD) (t : Fin cfg0.N) (r : Fin 512) (j : Fin 2048) (R : Fin 8704) (hR : (R : ℕ) = t.val / 11 * 512 + r) :
    (iblk m c 0 t (ix2 r j) : EReal) = xrow m c R j := by
  have e : iblk m c 0 t (ix2 r j) = V m c main_arg0 (ix2 R j) := by blk_ext [iblk, idx t]
  rw [e]
  entry_read
  rfl

theorem mod_read (c : Dev nD) (t : Fin cfg0.N) (k : Fin 9) (j : Fin 2048) (b : Fin 8) (hb : (b : ℕ) = t.val / 88) :
    (iblk m c 1 t (ix4 0 0 k j) : EReal) = mod m c b k j := by
  have e : iblk m c 1 t (ix4 0 0 k j) = V m c main_arg1 (ix4 0 b k j) := by blk_ext [iblk, idx t]
  rw [e]
  entry_read
  rfl

theorem gain_read (c : Dev nD) (t : Fin cfg0.N) (j : Fin 2048) : (iblk m c 2 t (ix3 0 0 j) : EReal) = gain m c j := by
  have e : iblk m c 2 t (ix3 0 0 j) = V m c main_v0 (ix3 0 0 j) := by blk_ext [iblk, idx t]
  rw [e]
  entry_read
  pointwise

theorem wgate_read (c : Dev nD) (t : Fin cfg0.N) (j : Fin 2048) (k : Fin 512) (K : Fin 5632) (hK : (K : ℕ) = 512 * (t.val % 11) + k) :
    (iblk m c 3 t (ix3 0 j k) : EReal) = wgate m c j K := by
  have e : iblk m c 3 t (ix3 0 j k) = V m c main_v1 (ix3 0 j ⟨K, by omega⟩) := by blk_ext [iblk, idx t]
  rw [e]
  entry_read
  pointwise

theorem wup_read (c : Dev nD) (t : Fin cfg0.N) (j : Fin 2048) (k : Fin 512) (K : Fin 5632) (hK : (K : ℕ) = 512 * (t.val % 11) + k) :
    (iblk m c 4 t (ix3 0 j k) : EReal) = wup m c j K := by
  have e : iblk m c 4 t (ix3 0 j k) = V m c main_v1 (ix3 0 j ⟨5632 + K, by omega⟩) := by blk_ext [iblk, idx t]
  rw [e]
  entry_read
  pointwise

theorem wdown_read (c : Dev nD) (t : Fin cfg0.N) (k : Fin 512) (d : Fin 2048) (K : Fin 5632) (hK : (K : ℕ) = 512 * (t.val % 11) + k) :
    (iblk m c 5 t (ix3 0 k d) : EReal) = wdown m c K d := by
  have e : iblk m c 5 t (ix3 0 k d) = V m c main_arg4 (ix3 0 K d) := by blk_ext [iblk, idx t]
  rw [e]
  entry_read
  rfl

end Cert.HalfIdeal.Step

end
-- ==== Proof.HalfFinal.lean ====
/- The result of a feed-forward call before the last, entry by entry: the row's half step. -/
module

public import proofs.«01_k».proof.Proof.HalfBlock
public import proofs.«01_k».proof.Proof.HalfHost

@[expose] public section

set_option maxRecDepth 16384

noncomputable section

namespace Cert.HalfIdeal.Step

open Cert.HalfIdeal Cert.HalfIdeal.Gen Cert.Step Idealize.ShloMosaic Idealize.ShloMosaic.TcCoe Idealize.SL.Sem

variable (m : (ℓ : Loc nD τ sig) → Buf (Elt Ideal) ℓ)

/-- The normed row `R` of batch entry `b`. -/
abbrev nrow (c : Dev nD) (R : Fin 8704) (b : Fin 8) : Fin 2048 → EReal := norm (xrow m c R) (gain m c) (mod m c b 0) (mod m c b 1)

theorem scratch_row (c : Dev nD) (t : Fin cfg0.N) (ha : t.val % 11 = 0) (r : Fin 512) (j : Fin 2048) (R : Fin 8704) (b : Fin 8)
    (hR : (R : ℕ) = t.val / 11 * 512 + r) (hb : (b : ℕ) = t.val / 88) :
    ((outsAt0 m c t.val t.isLt).2 (ix2 r j) : EReal) = nrow m c R b j := by
  refine (scratch_tiles m c t ha (by omega) (ix2 r j)).trans ((norm_apply _ _ _ _ _ _).trans ?_)
  unfold nrow
  congr 1
  · funext i
    exact (rows_apply _ r i).trans (x_read m c t r i R hR)
  · funext i
    exact gain_read m c t i
  · funext i
    exact (modRow_apply _ 0 _ i).trans (mod_read m c t 0 i b hb)
  · funext i
    exact (modRow_apply _ 1 _ i).trans (mod_read m c t 1 i b hb)

theorem tile_row (c : Dev nD) (t : Fin cfg0.N) (n : Vec Ideal S512x2048 .bf16) (o : Vec Ideal S512x2048 .f32) (r : Fin 512) (d : Fin 2048)
    (w : Fin 2048 → EReal) (hn : ∀ j, (n (ix2 r j) : EReal) = w j) :
    (Cert.FfnIdeal.Gen.k0_pay3 (F := Ideal) n (iblk m c 3 t) (iblk m c 4 t) o (iblk m c 5 t) (ix2 r d) : EReal)
      = o (ix2 r d) + part w (wgate m c) (wup m c) (wdown m c) d (t.val % 11) := by
  refine (tile_apply _ _ _ _ _ _ _).trans (congrArg _ ?_)
  unfold part
  rw [dif_pos (Nat.mod_lt _ (by decide))]
  refine Finset.sum_congr rfl fun k _ => ?_
  refine congrArg₂ (· * ·) (congr₃ unit (funext fun j => hn j) (funext fun j => ?_) (funext fun j => ?_)) ?_
  · exact wgate_read m c t j k _ rfl
  · exact wup_read m c t j k _ rfl
  · exact wdown_read m c t k d _ rfl

/-- Before the last tile: the scratch holds the normed rows, the output block the parts so far. -/
theorem sofar (c : Dev nD) (p f : ℕ) (hf : f < 10) (hp : p < 17) (hN : 11 * p + f < cfg0.N) (r : Fin 512) (R : Fin 8704) (b : Fin 8)
    (hR : (R : ℕ) = p * 512 + r) (hb : (b : ℕ) = p / 8) :
    (∀ j, ((outsAt0 m c (11 * p + f) hN).2 (ix2 r j) : EReal) = nrow m c R b j)
      ∧ ∀ d, ((outsAt0 m c (11 * p + f) hN).1 (ix2 r d) : EReal)
        = ∑ g ∈ Finset.range (f + 1), part (nrow m c R b) (wgate m c) (wup m c) (wdown m c) d g := by
  induction f with
  | zero =>
    have hs : ∀ j, ((outsAt0 m c (11 * p + 0) hN).2 (ix2 r j) : EReal) = nrow m c R b j := fun j =>
      scratch_row m c ⟨11 * p + 0, hN⟩ (by simp) r j R b (by simp [hR]) (by simp [hb]; omega)
    refine ⟨hs, fun d => ?_⟩
    rw [out_first m c ⟨11 * p + 0, hN⟩ (by simp) (by simp)]
    refine (tile_row m c _ _ _ r d _ hs).trans ?_
    have hz : (Cert.FfnIdeal.Gen.k0_pay2 (F := Ideal) (ix2 r d) : EReal) = 0 := by pointwise [Cert.FfnIdeal.Gen.k0_pay2]
    rw [hz]
    simp
  | succ f ih =>
    obtain ⟨hs, ho⟩ := ih (by omega) (by omega)
    have h1 : ¬(11 * p + (f + 1)) % 11 = 0 := by omega
    have h2 : ¬(11 * p + (f + 1)) % 11 = 10 := by omega
    refine ⟨fun j => ?_, fun d => ?_⟩
    · rw [scratch_mid m c ⟨11 * p + (f + 1), hN⟩ h1 h2]
      exact hs j
    · rw [out_mid m c ⟨11 * p + (f + 1), hN⟩ h1 h2]
      refine (tile_row m c _ _ _ r d _ hs).trans ?_
      rw [Finset.sum_range_succ, ← ho d]
      have e : (11 * p + (f + 1)) % 11 = f + 1 := by omega
      exact congrArg _ (congrArg _ e)

/-- The last tile leaves the finished row. -/
theorem done (c : Dev nD) (p : ℕ) (hp : p < 17) (hN : 11 * p + 10 < cfg0.N) (r : Fin 512) (d : Fin 2048) (R : Fin 8704) (b : Fin 8)
    (hR : (R : ℕ) = p * 512 + r) (hb : (b : ℕ) = p / 8) :
    ((outsAt0 m c (11 * p + 10) hN).1 (ix2 r d) : EReal)
      = residual (xrow m c R) (mod m c b 2) (update (nrow m c R b) (wgate m c) (wup m c) (wdown m c)) d := by
  obtain ⟨hs, ho⟩ := sofar m c p 9 (by omega) hp (by omega) r R b hR hb
  have h1 : ¬(11 * p + 10) % 11 = 0 := by omega
  have h2 : (11 * p + 10) % 11 = 10 := by omega
  have hR' : (R : ℕ) = (11 * p + 10) / 11 * 512 + r := by omega
  have hb' : (b : ℕ) = (11 * p + 10) / 88 := by omega
  refine (out_last m c ⟨11 * p + 10, hN⟩ h1 h2 (ix2 r d)).trans ((half_apply _ _ _ _ _).trans ?_)
  refine congrFun (congr₃ residual ?_ ?_ ?_) d
  · funext i
    exact (rows_apply _ r i).trans (x_read m c _ r i R hR')
  · funext i
    exact (modRow_apply _ 2 _ i).trans (mod_read m c _ 2 i b hb')
  · funext i
    refine (rows_apply _ r i).trans ((tile_row m c _ _ _ r i _ hs).trans ?_)
    rw [← sum_part, Finset.sum_range_succ _ 10, ← ho i]
    exact congrArg _ (congrArg _ h2)

/-- The result, entry by entry. -/
theorem result (c : Dev nD) (r : Fin 8704) (d : Fin 2048) (R : Fin 8704) (b : Fin 8) (hR : (R : ℕ) = r) (hb : (b : ℕ) = r / 4096) :
    (Value.G7 m c (ix2 r d) : EReal)
      = residual (xrow m c R) (mod m c b 2) (update (nrow m c R b) (wgate m c) (wup m c) (wdown m c)) d := by
  have hN : 11 * ((r : ℕ) / 512) + 10 < cfg0.N := by
    have h : cfg0.N = 187 := N_0
    omega
  have hpt : Value.pt7Of (ix2 r d) = 11 * ((r : ℕ) / 512) + 10 := by
    show 11 * (1 * ((r : ℕ) / 512 - 0) + 1 * ((d : ℕ) / 2048 - 0)) + 10 = _
    omega
  have hloc : Value.loc7Of (ix2 r d) = ix2 ⟨(r : ℕ) % 512, by omega⟩ d := by
    funext a
    refine Fin.ext ?_
    match a with
    | ⟨0, _⟩ => rfl
    | ⟨1, _⟩ => exact Nat.mod_eq_of_lt d.isLt
  have hat : ∀ (n : ℕ) (h : n < cfg0.N), n = 11 * ((r : ℕ) / 512) + 10 →
      (outsAt0 m c n h).1 = (outsAt0 m c (11 * ((r : ℕ) / 512) + 10) hN).1 := by
    rintro n h rfl
    rfl
  unfold Value.G7
  rw [dif_pos (hpt ▸ hN), ← Value.outsAt0_sweep m c _ (hpt ▸ hN), hat _ _ hpt, hloc]
  refine done m c _ (by omega) hN _ d R b ?_ ?_
  · show (R : ℕ) = (r : ℕ) / 512 * 512 + (r : ℕ) % 512
    omega
  · omega

end Cert.HalfIdeal.Step

end
-- ==== Proof.HalfRef.lean ====
/- The feed-forward half step as its reference states it, entry by entry. -/
module

public import proofs.«01_k».proof.Proof.Gen.HalfRefIdeal.Read
public import proofs.«01_k».proof.Proof.FfnMath
public import Idealize.ShloMosaic.Lib.Pointwise

@[expose] public section

set_option maxRecDepth 16384

noncomputable section

namespace Cert.HalfRefIdeal.Step

open Cert.HalfRefIdeal Cert.HalfRefIdeal.Gen Cert.HalfRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S4x2048x11264, .f32⟩ : BufTy).Contents (Elt Ideal))
  (x4 : (⟨S4x5632x2048, .f32⟩ : BufTy).Contents (Elt Ideal))

/-- Token `r`'s modulation row `k`: its batch entry's for the latent tokens, the third for the context tokens. -/
abbrev lane (k : Fin 9) (r : Fin 8704) (j : Fin 2048) : EReal := x1 (ix4 0 ⟨(r : ℕ) / 4096, by omega⟩ k j)

/-- Every token's modulation rows. -/
theorem mods_apply (r : Fin 8704) (k : Fin 9) (j : Fin 2048) : (val_main_v8 x1 (ix3 r k j) : EReal) = lane x1 k r j := by
  pointwise [val_main_v8, val_main_v7, val_main_v6, val_main_v5, val_main_v4, val_main_v3, val_main_v2, val_main_v1, val_main_v0]
  split_ifs with hr
  · rfl
  · refine congrArg (fun b => (x1 (ix4 0 b k j) : EReal)) (Fin.ext ?_)
    show 2 = (r : ℕ) / 4096
    omega

theorem gate_apply (r : Fin 8704) (j : Fin 2048) : (val_main_v11 x1 (ix2 r j) : EReal) = lane x1 2 r j := by
  have h := mods_apply x1 r 2 j
  unfold val_main_v11 val_main_v10 val_main_v9
  generalize val_main_v8 (F := Ideal) x1 = y at h ⊢
  pointwise
  exact h

theorem shift_apply (r : Fin 8704) (j : Fin 2048) : (val_main_v17 x1 (ix2 r j) : EReal) = lane x1 0 r j := by
  have h := mods_apply x1 r 0 j
  unfold val_main_v17 val_main_v16 val_main_v9
  generalize val_main_v8 (F := Ideal) x1 = y at h ⊢
  pointwise
  exact h

theorem scale_apply (r : Fin 8704) (j : Fin 2048) : (val_main_v19 x1 (ix2 r j) : EReal) = lane x1 1 r j := by
  have h := mods_apply x1 r 1 j
  unfold val_main_v19 val_main_v18 val_main_v9
  generalize val_main_v8 (F := Ideal) x1 = y at h ⊢
  pointwise
  exact h

theorem gain_apply (j : Fin 2048) : (val_main_v15 x2 (ix1 j) : EReal) = x2 (ix3 0 0 j) := by
  pointwise [val_main_v15, val_main_v14]

theorem inv_apply (r : Fin 8704) : (val_main_v27 x0 (ix2 r 0) : EReal) = inv (fun j => x0 (ix2 r j)) := by
  pointwise [val_main_v27, val_main_v26, val_main_v25, val_main_cst_2, val_main_v24, val_main_v23, val_main_cst_1, val_main_v22, val_main_v21,
    val_main_cst_0, val_main_v20]
  rfl

theorem norm_apply (r : Fin 8704) (d : Fin 2048) : (val_main_v36 x0 x1 x2 (ix2 r d) : EReal)
    = norm (fun j => x0 (ix2 r j)) (fun j => x2 (ix3 0 0 j)) (lane x1 0 r) (lane x1 1 r) d := by
  have hs := shift_apply x1 r
  have hc := scale_apply x1 r
  have hg := gain_apply x2
  have hi := inv_apply x0 r
  unfold val_main_v36 val_main_v35 val_main_v34 val_main_v33 val_main_cst_3 val_main_v32 val_main_v31 val_main_v30 val_main_v29
    val_main_v28
  generalize val_main_v17 (F := Ideal) x1 = s at hs ⊢
  generalize val_main_v19 (F := Ideal) x1 = k at hc ⊢
  generalize val_main_v15 (F := Ideal) x2 = g at hg ⊢
  generalize val_main_v27 (F := Ideal) x0 = i at hi ⊢
  pointwise
  rw [hi, hg, hc, hs]
  rfl

theorem hidden_apply (r : Fin 8704) (k : Fin 5632) (n wg wu : Fin 2048 → EReal)
    (hn : ∀ j, (val_main_v36 x0 x1 x2 (ix2 r j) : EReal) = n j) (hg : ∀ j, (x3 (ix3 0 j ⟨k, by omega⟩) : EReal) = wg j)
    (hu : ∀ j, (x3 (ix3 0 j ⟨5632 + k, by omega⟩) : EReal) = wu j) : (val_main_v45 x0 x1 x2 x3 (ix2 r k) : EReal) = unit n wg wu := by
  unfold val_main_v45 val_main_v44 val_main_call0_v5 val_main_call0_v4 val_main_call0_cst_0 val_main_call0_v3 val_main_call0_v2
    val_main_call0_cst val_main_call0_v1 val_main_call0_v0 val_main_v43 val_main_v42 val_main_v41 val_main_v38 val_main_v37
  generalize val_main_v36 (F := Ideal) x0 x1 x2 = y at hn ⊢
  pointwise
  simp only [hn, hg, hu]
  rfl

/-- The result. -/
theorem result (r : Fin 8704) (d : Fin 2048) : (val_main_v48 x0 x1 x2 x3 x4 (ix2 r d) : EReal)
    = residual (fun j => x0 (ix2 r j)) (lane x1 2 r)
        (update (norm (fun j => x0 (ix2 r j)) (fun j => x2 (ix3 0 0 j)) (lane x1 0 r) (lane x1 1 r))
          (fun j k => x3 (ix3 0 j ⟨k, by omega⟩)) (fun j k => x3 (ix3 0 j ⟨5632 + k, by omega⟩)) (fun k j => x4 (ix3 0 k j))) d := by
  have hg := gate_apply x1 r
  have hh := fun k => hidden_apply x0 x1 x2 x3 r k _ _ _ (norm_apply x0 x1 x2 r) (fun _ => rfl) (fun _ => rfl)
  unfold val_main_v48 val_main_v47 val_main_v13 val_main_v12 val_main_cst val_main_v46 val_main_v40 val_main_v39
  generalize val_main_v11 (F := Ideal) x1 = g at hg ⊢
  generalize val_main_v45 (F := Ideal) x0 x1 x2 x3 = h at hh ⊢
  pointwise
  rw [hg]
  simp only [hh]
  rfl

end Cert.HalfRefIdeal.Step

end
-- ==== Proof.HalfEq.lean ====
/- The first feed-forward call and its reference leave equal results. -/
module

public import proofs.«01_k».proof.Proof.HalfFinal
public import proofs.«01_k».proof.Proof.HalfRef

@[expose] public section

set_option maxRecDepth 16384

noncomputable section

namespace Cert.HalfIdeal.Step

open Cert.HalfIdeal Cert.HalfIdeal.Gen Cert.Step Idealize.ShloMosaic Idealize.ShloMosaic.TcCoe Idealize.SL.Sem

variable (m : (ℓ : Loc nD τ sig) → Buf (Elt Ideal) ℓ)

theorem equal (c : Dev nD) : Value.G7 m c
    = (HalfRefIdeal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        : Vec Ideal S8704x2048 .f32) := by
  funext i
  obtain ⟨r, d, rfl⟩ : ∃ (r : Fin 8704) (d : Fin 2048), i = ix2 r d := ⟨i 0, i 1, by funext a; fin_cases a <;> rfl⟩
  refine (result m c r d r ⟨(r : ℕ) / 4096, by omega⟩ rfl rfl).trans (Eq.trans ?_ (HalfRefIdeal.Step.result _ _ _ _ _ r d).symm)
  rfl

end Cert.HalfIdeal.Step

end
-- ==== Proof.ProjBlock.lean ====
/- The projections of the gated recurrence: what one grid point writes, entry by entry. -/
module

public import proofs.«01_k».proof.Proof.Gen.ProjIdeal.Value
public import proofs.«01_k».proof.Proof.FfnRows
public import Idealize.ShloMosaic.Lib.Pointwise
public import Idealize.ShloMosaic.Lib.Pipeline.ValueKit

@[expose] public section

set_option maxRecDepth 16384

noncomputable section

namespace Cert.ProjIdeal.Step

open Cert.ProjIdeal Cert.ProjIdeal.Gen Cert.Step Idealize.ShloMosaic Idealize.ShloMosaic.TcCoe Idealize.SL.Sem

/-- The normed rows times a block of columns. -/
theorem proj_apply (X : Vec Ideal S512x2048 .f32) (G : Vec Ideal S1x1x2048 .f32) (sh sc : Vec Ideal S1x1x1x2048 .f32)
    (W : Vec Ideal S1x2048x2048 .bf16) (r : Fin 512) (d : Fin 2048) :
    (k0_pay1 (F := Ideal) X G sh sc W (ix2 r d) : EReal)
      = ∑ j, norm (fun j => X (ix2 r j)) (fun j => G (ix3 0 0 j)) (fun j => sh (ix4 0 0 0 j)) (fun j => sc (ix4 0 0 0 j)) j
          * W (ix3 0 j d) := by
  pointwise [k0_pay1]
  rfl

variable (m : (ℓ : Loc nD τ sig) → Buf (Elt Ideal) ℓ)

/-- What a grid point leaves in its output block. -/
theorem point (c : Dev nD) (t : Fin cfg0.N) :
    out0_4 (F := Ideal) (iblk m c 0 t) (iblk m c 1 t) (iblk m c 2 t) (iblk m c 3 t)
      = k0_pay1 (F := Ideal) (iblk m c 0 t) (iblk m c 2 t) (modRow (iblk m c 1 t) 3 (by decide)) (modRow (iblk m c 1 t) 4 (by decide))
          (iblk m c 3 t) := by
  unfold out0_4
  frame_out

/-- Where each window's block lies. -/
theorem idx : ∀ t : Fin cfg0.N, win0_0.index t = ![t.val % 17, 0] ∧ win0_1.index t = ![0, t.val % 17 / 8, 0, 0]
    ∧ win0_2.index t = ![1, 0, 0] ∧ win0_3.index t = ![0, 0, t.val / 17] ∧ win0_4.index t = ![t.val % 17, t.val / 17] :=
  (by decide +kernel : ∀ t : Fin grid0.N, _)

/-- A row of the hidden state. -/
abbrev xrow (c : Dev nD) (r : Fin 8704) (j : Fin 2048) : EReal := m ((c : Thread nD τ).loc main_arg0) (ix2 r j)

/-- A modulation row of batch entry `b`. -/
abbrev mod (c : Dev nD) (b : Fin 8) (k : Fin 9) (j : Fin 2048) : EReal := m ((c : Thread nD τ).loc main_arg1) (ix4 0 b k j)

/-- The norm's scale. -/
abbrev gain (c : Dev nD) (j : Fin 2048) : EReal := m ((c : Thread nD τ).loc main_arg2) (ix3 0 1 j)

/-- The weights. -/
abbrev weight (c : Dev nD) (j : Fin 2048) (d : Fin 10240) : EReal := m ((c : Thread nD τ).loc main_arg3) (ix3 0 j d)

theorem x_read (c : Dev nD) (t : Fin cfg0.N) (r : Fin 512) (j : Fin 2048) (R : Fin 8704) (hR : (R : ℕ) = t.val % 17 * 512 + r) :
    (iblk m c 0 t (ix2 r j) : EReal) = xrow m c R j := by
  have e : iblk m c 0 t (ix2 r j) = V m c main_arg0 (ix2 R j) := by blk_ext [iblk, idx t]
  rw [e]
  entry_read
  rfl

theorem mod_read (c : Dev nD) (t : Fin cfg0.N) (k : Fin 9) (j : Fin 2048) (b : Fin 8) (hb : (b : ℕ) = t.val % 17 / 8) :
    (iblk m c 1 t (ix4 0 0 k j) : EReal) = mod m c b k j := by
  have e : iblk m c 1 t (ix4 0 0 k j) = V m c main_arg1 (ix4 0 b k j) := by blk_ext [iblk, idx t]
  rw [e]
  entry_read
  rfl

theorem gain_read (c : Dev nD) (t : Fin cfg0.N) (j : Fin 2048) : (iblk m c 2 t (ix3 0 0 j) : EReal) = gain m c j := by
  have e : iblk m c 2 t (ix3 0 0 j) = V m c main_v0 (ix3 1 0 j) := by blk_ext [iblk, idx t]
  rw [e]
  entry_read
  pointwise

theorem weight_read (c : Dev nD) (t : Fin cfg0.N) (j d : Fin 2048) (D : Fin 10240) (hD : (D : ℕ) = t.val / 17 * 2048 + d) :
    (iblk m c 3 t (ix3 0 j d) : EReal) = weight m c j D := by
  have e : iblk m c 3 t (ix3 0 j d) = V m c main_v1 (ix3 0 j D) := by blk_ext [iblk, idx t]
  rw [e]
  entry_read
  pointwise

/-- The result's entry for row `R`, column `D`. -/
abbrev entry (c : Dev nD) (R : Fin 8704) (D : Fin 10240) : EReal :=
  ∑ j, norm (xrow m c R) (gain m c) (mod m c ⟨(R : ℕ) / 4096, by omega⟩ 3) (mod m c ⟨(R : ℕ) / 4096, by omega⟩ 4) j * weight m c j D

theorem block (c : Dev nD) (t : Fin cfg0.N) (r : Fin 512) (d : Fin 2048) (R : Fin 8704) (D : Fin 10240)
    (hR : (R : ℕ) = t.val % 17 * 512 + r) (hD : (D : ℕ) = t.val / 17 * 2048 + d) :
    (out0_4 (F := Ideal) (iblk m c 0 t) (iblk m c 1 t) (iblk m c 2 t) (iblk m c 3 t) (ix2 r d) : EReal) = entry m c R D := by
  rw [point]
  refine (proj_apply _ _ _ _ _ r d).trans (Finset.sum_congr rfl fun j _ => congrArg₂ (· * ·) ?_ (weight_read m c t j d D hD))
  have hb : (R : ℕ) / 4096 = t.val % 17 / 8 := by omega
  congr 1
  · exact funext fun i => x_read m c t r i R hR
  · exact funext fun i => gain_read m c t i
  · exact funext fun i => (modRow_apply _ 3 _ i).trans (mod_read m c t 3 i _ hb)
  · exact funext fun i => (modRow_apply _ 4 _ i).trans (mod_read m c t 4 i _ hb)

end Cert.ProjIdeal.Step

end
-- ==== Proof.ProjRef.lean ====
/- The projections of the gated recurrence as their reference states them, entry by entry. -/
module

public import proofs.«01_k».proof.Proof.Gen.ProjRefIdeal.Read
public import proofs.«01_k».proof.Proof.HalfRef

@[expose] public section

set_option maxRecDepth 16384

noncomputable section

namespace Cert.ProjRefIdeal.Step

open Cert.ProjRefIdeal Cert.ProjRefIdeal.Gen Cert.ProjRefIdeal.Read Cert.Step Cert.HalfRefIdeal.Step Idealize.ShloMosaic
  Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S2x2048x10240, .f32⟩ : BufTy).Contents (Elt Ideal))

/-- Every token's modulation rows: those of the half step's reference. -/
theorem rows_apply (r : Fin 8704) (k : Fin 9) (j : Fin 2048) : (val_main_v8 x1 (ix3 r k j) : EReal) = lane x1 k r j :=
  mods_apply x1 r k j

theorem shift_apply (r : Fin 8704) (j : Fin 2048) : (val_main_v13 x1 (ix2 r j) : EReal) = lane x1 3 r j := by
  have h := rows_apply x1 r 3 j
  unfold val_main_v13 val_main_v12 val_main_v9
  generalize val_main_v8 (F := Ideal) x1 = y at h ⊢
  pointwise
  exact h

theorem scale_apply (r : Fin 8704) (j : Fin 2048) : (val_main_v15 x1 (ix2 r j) : EReal) = lane x1 4 r j := by
  have h := rows_apply x1 r 4 j
  unfold val_main_v15 val_main_v14 val_main_v9
  generalize val_main_v8 (F := Ideal) x1 = y at h ⊢
  pointwise
  exact h

theorem gain_apply (j : Fin 2048) : (val_main_v11 x2 (ix1 j) : EReal) = x2 (ix3 0 1 j) := by
  pointwise [val_main_v11, val_main_v10]

theorem inv_apply (r : Fin 8704) : (val_main_v23 x0 (ix2 r 0) : EReal) = inv (fun j => x0 (ix2 r j)) := by
  pointwise [val_main_v23, val_main_v22, val_main_v21, val_main_cst_1, val_main_v20, val_main_v19, val_main_cst_0, val_main_v18, val_main_v17,
    val_main_cst, val_main_v16]
  rfl

theorem norm_apply (r : Fin 8704) (d : Fin 2048) : (val_main_v32 x0 x1 x2 (ix2 r d) : EReal)
    = norm (fun j => x0 (ix2 r j)) (fun j => x2 (ix3 0 1 j)) (lane x1 3 r) (lane x1 4 r) d := by
  have hs := shift_apply x1 r
  have hc := scale_apply x1 r
  have hg := gain_apply x2
  have hi := inv_apply x0 r
  unfold val_main_v32 val_main_v31 val_main_v30 val_main_v29 val_main_cst_2 val_main_v28 val_main_v27 val_main_v26 val_main_v25
    val_main_v24
  generalize val_main_v13 (F := Ideal) x1 = s at hs ⊢
  generalize val_main_v15 (F := Ideal) x1 = k at hc ⊢
  generalize val_main_v11 (F := Ideal) x2 = g at hg ⊢
  generalize val_main_v23 (F := Ideal) x0 = i at hi ⊢
  pointwise
  rw [hi, hg, hc, hs]
  rfl

/-- The result. -/
theorem result (r : Fin 8704) (d : Fin 10240) : (val_main_v35 x0 x1 x2 x3 (ix2 r d) : EReal)
    = ∑ j, norm (fun j => x0 (ix2 r j)) (fun j => x2 (ix3 0 1 j)) (lane x1 3 r) (lane x1 4 r) j * x3 (ix3 0 j d) := by
  have hn := norm_apply x0 x1 x2 r
  unfold val_main_v35 val_main_v34 val_main_v33
  generalize val_main_v32 (F := Ideal) x0 x1 x2 = y at hn ⊢
  pointwise
  simp only [hn]

end Cert.ProjRefIdeal.Step

end
-- ==== Proof.ProjEq.lean ====
/- The projections of the gated recurrence and their reference leave equal results. -/
module

public import proofs.«01_k».proof.Proof.ProjBlock
public import proofs.«01_k».proof.Proof.ProjRef

@[expose] public section

set_option maxRecDepth 16384

noncomputable section

namespace Cert.ProjIdeal.Step

open Cert.ProjIdeal Cert.ProjIdeal.Gen Cert.Step Idealize.ShloMosaic Idealize.ShloMosaic.TcCoe Idealize.SL.Sem

variable (m : (ℓ : Loc nD τ sig) → Buf (Elt Ideal) ℓ)

theorem equal (c : Dev nD) : (dats m 0 c).arrAt 4 cfg0.N
    = (ProjRefIdeal.Read.val_main_v35 (F := Ideal) (m ((c : Thread nD τ).loc main_arg0)) (m ((c : Thread nD τ).loc main_arg1))
        (m ((c : Thread nD τ).loc main_arg2)) (m ((c : Thread nD τ).loc main_arg3)) : Vec Ideal S8704x10240 .f32) := by
  refine (dats m 0 c).arrAt_eq_of_covers 4 _ (by decide +kernel) fun t hf y => ?_
  blk_simp
  rw [after0_4]
  have ht : t.val < 85 := t.isLt
  have y0 : (y 0 : ℕ) < 512 := (y 0).isLt
  have y1 : (y 1 : ℕ) < 2048 := (y 1).isLt
  obtain ⟨r, d, rfl⟩ : ∃ (r : Fin 512) (d : Fin 2048), y = ix2 r d := ⟨y 0, y 1, by funext a; fin_cases a <;> rfl⟩
  refine (block m c t r d ⟨t.val % 17 * 512 + r, by omega⟩ ⟨t.val / 17 * 2048 + d, by omega⟩ rfl rfl).trans ?_
  refine (ProjRefIdeal.Step.result (m ((c : Thread nD τ).loc main_arg0)) (m ((c : Thread nD τ).loc main_arg1))
    (m ((c : Thread nD τ).loc main_arg2)) (m ((c : Thread nD τ).loc main_arg3)) _ _).symm.trans ?_
  blk_ext [idx t]

end Cert.ProjIdeal.Step

end
-- ==== Proof.OutBlock.lean ====
/- The output product of the attention: what one grid point writes, entry by entry. -/
module

public import proofs.«01_k».proof.Proof.Gen.OutIdeal.Value
public import proofs.«01_k».proof.Proof.FfnRows
public import Idealize.ShloMosaic.Lib.Pointwise
public import Idealize.ShloMosaic.Lib.Pipeline.ValueKit

@[expose] public section

set_option maxRecDepth 16384

noncomputable section

namespace Cert.OutIdeal.Step

open Cert.OutIdeal Cert.OutIdeal.Gen Cert.Step Idealize.ShloMosaic Idealize.ShloMosaic.TcCoe Idealize.SL.Sem

/-- The row plus the gated product. -/
theorem out_apply (Y : Vec Ideal S1x256x2048 .bf16) (W : Vec Ideal S2048x2048 .bf16) (X : Vec Ideal S256x2048 .f32)
    (g : Vec Ideal S1x1x1x2048 .f32) (r : Fin 256) (d : Fin 2048) :
    (k0_pay1 (F := Ideal) Y W X g (ix2 r d) : EReal) = X (ix2 r d) + g (ix4 0 0 0 d) * ∑ j, Y (ix3 0 r j) * W (ix2 j d) := by
  pointwise [k0_pay1]

variable (m : (ℓ : Loc nD τ sig) → Buf (Elt Ideal) ℓ)

/-- A grid point of the latent rows. -/
theorem point_lat (c : Dev nD) (t : Fin cfg0.N) (h : t.val < 32) :
    outsAt0 m c t.val t.isLt = k0_pay1 (F := Ideal) (iblk m c 0 t) (iblk m c 2 t) (iblk m c 3 t) (modRow (iblk m c 4 t) 5 (by decide)) := by
  rw [outsAt0_A m c t h (by omega)]
  frame_out

/-- A grid point of the context rows. -/
theorem point_ctx (c : Dev nD) (t : Fin cfg0.N) (h : 32 ≤ t.val) :
    outsAt0 m c t.val t.isLt = k0_pay1 (F := Ideal) (iblk m c 1 t) (iblk m c 2 t) (iblk m c 3 t) (modRow (iblk m c 4 t) 5 (by decide)) := by
  rw [outsAt0_B m c t (by omega) h]
  frame_out
  rfl

/-- Where each window's block lies. -/
theorem idx : ∀ t : Fin cfg0.N, win0_0.index t = ![min t.val 31 / 16, min t.val 31 % 16, 0] ∧ win0_1.index t = ![t.val - 32, 0, 0]
    ∧ win0_2.index t = ![0, 0] ∧ win0_3.index t = ![t.val, 0] ∧ win0_4.index t = ![1, t.val / 16, 0, 0]
    ∧ win0_5.index t = ![t.val, 0] :=
  (by decide +kernel : ∀ t : Fin grid0.N, _)

/-- The attention's latent rows. -/
abbrev lat (c : Dev nD) (b : Fin 2) (r : Fin 4096) (j : Fin 2048) : EReal := m ((c : Thread nD τ).loc main_arg0) (ix3 b r j)

/-- The attention's context rows. -/
abbrev ctx (c : Dev nD) (b : Fin 2) (r : Fin 256) (j : Fin 2048) : EReal := m ((c : Thread nD τ).loc main_arg1) (ix3 b r j)

/-- The weights. -/
abbrev weight (c : Dev nD) (j d : Fin 2048) : EReal := m ((c : Thread nD τ).loc main_arg2) (ix3 0 j d)

/-- A row of the hidden state. -/
abbrev xrow (c : Dev nD) (r : Fin 8704) (j : Fin 2048) : EReal := m ((c : Thread nD τ).loc main_arg3) (ix2 r j)

/-- A modulation row of batch entry `b`. -/
abbrev mod (c : Dev nD) (b : Fin 8) (k : Fin 9) (j : Fin 2048) : EReal := m ((c : Thread nD τ).loc main_arg4) (ix4 1 b k j)

theorem lat_read (c : Dev nD) (t : Fin cfg0.N) (h : t.val < 32) (r : Fin 256) (j : Fin 2048) (b : Fin 2) (R : Fin 4096)
    (hb : (b : ℕ) = t.val / 16) (hR : (R : ℕ) = t.val % 16 * 256 + r) : (iblk m c 0 t (ix3 0 r j) : EReal) = lat m c b R j := by
  have e : iblk m c 0 t (ix3 0 r j) = V m c main_arg0 (ix3 b R j) := by
    have hm : min t.val 31 = t.val := by omega
    blk_ext [iblk, idx t, hm]
  rw [e]
  entry_read
  rfl

theorem ctx_read (c : Dev nD) (t : Fin cfg0.N) (h : 32 ≤ t.val) (r : Fin 256) (j : Fin 2048) (b : Fin 2) (hb : (b : ℕ) = t.val - 32) :
    (iblk m c 1 t (ix3 0 r j) : EReal) = ctx m c b r j := by
  have e : iblk m c 1 t (ix3 0 r j) = V m c main_arg1 (ix3 b r j) := by blk_ext [iblk, idx t]
  rw [e]
  entry_read
  rfl

theorem weight_read (c : Dev nD) (t : Fin cfg0.N) (j d : Fin 2048) : (iblk m c 2 t (ix2 j d) : EReal) = weight m c j d := by
  have e : iblk m c 2 t (ix2 j d) = V m c main_v1 (ix2 j d) := by blk_ext [iblk, idx t]
  rw [e]
  entry_read
  pointwise

theorem x_read (c : Dev nD) (t : Fin cfg0.N) (r : Fin 256) (j : Fin 2048) (R : Fin 8704) (hR : (R : ℕ) = t.val * 256 + r) :
    (iblk m c 3 t (ix2 r j) : EReal) = xrow m c R j := by
  have e : iblk m c 3 t (ix2 r j) = V m c main_arg3 (ix2 R j) := by blk_ext [iblk, idx t]
  rw [e]
  entry_read
  rfl

theorem mod_read (c : Dev nD) (t : Fin cfg0.N) (k : Fin 9) (j : Fin 2048) (b : Fin 8) (hb : (b : ℕ) = t.val / 16) :
    (iblk m c 4 t (ix4 0 0 k j) : EReal) = mod m c b k j := by
  have e : iblk m c 4 t (ix4 0 0 k j) = V m c main_arg4 (ix4 1 b k j) := by blk_ext [iblk, idx t]
  rw [e]
  entry_read
  rfl

/-- The result at a latent row. -/
theorem block_lat (c : Dev nD) (t : Fin cfg0.N) (h : t.val < 32) (r : Fin 256) (d : Fin 2048) (R : Fin 8704) (b : Fin 2) (s : Fin 4096)
    (hR : (R : ℕ) = t.val * 256 + r) (hb : (b : ℕ) = t.val / 16) (hs : (s : ℕ) = t.val % 16 * 256 + r) :
    (outsAt0 m c t.val t.isLt (ix2 r d) : EReal)
      = xrow m c R d + mod m c ⟨b, by omega⟩ 5 d * ∑ j, lat m c b s j * weight m c j d := by
  rw [point_lat m c t h]
  refine (out_apply _ _ _ _ r d).trans ?_
  refine congrArg₂ (· + ·) (x_read m c t r d R hR) (congrArg₂ (· * ·) ?_ (Finset.sum_congr rfl fun j _ => ?_))
  · exact (modRow_apply _ 5 _ d).trans (mod_read m c t 5 d _ hb)
  · exact congrArg₂ (· * ·) (lat_read m c t h r j b s hb hs) (weight_read m c t j d)

/-- The result at a context row. -/
theorem block_ctx (c : Dev nD) (t : Fin cfg0.N) (h : 32 ≤ t.val) (r : Fin 256) (d : Fin 2048) (R : Fin 8704) (b : Fin 2)
    (hR : (R : ℕ) = t.val * 256 + r) (hb : (b : ℕ) = t.val - 32) :
    (outsAt0 m c t.val t.isLt (ix2 r d) : EReal) = xrow m c R d + mod m c 2 5 d * ∑ j, ctx m c b r j * weight m c j d := by
  rw [point_ctx m c t h]
  have ht : t.val < 34 := t.isLt
  refine (out_apply _ _ _ _ r d).trans ?_
  refine congrArg₂ (· + ·) (x_read m c t r d R hR) (congrArg₂ (· * ·) ?_ (Finset.sum_congr rfl fun j _ => ?_))
  · exact (modRow_apply _ 5 _ d).trans (mod_read m c t 5 d 2 (by show 2 = t.val / 16; omega))
  · exact congrArg₂ (· * ·) (ctx_read m c t h r j b hb) (weight_read m c t j d)

end Cert.OutIdeal.Step

end
-- ==== Proof.OutRef.lean ====
/- The output product of the attention as its reference states it, entry by entry. -/
module

public import proofs.«01_k».proof.Proof.Gen.OutRefIdeal.Read
public import Idealize.ShloMosaic.Lib.Pointwise

@[expose] public section

set_option maxRecDepth 16384

noncomputable section

namespace Cert.OutRefIdeal.Step

open Cert.OutRefIdeal Cert.OutRefIdeal.Gen Cert.OutRefIdeal.Read Idealize.ShloMosaic Idealize.ShloMosaic.TcCoe Idealize.SL.Sem

variable (x0 : (⟨S2x4096x2048, .bf16⟩ : BufTy).Contents (Elt Ideal)) (x1 : (⟨S2x256x2048, .bf16⟩ : BufTy).Contents (Elt Ideal))
  (x2 : (⟨S1x2048x2048, .f32⟩ : BufTy).Contents (Elt Ideal)) (x3 : (⟨S8704x2048, .f32⟩ : BufTy).Contents (Elt Ideal))
  (x4 : (⟨S4x8x9x2048, .f32⟩ : BufTy).Contents (Elt Ideal))

theorem gate_lat (b : Fin 2) (d : Fin 2048) : (val_main_v9 x4 (ix3 b 0 d) : EReal) = x4 (ix4 1 ⟨b, by omega⟩ 5 d) := by
  pointwise [val_main_v9, val_main_v8, val_main_v2, val_main_v1, val_main_v0]

theorem gate_ctx (d : Fin 2048) : (val_main_v19 x4 (ix3 0 0 d) : EReal) = x4 (ix4 1 2 5 d) := by
  pointwise [val_main_v19, val_main_v18, val_main_v5, val_main_v4, val_main_v3]

/-- A latent row of the result. -/
theorem result_lat (b : Fin 2) (s : Fin 4096) (d : Fin 2048) : (val_main_v15 x0 x2 x3 x4 (ix3 b s d) : EReal)
    = x3 (ix2 ⟨b * 4096 + s, by omega⟩ d) + x4 (ix4 1 ⟨b, by omega⟩ 5 d) * ∑ j, x0 (ix3 b s j) * x2 (ix3 0 j d) := by
  have hg := gate_lat x4 b d
  unfold val_main_v15 val_main_v14 val_main_v13 val_main_v12 val_main_v11 val_main_v10 val_main_v7 val_main_v6
  generalize val_main_v9 (F := Ideal) x4 = g at hg ⊢
  pointwise
  rw [hg]

/-- A context row of the result. -/
theorem result_ctx (b : Fin 2) (s : Fin 256) (d : Fin 2048) : (val_main_v25 x1 x2 x3 x4 (ix3 b s d) : EReal)
    = x3 (ix2 ⟨8192 + (b * 256 + s), by omega⟩ d) + x4 (ix4 1 2 5 d) * ∑ j, x1 (ix3 b s j) * x2 (ix3 0 j d) := by
  have hg := gate_ctx x4 d
  unfold val_main_v25 val_main_v24 val_main_v23 val_main_v22 val_main_v21 val_main_v20 val_main_v17 val_main_v16
  generalize val_main_v19 (F := Ideal) x4 = g at hg ⊢
  pointwise
  rw [hg]

/-- The result, latent rows first. -/
theorem result (r : Fin 8704) (d : Fin 2048) : (val_main_v28 x0 x1 x2 x3 x4 (ix2 r d) : EReal)
    = if h : (r : ℕ) < 8192 then val_main_v15 x0 x2 x3 x4 (ix3 ⟨(r : ℕ) / 4096, by omega⟩ ⟨(r : ℕ) % 4096, by omega⟩ d)
      else val_main_v25 x1 x2 x3 x4 (ix3 ⟨((r : ℕ) - 8192) / 256, by omega⟩ ⟨((r : ℕ) - 8192) % 256, by omega⟩ d) := by
  unfold val_main_v28 val_main_v27 val_main_v26
  generalize val_main_v15 (F := Ideal) x0 x2 x3 x4 = y
  generalize val_main_v25 (F := Ideal) x1 x2 x3 x4 = z
  pointwise

end Cert.OutRefIdeal.Step

end
-- ==== Proof.OutEq.lean ====
/- The output product of the attention and its reference leave equal results. -/
module

public import proofs.«01_k».proof.Proof.OutBlock
public import proofs.«01_k».proof.Proof.OutRef

@[expose] public section

set_option maxRecDepth 16384

noncomputable section

namespace Cert.OutIdeal.Step

open Cert.OutIdeal Cert.OutIdeal.Gen Cert.Step Idealize.ShloMosaic Idealize.ShloMosaic.TcCoe Idealize.SL.Sem

variable (m : (ℓ : Loc nD τ sig) → Buf (Elt Ideal) ℓ)

/-- The reference's result from the kernel's arguments. -/
abbrev wanted (c : Dev nD) : Vec Ideal S8704x2048 .f32 :=
  OutRefIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem entry (c : Dev nD) (t : Fin cfg0.N) (r : Fin 256) (d : Fin 2048) (R : Fin 8704) (hR : (R : ℕ) = t.val * 256 + r) :
    (outsAt0 m c t.val t.isLt (ix2 r d) : EReal) = wanted m c (ix2 R d) := by
  have ht : t.val < 34 := t.isLt
  refine Eq.trans ?_ (OutRefIdeal.Step.result _ _ _ _ _ R d).symm
  by_cases h : t.val < 32
  · rw [dif_pos (by omega)]
    refine Eq.trans ?_ (OutRefIdeal.Step.result_lat _ _ _ _ _ _ d).symm
    refine (block_lat m c t h r d R ⟨(R : ℕ) / 4096, by omega⟩ ⟨(R : ℕ) % 4096, by omega⟩ hR (by show (R : ℕ) / 4096 = _; omega)
      (by show (R : ℕ) % 4096 = _; omega)).trans ?_
    refine congrArg (fun q => xrow m c q d + mod m c ⟨(R : ℕ) / 4096, by omega⟩ 5 d
      * ∑ j, lat m c ⟨(R : ℕ) / 4096, by omega⟩ ⟨(R : ℕ) % 4096, by omega⟩ j * weight m c j d) (Fin.ext ?_)
    show (R : ℕ) = (R : ℕ) / 4096 * 4096 + (R : ℕ) % 4096
    omega
  · rw [dif_neg (by omega)]
    refine Eq.trans ?_ (OutRefIdeal.Step.result_ctx _ _ _ _ _ _ d).symm
    refine (block_ctx m c t (by omega) r d R ⟨((R : ℕ) - 8192) / 256, by omega⟩ hR (by show ((R : ℕ) - 8192) / 256 = _; omega)).trans ?_
    refine congrArg₂ (fun q s => xrow m c q d + mod m c 2 5 d
      * ∑ j, ctx m c ⟨((R : ℕ) - 8192) / 256, by omega⟩ s j * weight m c j d) (Fin.ext ?_) (Fin.ext ?_)
    · show (R : ℕ) = 8192 + (((R : ℕ) - 8192) / 256 * 256 + ((R : ℕ) - 8192) % 256)
      omega
    · show (r : ℕ) = ((R : ℕ) - 8192) % 256
      omega

theorem equal (c : Dev nD) : (dats m 0 c).arrAt 5 cfg0.N = wanted m c := by
  refine (dats m 0 c).arrAt_eq_of_covers 5 _ (by decide +kernel) fun t hf y => ?_
  blk_simp
  rw [after0_5]
  have ht : t.val < 34 := t.isLt
  obtain ⟨r, d, rfl⟩ : ∃ (r : Fin 256) (d : Fin 2048), y = ix2 r d := ⟨y 0, y 1, by funext a; fin_cases a <;> rfl⟩
  refine (entry m c t r d ⟨t.val * 256 + r, by omega⟩ rfl).trans ?_
  blk_ext [idx t]

end Cert.OutIdeal.Step

end
-- ==== Proof.GateMath.lean ====
/- The output of the gated recurrence, row by row, over the extended reals. -/
module

public import Idealize.ShloMosaic.Lib.Pointwise

@[expose] public section

noncomputable section

namespace Cert.Gate

open Idealize.ShloMosaic

/-- One over the root of the mean square of a head's 128 lanes, with the small constant added under the root. -/
def inv (x : Fin 128 → EReal) : EReal :=
  Ideal.rsqrt (Ideal.div (∑ k, x k * x k) (Ideal.ofBits .f32 1124073472#32) + Ideal.ofBits .f32 897988541#32)

/-- A row's lane normed within its head, scaled, times the gate and the gate's logistic. -/
def gated (o gain gate : Fin 2048 → EReal) (d : Fin 2048) : EReal :=
  o d * inv (fun k => o ⟨(d : ℕ) / 128 * 128 + k, by omega⟩) * gain d * (gate d * Ideal.logistic (gate d))

end Cert.Gate

end
-- ==== Proof.GateHead.lean ====
/- The output of the gated recurrence: one head's 128 lanes normed, scaled and gated, for any of the sixteen heads. -/
module

public import proofs.«01_k».proof.Proof.Gen.GateIdeal.Value
public import proofs.«01_k».proof.Proof.GateMath
public import Idealize.ShloMosaic.Lib.Pointwise
public import Idealize.ShloMosaic.Lib.Pipeline.ValueKit

@[expose] public section

set_option maxRecDepth 16384

noncomputable section

namespace Cert.GateIdeal.Step

open Cert.GateIdeal Cert.GateIdeal.Gen Cert.Gate Idealize.ShloMosaic Idealize.ShloMosaic.TcCoe Idealize.SL.Sem

theorem slices (h : Fin 16) : S256x2048.Slices ![0, (h : ℕ) * 128] S256x128 := by
  revert h
  decide +kernel

theorem inb (h : Fin 16) (a : Fin 2) : (![0, (h : ℕ) * 128] : Fin 2 → ℕ) a + (![1, 128] : Fin 2 → ℕ) a ≤ S1x2048.size a := by
  revert h a
  decide +kernel

/-- Head `h`'s lanes of a block of rows. -/
def lanes (X : FVec Ideal S256x2048 .f32) (h : Fin 16) : FVec Ideal S256x128 .f32 :=
  extractStridedSlice S256x128 ![0, (h : ℕ) * 128] X (slices h)

/-- The gain's lanes of head `h`. -/
def gains (G : Vec Ideal S1x2048 .f32) (h : Fin 16) : Vec Ideal S1x128 .f32 :=
  View.ld G (Rect.unit (s := S1x2048) ![0, (h : ℕ) * 128] ![1, 128] (inb h))

/-- The lanes of one head, normed and scaled, times the gate's. -/
def unit (x y : FVec Ideal S256x128 .f32) (g : Vec Ideal S1x128 .f32) : FVec Ideal S256x128 .bf16 :=
  truncf .bf16 (mulf (mulf (mulf x (broadcastTo S256x128 (rsqrt (addf (divf
    (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)) y) bitsLt_bf16_f32

theorem unit_apply (x y : FVec Ideal S256x128 .f32) (g : Vec Ideal S1x128 .f32) (r : Fin 256) (k : Fin 128) :
    (unit x y g (ix2 r k) : EReal) = x (ix2 r k) * inv (fun k => x (ix2 r k)) * g (ix2 0 k) * y (ix2 r k) := by
  pointwise [unit]
  rfl

theorem lanes_apply (X : FVec Ideal S256x2048 .f32) (h : Fin 16) (r : Fin 256) (k : Fin 128) :
    (lanes X h (ix2 r k) : EReal) = X (ix2 r ⟨h * 128 + k, by omega⟩) := by
  refine extractStridedSlice_apply _ X (slices h) _ _ fun a => ?_
  fin_cases a <;> simp

theorem gains_apply (G : Vec Ideal S1x2048 .f32) (h : Fin 16) (k : Fin 128) :
    (gains G h (ix2 0 k) : EReal) = G (ix2 0 ⟨h * 128 + k, by omega⟩) := by
  refine View.ld_unit_apply_of _ _ _ _ _ _ fun a => ?_
  fin_cases a <;> simp

/-- Sixteen pieces side by side. -/
theorem side (f : Fin 16 → FVec Ideal S256x128 .bf16) (h) (r : Fin 256) (d : Fin 2048) :
    (concatenate S256x2048 1 (List.ofFn fun n : Fin 16 => (⟨S256x128, f n⟩ : (s : Shape) × (s.Idx → Ideal .bf16))) h (ix2 r d) : EReal)
      = f ⟨(d : ℕ) / 128, by omega⟩ (ix2 r ⟨(d : ℕ) % 128, by omega⟩) :=
  concatenate_ofFn_apply 1 f h rfl 128 rfl _ _ rfl _ rfl fun b hb => by
    fin_cases b
    · rfl
    · exact absurd rfl hb

end Cert.GateIdeal.Step

end
-- ==== Proof.GateBlock.lean ====
/- The output of the gated recurrence: what one grid point writes, entry by entry. -/
module

public import proofs.«01_k».proof.Proof.GateHead
public import proofs.«01_k».proof.Proof.FfnRows

@[expose] public section

set_option maxRecDepth 16384

noncomputable section

namespace Cert.GateIdeal.Step

open Cert.GateIdeal Cert.GateIdeal.Gen Cert.Gate Cert.Step Idealize.ShloMosaic Idealize.ShloMosaic.TcCoe Idealize.SL.Sem

theorem sides (f : Fin 16 → FVec Ideal S256x128 .bf16) :
    Shape.Concatenates ((List.ofFn fun n : Fin 16 => (⟨S256x128, f n⟩ : (s : Shape) × (s.Idx → Ideal .bf16))).map (·.1)) S256x2048 1 := by
  show Shape.Concatenates (List.replicate 16 S256x128) S256x2048 1
  decide +kernel

/-- One head's part of the gated rows. -/
abbrev piece (X Y : FVec Ideal S256x2048 .f32) (G : Vec Ideal S1x2048 .f32) (n : Fin 16) : FVec Ideal S256x128 .bf16 :=
  unit (lanes X n) (lanes Y n) (gains G n)

/-- The gated rows before the product: the sixteen heads side by side. -/
def rowsOf (X Y : FVec Ideal S256x2048 .f32) (G : Vec Ideal S1x2048 .f32) : FVec Ideal S256x2048 .bf16 :=
  concatenate S256x2048 1 (List.ofFn fun n : Fin 16 => (⟨S256x128, piece X Y G n⟩ : (s : Shape) × (s.Idx → Ideal .bf16)))
    (sides _)

theorem join (f : Fin 16 → FVec Ideal S256x128 .bf16) {v0 v1 v2 v3 v4 v5 v6 v7 v8 v9 v10 v11 v12 v13 v14 : FVec Ideal S256x128 .bf16}
    {z : FVec Ideal S256x128 .f32} (h0 : v0 = f 0) (h1 : v1 = f 1) (h2 : v2 = f 2) (h3 : v3 = f 3) (h4 : v4 = f 4) (h5 : v5 = f 5)
    (h6 : v6 = f 6) (h7 : v7 = f 7) (h8 : v8 = f 8) (h9 : v9 = f 9) (h10 : v10 = f 10) (h11 : v11 = f 11) (h12 : v12 = f 12)
    (h13 : v13 = f 13) (h14 : v14 = f 14) (h15 : truncf .bf16 z bitsLt_bf16_f32 = f 15) :
    k0_pay2 v0 v1 v2 v3 v4 v5 v6 v7 v8 v9 v10 v11 v12 v13 v14 z
      = concatenate S256x2048 1 (List.ofFn fun n : Fin 16 => (⟨S256x128, f n⟩ : (s : Shape) × (s.Idx → Ideal .bf16))) (sides f) := by
  subst h0 h1 h2 h3 h4 h5 h6 h7 h8 h9 h10 h11 h12 h13 h14
  unfold k0_pay2
  dsimp only
  rw [h15]
  rfl

theorem gate_apply (Z : Vec Ideal S256x2048 .f32) (r : Fin 256) (d : Fin 2048) :
    (k0_pay5 (F := Ideal) Z (ix2 r d) : EReal) = Z (ix2 r d) * Ideal.logistic (Z (ix2 r d)) := by
  pointwise [k0_pay5]

theorem sum_apply (X Y : Vec Ideal S256x2048 .f32) (r : Fin 256) (d : Fin 2048) :
    (k0_pay4 (F := Ideal) X Y (ix2 r d) : EReal) = X (ix2 r d) + Y (ix2 r d) := by
  pointwise [k0_pay4]

theorem rowsOf_apply (X Y Z : Vec Ideal S256x2048 .f32) (G : Vec Ideal S1x2048 .f32) (r : Fin 256) (d : Fin 2048) :
    (rowsOf (k0_pay4 X Y) (k0_pay5 Z) G (ix2 r d) : EReal)
      = gated (fun j => X (ix2 r j) + Y (ix2 r j)) (fun j => G (ix2 0 j)) (fun j => Z (ix2 r j)) d := by
  have hd : (⟨(d : ℕ) / 128 * 128 + (d : ℕ) % 128, by omega⟩ : Fin 2048) = d := Fin.ext (by show (d : ℕ) / 128 * 128 + (d : ℕ) % 128 = d; omega)
  refine (side _ _ r d).trans ((unit_apply _ _ _ _ _).trans ?_)
  simp only [lanes_apply, gains_apply, gate_apply, sum_apply, hd]
  rfl

/-- The row plus the gated product. -/
theorem out_apply (Y : FVec Ideal S256x2048 .bf16) (W : Vec Ideal S2048x2048 .bf16) (X : Vec Ideal S256x2048 .f32)
    (g : Vec Ideal S1x1x1x2048 .f32) (r : Fin 256) (d : Fin 2048) :
    (k0_pay3 (F := Ideal) Y W X g (ix2 r d) : EReal) = X (ix2 r d) + g (ix4 0 0 0 d) * ∑ j, Y (ix2 r j) * W (ix2 j d) := by
  pointwise [k0_pay3]

theorem body (x0 x1 x2 : Vec Ideal S256x2048 .f32) (x3 : Vec Ideal S1x2048 .f32) (x4 : Vec Ideal S2048x2048 .bf16)
    (x5 : Vec Ideal S256x2048 .f32) (x6 : Vec Ideal S1x1x9x2048 .f32) :
    out0_7 x0 x1 x2 x3 x4 x5 x6 = k0_pay3 (F := Ideal) (rowsOf (k0_pay4 x0 x1) (k0_pay5 x2) x3) x4 x5 (modRow x6 5 (by decide)) := by
  unfold out0_7 k0_pay31 k0_pay30
  frame_out
  exact congrArg (fun Y => k0_pay3 Y x4 x5 (modRow x6 5 (by decide))) (join (piece (k0_pay4 x0 x1) (k0_pay5 x2) x3)
    rfl rfl rfl rfl rfl rfl rfl rfl rfl rfl rfl rfl rfl rfl rfl rfl)

end Cert.GateIdeal.Step

end
-- ==== Proof.GateRef.lean ====
/- The output of the gated recurrence as its reference states it, entry by entry. -/
module

public import proofs.«01_k».proof.Proof.Gen.GateRefIdeal.Read
public import proofs.«01_k».proof.Proof.GateMath
public import proofs.«01_k».proof.Proof.HalfRef

@[expose] public section

set_option maxRecDepth 16384

noncomputable section

namespace Cert.GateRefIdeal.Step

open Cert.GateRefIdeal Cert.GateRefIdeal.Gen Cert.GateRefIdeal.Read Cert.Gate Cert.HalfRefIdeal.Step Idealize.ShloMosaic
  Idealize.ShloMosaic.TcCoe Idealize.SL.Sem

variable (x0 x1 : (⟨S8704x2048, .f32⟩ : BufTy).Contents (Elt Ideal)) (x2 : (⟨S8704x10240, .f32⟩ : BufTy).Contents (Elt Ideal))
  (x3 : (⟨S2x2048, .f32⟩ : BufTy).Contents (Elt Ideal)) (x4 : (⟨S2x2048x2048, .f32⟩ : BufTy).Contents (Elt Ideal))
  (x5 : (⟨S8704x2048, .f32⟩ : BufTy).Contents (Elt Ideal)) (x6 : (⟨S4x8x9x2048, .f32⟩ : BufTy).Contents (Elt Ideal))

/-- Every token's modulation rows: those of the half step's reference. -/
theorem rows_apply (r : Fin 8704) (k : Fin 9) (j : Fin 2048) : (val_main_v8 x6 (ix3 r k j) : EReal) = lane x6 k r j :=
  mods_apply x6 r k j

theorem factor_apply (r : Fin 8704) (j : Fin 2048) : (val_main_v11 x6 (ix2 r j) : EReal) = lane x6 5 r j := by
  have h := rows_apply x6 r 5 j
  unfold val_main_v11 val_main_v10 val_main_v9
  generalize val_main_v8 (F := Ideal) x6 = y at h ⊢
  pointwise
  exact h

theorem head_apply (r : Fin 8704) (n : Fin 16) (k : Fin 128) :
    (val_main_v18 x0 x1 (ix3 r n k) : EReal) = x0 (ix2 r ⟨n * 128 + k, by omega⟩) + x1 (ix2 r ⟨n * 128 + k, by omega⟩) := by
  pointwise [val_main_v18, val_main_v12]

theorem gain_apply (n : Fin 16) (k : Fin 128) : (val_main_v19 x3 (ix2 n k) : EReal) = x3 (ix2 0 ⟨n * 128 + k, by omega⟩) := by
  pointwise [val_main_v19, val_main_v15, val_main_v14]

theorem inv_apply (r : Fin 8704) (n : Fin 16) : (val_main_v27 x0 x1 (ix3 r n 0) : EReal)
    = inv (fun k => x0 (ix2 r ⟨n * 128 + k, by omega⟩) + x1 (ix2 r ⟨n * 128 + k, by omega⟩)) := by
  have h := head_apply x0 x1 r n
  unfold val_main_v27 val_main_v26 val_main_v25 val_main_cst_1 val_main_v24 val_main_v23 val_main_cst_0 val_main_v22 val_main_v21
    val_main_cst val_main_v20
  generalize val_main_v18 (F := Ideal) x0 x1 = y at h ⊢
  pointwise
  simp only [h]
  rfl

theorem normed_apply (r : Fin 8704) (n : Fin 16) (k : Fin 128) : (val_main_v32 x0 x1 x3 (ix3 r n k) : EReal)
    = (x0 (ix2 r ⟨n * 128 + k, by omega⟩) + x1 (ix2 r ⟨n * 128 + k, by omega⟩))
      * inv (fun k => x0 (ix2 r ⟨n * 128 + k, by omega⟩) + x1 (ix2 r ⟨n * 128 + k, by omega⟩)) * x3 (ix2 0 ⟨n * 128 + k, by omega⟩) := by
  have h := head_apply x0 x1 r n k
  have hi := inv_apply x0 x1 r n
  have hg := gain_apply x3 n k
  unfold val_main_v32 val_main_v31 val_main_v30 val_main_v29 val_main_v28
  generalize val_main_v18 (F := Ideal) x0 x1 = y at h ⊢
  generalize val_main_v27 (F := Ideal) x0 x1 = i at hi ⊢
  generalize val_main_v19 (F := Ideal) x3 = g at hg ⊢
  pointwise
  rw [h, hi, hg]

theorem silu_apply (r : Fin 8704) (d : Fin 2048) : (val_main_v34 x2 (ix2 r d) : EReal)
    = x2 (ix2 r ⟨8192 + d, by omega⟩) * Ideal.logistic (x2 (ix2 r ⟨8192 + d, by omega⟩)) := by
  pointwise [val_main_v34, val_main_call0_v5, val_main_call0_v4, val_main_call0_cst_0, val_main_call0_v3, val_main_call0_v2,
    val_main_call0_cst, val_main_call0_v1, val_main_call0_v0, val_main_v13]
  rfl

theorem gated_apply (r : Fin 8704) (d : Fin 2048) : (val_main_v35 x0 x1 x2 x3 (ix2 r d) : EReal)
    = gated (fun j => x0 (ix2 r j) + x1 (ix2 r j)) (fun j => x3 (ix2 0 j)) (fun j => x2 (ix2 r ⟨8192 + j, by omega⟩)) d := by
  have hd : (⟨(d : ℕ) / 128 * 128 + (d : ℕ) % 128, by omega⟩ : Fin 2048) = d := Fin.ext (by show (d : ℕ) / 128 * 128 + (d : ℕ) % 128 = d; omega)
  have h := normed_apply x0 x1 x3 r ⟨(d : ℕ) / 128, by omega⟩ ⟨(d : ℕ) % 128, by omega⟩
  have hs := silu_apply x2 r d
  simp only [hd] at h
  unfold val_main_v35 val_main_v33
  generalize val_main_v32 (F := Ideal) x0 x1 x3 = y at h ⊢
  generalize val_main_v34 (F := Ideal) x2 = z at hs ⊢
  pointwise
  rw [h, hs]
  rfl

/-- The result. -/
theorem result (r : Fin 8704) (d : Fin 2048) : (val_main_v38 x0 x1 x2 x3 x4 x5 x6 (ix2 r d) : EReal)
    = x5 (ix2 r d) + lane x6 5 r d * ∑ j, gated (fun j => x0 (ix2 r j) + x1 (ix2 r j)) (fun j => x3 (ix2 0 j))
        (fun j => x2 (ix2 r ⟨8192 + j, by omega⟩)) j * x4 (ix3 0 j d) := by
  have hn := gated_apply x0 x1 x2 x3 r
  have hf := factor_apply x6 r d
  unfold val_main_v38 val_main_v37 val_main_v36 val_main_v17 val_main_v16
  generalize val_main_v35 (F := Ideal) x0 x1 x2 x3 = y at hn ⊢
  generalize val_main_v11 (F := Ideal) x6 = f at hf ⊢
  pointwise
  simp only [hn, hf]

end Cert.GateRefIdeal.Step

end
-- ==== Proof.GateEq.lean ====
/- The output of the gated recurrence and its reference leave equal results. -/
module

public import proofs.«01_k».proof.Proof.GateBlock
public import proofs.«01_k».proof.Proof.GateRef

@[expose] public section

set_option maxRecDepth 16384

noncomputable section

namespace Cert.GateIdeal.Step

open Cert.GateIdeal Cert.GateIdeal.Gen Cert.Gate Cert.Step Idealize.ShloMosaic Idealize.ShloMosaic.TcCoe Idealize.SL.Sem

variable (m : (ℓ : Loc nD τ sig) → Buf (Elt Ideal) ℓ)

/-- Where each window's block lies. -/
theorem idx : ∀ t : Fin cfg0.N, win0_0.index t = ![t.val, 0] ∧ win0_1.index t = ![t.val, 0] ∧ win0_2.index t = ![t.val, 4]
    ∧ win0_3.index t = ![0, 0] ∧ win0_4.index t = ![0, 0] ∧ win0_5.index t = ![t.val, 0]
    ∧ win0_6.index t = ![0, t.val / 16, 0, 0] ∧ win0_7.index t = ![t.val, 0] :=
  (by decide +kernel : ∀ t : Fin grid0.N, _)

/-- The two directions' rows of the recurrence. -/
abbrev fwd (c : Dev nD) (r : Fin 8704) (j : Fin 2048) : EReal := m ((c : Thread nD τ).loc main_arg0) (ix2 r j)

abbrev bwd (c : Dev nD) (r : Fin 8704) (j : Fin 2048) : EReal := m ((c : Thread nD τ).loc main_arg1) (ix2 r j)

/-- The gate's columns of the projections. -/
abbrev gate (c : Dev nD) (r : Fin 8704) (j : Fin 2048) : EReal := m ((c : Thread nD τ).loc main_arg2) (ix2 r ⟨8192 + j, by omega⟩)

/-- The norm's scale. -/
abbrev gain (c : Dev nD) (j : Fin 2048) : EReal := m ((c : Thread nD τ).loc main_arg3) (ix2 0 j)

/-- The weights. -/
abbrev weight (c : Dev nD) (j d : Fin 2048) : EReal := m ((c : Thread nD τ).loc main_arg4) (ix3 0 j d)

/-- A row of the hidden state. -/
abbrev xrow (c : Dev nD) (r : Fin 8704) (j : Fin 2048) : EReal := m ((c : Thread nD τ).loc main_arg5) (ix2 r j)

/-- A modulation row of batch entry `b`. -/
abbrev mod (c : Dev nD) (b : Fin 8) (k : Fin 9) (j : Fin 2048) : EReal := m ((c : Thread nD τ).loc main_arg6) (ix4 0 b k j)

theorem fwd_read (c : Dev nD) (t : Fin cfg0.N) (r : Fin 256) (j : Fin 2048) (R : Fin 8704) (hR : (R : ℕ) = t.val * 256 + r) :
    (iblk m c 0 t (ix2 r j) : EReal) = fwd m c R j := by
  have e : iblk m c 0 t (ix2 r j) = V m c main_arg0 (ix2 R j) := by blk_ext [iblk, idx t]
  rw [e]
  entry_read
  rfl

theorem bwd_read (c : Dev nD) (t : Fin cfg0.N) (r : Fin 256) (j : Fin 2048) (R : Fin 8704) (hR : (R : ℕ) = t.val * 256 + r) :
    (iblk m c 1 t (ix2 r j) : EReal) = bwd m c R j := by
  have e : iblk m c 1 t (ix2 r j) = V m c main_arg1 (ix2 R j) := by blk_ext [iblk, idx t]
  rw [e]
  entry_read
  rfl

theorem gate_read (c : Dev nD) (t : Fin cfg0.N) (r : Fin 256) (j : Fin 2048) (R : Fin 8704) (hR : (R : ℕ) = t.val * 256 + r) :
    (iblk m c 2 t (ix2 r j) : EReal) = gate m c R j := by
  have e : iblk m c 2 t (ix2 r j) = V m c main_arg2 (ix2 R ⟨8192 + j, by omega⟩) := by blk_ext [iblk, idx t]
  rw [e]
  entry_read
  rfl

theorem gain_read (c : Dev nD) (t : Fin cfg0.N) (j : Fin 2048) : (iblk m c 3 t (ix2 0 j) : EReal) = gain m c j := by
  have e : iblk m c 3 t (ix2 0 j) = V m c main_v2 (ix2 0 j) := by blk_ext [iblk, idx t]
  rw [e]
  entry_read
  pointwise

theorem weight_read (c : Dev nD) (t : Fin cfg0.N) (j d : Fin 2048) : (iblk m c 4 t (ix2 j d) : EReal) = weight m c j d := by
  have e : iblk m c 4 t (ix2 j d) = V m c main_v5 (ix2 j d) := by blk_ext [iblk, idx t]
  rw [e]
  entry_read
  pointwise

theorem x_read (c : Dev nD) (t : Fin cfg0.N) (r : Fin 256) (j : Fin 2048) (R : Fin 8704) (hR : (R : ℕ) = t.val * 256 + r) :
    (iblk m c 5 t (ix2 r j) : EReal) = xrow m c R j := by
  have e : iblk m c 5 t (ix2 r j) = V m c main_arg5 (ix2 R j) := by blk_ext [iblk, idx t]
  rw [e]
  entry_read
  rfl

theorem mod_read (c : Dev nD) (t : Fin cfg0.N) (k : Fin 9) (j : Fin 2048) (b : Fin 8) (hb : (b : ℕ) = t.val / 16) :
    (iblk m c 6 t (ix4 0 0 k j) : EReal) = mod m c b k j := by
  have e : iblk m c 6 t (ix4 0 0 k j) = V m c main_arg6 (ix4 0 b k j) := by blk_ext [iblk, idx t]
  rw [e]
  entry_read
  rfl

theorem block (c : Dev nD) (t : Fin cfg0.N) (r : Fin 256) (d : Fin 2048) (R : Fin 8704) (hR : (R : ℕ) = t.val * 256 + r) :
    (out0_7 (F := Ideal) (iblk m c 0 t) (iblk m c 1 t) (iblk m c 2 t) (iblk m c 3 t) (iblk m c 4 t) (iblk m c 5 t) (iblk m c 6 t) (ix2 r d) : EReal)
      = xrow m c R d + mod m c ⟨(R : ℕ) / 4096, by omega⟩ 5 d
          * ∑ j, gated (fun j => fwd m c R j + bwd m c R j) (gain m c) (gate m c R) j * weight m c j d := by
  rw [body]
  have hb : (R : ℕ) / 4096 = t.val / 16 := by omega
  refine (out_apply _ _ _ _ r d).trans ?_
  refine congrArg₂ (· + ·) (x_read m c t r d R hR) (congrArg₂ (· * ·) ?_ (Finset.sum_congr rfl fun j _ => ?_))
  · exact (modRow_apply _ 5 _ d).trans (mod_read m c t 5 d _ hb)
  · refine congrArg₂ (· * ·) ((rowsOf_apply _ _ _ _ r j).trans ?_) (weight_read m c t j d)
    refine congr₃ (fun o g z => gated o g z j) (funext fun i => ?_) (funext fun i => gain_read m c t i) (funext fun i => gate_read m c t r i R hR)
    exact congrArg₂ (· + ·) (fwd_read m c t r i R hR) (bwd_read m c t r i R hR)

theorem equal (c : Dev nD) : (dats m 0 c).arrAt 7 cfg0.N
    = (GateRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) : Vec Ideal S8704x2048 .f32) := by
  refine (dats m 0 c).arrAt_eq_of_covers 7 _ (by decide +kernel) fun t hf y => ?_
  blk_simp
  rw [after0_7]
  have ht : t.val < 34 := t.isLt
  obtain ⟨r, d, rfl⟩ : ∃ (r : Fin 256) (d : Fin 2048), y = ix2 r d := ⟨y 0, y 1, by funext a; fin_cases a <;> rfl⟩
  refine (block m c t r d ⟨t.val * 256 + r, by omega⟩ rfl).trans ?_
  refine (GateRefIdeal.Step.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) _ _).symm.trans ?_
  blk_ext [idx t]

end Cert.GateIdeal.Step

end
-- ==== Proof.LastBlock.lean ====
/- The output of the gated recurrence in the last layer: what one grid point writes, entry by entry. -/
module

public import proofs.«01_k».proof.Proof.Gen.LastIdeal.Value
public import proofs.«01_k».proof.Proof.GateBlock

@[expose] public section

set_option maxRecDepth 16384

noncomputable section

namespace Cert.LastIdeal.Step

open Cert.LastIdeal Cert.LastIdeal.Gen Cert.Gate Cert.GateIdeal.Step Cert.Step Idealize.ShloMosaic Idealize.ShloMosaic.TcCoe Idealize.SL.Sem

variable (m : (ℓ : Loc nD τ sig) → Buf (Elt Ideal) ℓ)

/-- A grid point of the latent rows. -/
theorem point_lat (c : Dev nD) (t : Fin cfg0.N) (h : t.val < 32) :
    outsAt0 m c t.val t.isLt = Cert.GateIdeal.Gen.k0_pay3 (F := Ideal)
      (rowsOf (Cert.GateIdeal.Gen.k0_pay4 (iblk m c 0 t) (iblk m c 1 t)) (Cert.GateIdeal.Gen.k0_pay5 (iblk m c 2 t)) (iblk m c 3 t))
      (iblk m c 4 t) (iblk m c 5 t) (modRow (iblk m c 6 t) 5 (by decide)) := by
  rw [outsAt0_A m c t h (by omega)]
  frame_out
  exact congrArg (fun Y => Cert.GateIdeal.Gen.k0_pay3 (F := Ideal) Y (iblk m c 4 t) (iblk m c 5 t) (modRow (iblk m c 6 t) 5 (by decide)))
    (join (piece (Cert.GateIdeal.Gen.k0_pay4 (iblk m c 0 t) (iblk m c 1 t)) (Cert.GateIdeal.Gen.k0_pay5 (iblk m c 2 t)) (iblk m c 3 t))
      rfl rfl rfl rfl rfl rfl rfl rfl rfl rfl rfl rfl rfl rfl rfl rfl)

/-- A grid point of the context rows keeps them. -/
theorem point_ctx (c : Dev nD) (t : Fin cfg0.N) (h : 32 ≤ t.val) : outsAt0 m c t.val t.isLt = iblk m c 5 t := by
  rw [outsAt0_B m c t (by omega) h]
  frame_out

/-- Where each window's block lies. -/
theorem idx : ∀ t : Fin cfg0.N, win0_0.index t = ![t.val, 0] ∧ win0_1.index t = ![t.val, 0] ∧ win0_2.index t = ![t.val, 4]
    ∧ win0_3.index t = ![0, 0] ∧ win0_4.index t = ![0, 0] ∧ win0_5.index t = ![t.val, 0]
    ∧ win0_6.index t = ![3, t.val / 16, 0, 0] ∧ win0_7.index t = ![t.val, 0] :=
  (by decide +kernel : ∀ t : Fin grid0.N, _)

/-- The two directions' rows of the recurrence. -/
abbrev fwd (c : Dev nD) (r : Fin 8704) (j : Fin 2048) : EReal := m ((c : Thread nD τ).loc main_arg0) (ix2 r j)

abbrev bwd (c : Dev nD) (r : Fin 8704) (j : Fin 2048) : EReal := m ((c : Thread nD τ).loc main_arg1) (ix2 r j)

/-- The gate's columns of the projections. -/
abbrev gate (c : Dev nD) (r : Fin 8704) (j : Fin 2048) : EReal := m ((c : Thread nD τ).loc main_arg2) (ix2 r ⟨8192 + j, by omega⟩)

/-- The norm's scale. -/
abbrev gain (c : Dev nD) (j : Fin 2048) : EReal := m ((c : Thread nD τ).loc main_arg3) (ix2 1 j)

/-- The weights. -/
abbrev weight (c : Dev nD) (j d : Fin 2048) : EReal := m ((c : Thread nD τ).loc main_arg4) (ix3 1 j d)

/-- A row of the hidden state. -/
abbrev xrow (c : Dev nD) (r : Fin 8704) (j : Fin 2048) : EReal := m ((c : Thread nD τ).loc main_arg5) (ix2 r j)

/-- A modulation row of batch entry `b`. -/
abbrev mod (c : Dev nD) (b : Fin 8) (k : Fin 9) (j : Fin 2048) : EReal := m ((c : Thread nD τ).loc main_arg6) (ix4 3 b k j)

theorem fwd_read (c : Dev nD) (t : Fin cfg0.N) (r : Fin 256) (j : Fin 2048) (R : Fin 8704) (hR : (R : ℕ) = t.val * 256 + r) :
    (iblk m c 0 t (ix2 r j) : EReal) = fwd m c R j := by
  have e : iblk m c 0 t (ix2 r j) = V m c main_arg0 (ix2 R j) := by blk_ext [iblk, idx t]
  rw [e]
  entry_read
  rfl

theorem bwd_read (c : Dev nD) (t : Fin cfg0.N) (r : Fin 256) (j : Fin 2048) (R : Fin 8704) (hR : (R : ℕ) = t.val * 256 + r) :
    (iblk m c 1 t (ix2 r j) : EReal) = bwd m c R j := by
  have e : iblk m c 1 t (ix2 r j) = V m c main_arg1 (ix2 R j) := by blk_ext [iblk, idx t]
  rw [e]
  entry_read
  rfl

theorem gate_read (c : Dev nD) (t : Fin cfg0.N) (r : Fin 256) (j : Fin 2048) (R : Fin 8704) (hR : (R : ℕ) = t.val * 256 + r) :
    (iblk m c 2 t (ix2 r j) : EReal) = gate m c R j := by
  have e : iblk m c 2 t (ix2 r j) = V m c main_arg2 (ix2 R ⟨8192 + j, by omega⟩) := by blk_ext [iblk, idx t]
  rw [e]
  entry_read
  rfl

theorem gain_read (c : Dev nD) (t : Fin cfg0.N) (j : Fin 2048) : (iblk m c 3 t (ix2 0 j) : EReal) = gain m c j := by
  have e : iblk m c 3 t (ix2 0 j) = V m c main_v2 (ix2 0 j) := by blk_ext [iblk, idx t]
  rw [e]
  entry_read
  pointwise

theorem weight_read (c : Dev nD) (t : Fin cfg0.N) (j d : Fin 2048) : (iblk m c 4 t (ix2 j d) : EReal) = weight m c j d := by
  have e : iblk m c 4 t (ix2 j d) = V m c main_v5 (ix2 j d) := by blk_ext [iblk, idx t]
  rw [e]
  entry_read
  pointwise

theorem x_read (c : Dev nD) (t : Fin cfg0.N) (r : Fin 256) (j : Fin 2048) (R : Fin 8704) (hR : (R : ℕ) = t.val * 256 + r) :
    (iblk m c 5 t (ix2 r j) : EReal) = xrow m c R j := by
  have e : iblk m c 5 t (ix2 r j) = V m c main_arg5 (ix2 R j) := by blk_ext [iblk, idx t]
  rw [e]
  entry_read
  rfl

theorem mod_read (c : Dev nD) (t : Fin cfg0.N) (k : Fin 9) (j : Fin 2048) (b : Fin 8) (hb : (b : ℕ) = t.val / 16) :
    (iblk m c 6 t (ix4 0 0 k j) : EReal) = mod m c b k j := by
  have e : iblk m c 6 t (ix4 0 0 k j) = V m c main_arg6 (ix4 3 b k j) := by blk_ext [iblk, idx t]
  rw [e]
  entry_read
  rfl

/-- The result at a latent row. -/
theorem block_lat (c : Dev nD) (t : Fin cfg0.N) (h : t.val < 32) (r : Fin 256) (d : Fin 2048) (R : Fin 8704) (hR : (R : ℕ) = t.val * 256 + r) :
    (outsAt0 m c t.val t.isLt (ix2 r d) : EReal) = xrow m c R d + mod m c ⟨(R : ℕ) / 4096, by omega⟩ 5 d
      * ∑ j, gated (fun j => fwd m c R j + bwd m c R j) (gain m c) (gate m c R) j * weight m c j d := by
  rw [point_lat m c t h]
  have hb : (R : ℕ) / 4096 = t.val / 16 := by omega
  refine (out_apply _ _ _ _ r d).trans ?_
  refine congrArg₂ (· + ·) (x_read m c t r d R hR) (congrArg₂ (· * ·) ?_ (Finset.sum_congr rfl fun j _ => ?_))
  · exact (modRow_apply _ 5 _ d).trans (mod_read m c t 5 d _ hb)
  · refine congrArg₂ (· * ·) ((rowsOf_apply _ _ _ _ r j).trans ?_) (weight_read m c t j d)
    refine congr₃ (fun o g z => gated o g z j) (funext fun i => ?_) (funext fun i => gain_read m c t i) (funext fun i => gate_read m c t r i R hR)
    exact congrArg₂ (· + ·) (fwd_read m c t r i R hR) (bwd_read m c t r i R hR)

/-- The result at a context row. -/
theorem block_ctx (c : Dev nD) (t : Fin cfg0.N) (h : 32 ≤ t.val) (r : Fin 256) (d : Fin 2048) (R : Fin 8704) (hR : (R : ℕ) = t.val * 256 + r) :
    (outsAt0 m c t.val t.isLt (ix2 r d) : EReal) = xrow m c R d := by
  rw [point_ctx m c t h]
  exact x_read m c t r d R hR

end Cert.LastIdeal.Step

end
-- ==== Proof.LastRef.lean ====
/- The output of the gated recurrence in the last layer as its reference states it, entry by entry. -/
module

public import proofs.«01_k».proof.Proof.Gen.LastRefIdeal.Read
public import proofs.«01_k».proof.Proof.GateMath
public import Idealize.ShloMosaic.Lib.Pointwise

@[expose] public section

set_option maxRecDepth 16384

noncomputable section

namespace Cert.LastRefIdeal.Step

open Cert.LastRefIdeal Cert.LastRefIdeal.Gen Cert.LastRefIdeal.Read Cert.Gate Idealize.ShloMosaic Idealize.ShloMosaic.TcCoe Idealize.SL.Sem

variable (x0 x1 : (⟨S8704x2048, .f32⟩ : BufTy).Contents (Elt Ideal)) (x2 : (⟨S8704x10240, .f32⟩ : BufTy).Contents (Elt Ideal))
  (x3 : (⟨S2x2048, .f32⟩ : BufTy).Contents (Elt Ideal)) (x4 : (⟨S2x2048x2048, .f32⟩ : BufTy).Contents (Elt Ideal))
  (x5 : (⟨S8704x2048, .f32⟩ : BufTy).Contents (Elt Ideal)) (x6 : (⟨S4x8x9x2048, .f32⟩ : BufTy).Contents (Elt Ideal))

theorem factor_apply (r : Fin 8192) (j : Fin 2048) :
    (val_main_v34 x6 (ix2 r j) : EReal) = x6 (ix4 3 ⟨(r : ℕ) / 4096, by omega⟩ 5 j) := by
  pointwise [val_main_v34, val_main_v33, val_main_v4, val_main_v3, val_main_v2, val_main_v1, val_main_v0]

theorem head_apply (r : Fin 8192) (n : Fin 16) (k : Fin 128) : (val_main_v13 x0 x1 (ix3 r n k) : EReal)
    = x0 (ix2 ⟨r, by omega⟩ ⟨n * 128 + k, by omega⟩) + x1 (ix2 ⟨r, by omega⟩ ⟨n * 128 + k, by omega⟩) := by
  pointwise [val_main_v13, val_main_v7, val_main_v6, val_main_v5]

theorem gain_apply (n : Fin 16) (k : Fin 128) : (val_main_v14 x3 (ix2 n k) : EReal) = x3 (ix2 1 ⟨n * 128 + k, by omega⟩) := by
  pointwise [val_main_v14, val_main_v10, val_main_v9]

theorem inv_apply (r : Fin 8192) (n : Fin 16) : (val_main_v22 x0 x1 (ix3 r n 0) : EReal)
    = inv (fun k => x0 (ix2 ⟨r, by omega⟩ ⟨n * 128 + k, by omega⟩) + x1 (ix2 ⟨r, by omega⟩ ⟨n * 128 + k, by omega⟩)) := by
  have h := head_apply x0 x1 r n
  unfold val_main_v22 val_main_v21 val_main_v20 val_main_cst_1 val_main_v19 val_main_v18 val_main_cst_0 val_main_v17 val_main_v16
    val_main_cst val_main_v15
  generalize val_main_v13 (F := Ideal) x0 x1 = y at h ⊢
  pointwise
  simp only [h]
  rfl

theorem normed_apply (r : Fin 8192) (n : Fin 16) (k : Fin 128) : (val_main_v27 x0 x1 x3 (ix3 r n k) : EReal)
    = (x0 (ix2 ⟨r, by omega⟩ ⟨n * 128 + k, by omega⟩) + x1 (ix2 ⟨r, by omega⟩ ⟨n * 128 + k, by omega⟩))
      * inv (fun k => x0 (ix2 ⟨r, by omega⟩ ⟨n * 128 + k, by omega⟩) + x1 (ix2 ⟨r, by omega⟩ ⟨n * 128 + k, by omega⟩))
      * x3 (ix2 1 ⟨n * 128 + k, by omega⟩) := by
  have h := head_apply x0 x1 r n k
  have hi := inv_apply x0 x1 r n
  have hg := gain_apply x3 n k
  unfold val_main_v27 val_main_v26 val_main_v25 val_main_v24 val_main_v23
  generalize val_main_v13 (F := Ideal) x0 x1 = y at h ⊢
  generalize val_main_v22 (F := Ideal) x0 x1 = i at hi ⊢
  generalize val_main_v14 (F := Ideal) x3 = g at hg ⊢
  pointwise
  rw [h, hi, hg]

theorem silu_apply (r : Fin 8192) (d : Fin 2048) : (val_main_v29 x2 (ix2 r d) : EReal)
    = x2 (ix2 ⟨r, by omega⟩ ⟨8192 + d, by omega⟩) * Ideal.logistic (x2 (ix2 ⟨r, by omega⟩ ⟨8192 + d, by omega⟩)) := by
  pointwise [val_main_v29, val_main_call0_v5, val_main_call0_v4, val_main_call0_cst_0, val_main_call0_v3, val_main_call0_v2,
    val_main_call0_cst, val_main_call0_v1, val_main_call0_v0, val_main_v8]
  rfl

theorem gated_apply (r : Fin 8192) (d : Fin 2048) : (val_main_v30 x0 x1 x2 x3 (ix2 r d) : EReal)
    = gated (fun j => x0 (ix2 ⟨r, by omega⟩ j) + x1 (ix2 ⟨r, by omega⟩ j)) (fun j => x3 (ix2 1 j))
        (fun j => x2 (ix2 ⟨r, by omega⟩ ⟨8192 + j, by omega⟩)) d := by
  have hd : (⟨(d : ℕ) / 128 * 128 + (d : ℕ) % 128, by omega⟩ : Fin 2048) = d := Fin.ext (by show (d : ℕ) / 128 * 128 + (d : ℕ) % 128 = d; omega)
  have h := normed_apply x0 x1 x3 r ⟨(d : ℕ) / 128, by omega⟩ ⟨(d : ℕ) % 128, by omega⟩
  have hs := silu_apply x2 r d
  simp only [hd] at h
  unfold val_main_v30 val_main_v28
  generalize val_main_v27 (F := Ideal) x0 x1 x3 = y at h ⊢
  generalize val_main_v29 (F := Ideal) x2 = z at hs ⊢
  pointwise
  rw [h, hs]
  rfl

/-- A latent row of the result. -/
theorem result_lat (r : Fin 8192) (d : Fin 2048) : (val_main_v36 x0 x1 x2 x3 x4 x5 x6 (ix2 r d) : EReal)
    = x5 (ix2 ⟨r, by omega⟩ d) + x6 (ix4 3 ⟨(r : ℕ) / 4096, by omega⟩ 5 d)
      * ∑ j, gated (fun j => x0 (ix2 ⟨r, by omega⟩ j) + x1 (ix2 ⟨r, by omega⟩ j)) (fun j => x3 (ix2 1 j))
          (fun j => x2 (ix2 ⟨r, by omega⟩ ⟨8192 + j, by omega⟩)) j * x4 (ix3 1 j d) := by
  have hn := gated_apply x0 x1 x2 x3 r
  have hf := factor_apply x6 r d
  unfold val_main_v36 val_main_v35 val_main_v32 val_main_v31 val_main_v12 val_main_v11
  generalize val_main_v30 (F := Ideal) x0 x1 x2 x3 = y at hn ⊢
  generalize val_main_v34 (F := Ideal) x6 = f at hf ⊢
  pointwise
  simp only [hn, hf]

/-- The result: the latent rows, and the context rows as they were. -/
theorem result (r : Fin 8704) (d : Fin 2048) : (val_main_v38 x0 x1 x2 x3 x4 x5 x6 (ix2 r d) : EReal)
    = if h : (r : ℕ) < 8192 then val_main_v36 x0 x1 x2 x3 x4 x5 x6 (ix2 ⟨r, h⟩ d) else x5 (ix2 r d) := by
  unfold val_main_v38 val_main_v37
  generalize val_main_v36 (F := Ideal) x0 x1 x2 x3 x4 x5 x6 = y
  pointwise
  split
  · rfl
  · exact congrArg (fun q => x5 (ix2 q d)) (Fin.ext (by show 8192 + ((r : ℕ) - 8192) = r; omega))

end Cert.LastRefIdeal.Step

end
-- ==== Proof.LastEq.lean ====
/- The output of the gated recurrence in the last layer and its reference leave equal results. -/
module

public import proofs.«01_k».proof.Proof.LastBlock
public import proofs.«01_k».proof.Proof.LastRef

@[expose] public section

set_option maxRecDepth 16384

noncomputable section

namespace Cert.LastIdeal.Step

open Cert.LastIdeal Cert.LastIdeal.Gen Cert.Gate Idealize.ShloMosaic Idealize.ShloMosaic.TcCoe Idealize.SL.Sem

variable (m : (ℓ : Loc nD τ sig) → Buf (Elt Ideal) ℓ)

/-- What the reference makes of the arguments. -/
abbrev wanted (c : Dev nD) : Vec Ideal S8704x2048 .f32 :=
  LastRefIdeal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Each entry a grid point leaves is the wanted one. -/
theorem entry (c : Dev nD) (t : Fin cfg0.N) (r : Fin 256) (d : Fin 2048) (R : Fin 8704) (hR : (R : ℕ) = t.val * 256 + r) :
    (outsAt0 m c t.val t.isLt (ix2 r d) : EReal) = wanted m c (ix2 R d) := by
  refine Eq.trans ?_ (LastRefIdeal.Step.result _ _ _ _ _ _ _ R d).symm
  by_cases h : t.val < 32
  · have hR' : (R : ℕ) < 8192 := by omega
    rw [dif_pos hR']
    refine (block_lat m c t h r d R hR).trans ?_
    exact (LastRefIdeal.Step.result_lat (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) ⟨R, hR'⟩ d).symm
  · have hR' : ¬(R : ℕ) < 8192 := by omega
    rw [dif_neg hR']
    exact block_ctx m c t (by omega) r d R hR

theorem equal (c : Dev nD) : (dats m 0 c).arrAt 7 cfg0.N = wanted m c := by
  refine (dats m 0 c).arrAt_eq_of_covers 7 _ (by decide +kernel) fun t hf y => ?_
  blk_simp
  rw [after0_7]
  have ht : t.val < 34 := t.isLt
  obtain ⟨r, d, rfl⟩ : ∃ (r : Fin 256) (d : Fin 2048), y = ix2 r d := ⟨y 0, y 1, by funext a; fin_cases a <;> rfl⟩
  refine (entry m c t r d ⟨t.val * 256 + r, by omega⟩ rfl).trans ?_
  blk_ext [idx t]

end Cert.LastIdeal.Step

end
-- ==== Proof.QkvHead.lean ====
/- The projections of the latent attention: what one grid point stores for each head, as lanes of the projected rows. -/
module

public import proofs.«01_k».proof.Proof.Gen.QkvIdeal.Value
public import Idealize.ShloMosaic.Lib.Pointwise
public import Idealize.ShloMosaic.Lib.Pipeline.ValueKit

@[expose] public section

set_option maxRecDepth 16384

noncomputable section

namespace Cert.QkvIdeal.Step

open Cert.QkvIdeal Cert.QkvIdeal.Gen Idealize.ShloMosaic Idealize.ShloMosaic.TcCoe Idealize.SL.Sem

/-- 128 lanes of the queries' product, from lane `o`. -/
theorem q_lanes (X : FVec Ideal S256x6144 .f32) (o : ℕ) (h : S256x6144.Slices ![0, o] S256x128) (ho : o + 128 ≤ 6144) (x : S1x1x256x128.Idx) :
    (shapeCast S1x1x256x128 (truncf .bf16 (extractStridedSlice S256x128 ![0, o] X h) bitsLt_bf16_f32) shapeCasts_S256x128_S1x1x256x128 x : EReal)
      = X (ix2 (x 2) ⟨o + x 3, by have := (x 3).isLt; change _ < 128 at this; omega⟩) := by
  obtain ⟨a, b, r, l, rfl⟩ : ∃ (a b : Fin 1) (r : Fin 256) (l : Fin 128), x = ix4 a b r l :=
    ⟨x 0, x 1, x 2, x 3, by funext a; fin_cases a <;> rfl⟩
  pointwise

/-- 128 lanes of the other product, from lane `o`. -/
theorem kv_lanes (X : FVec Ideal S256x4096 .f32) (o : ℕ) (h : S256x4096.Slices ![0, o] S256x128) (ho : o + 128 ≤ 4096) (x : S1x1x256x128.Idx) :
    (shapeCast S1x1x256x128 (truncf .bf16 (extractStridedSlice S256x128 ![0, o] X h) bitsLt_bf16_f32) shapeCasts_S256x128_S1x1x256x128 x : EReal)
      = X (ix2 (x 2) ⟨o + x 3, by have := (x 3).isLt; change _ < 128 at this; omega⟩) := by
  obtain ⟨a, b, r, l, rfl⟩ : ∃ (a b : Fin 1) (r : Fin 256) (l : Fin 128), x = ix4 a b r l :=
    ⟨x 0, x 1, x 2, x 3, by funext a; fin_cases a <;> rfl⟩
  pointwise

/-- 128 rotated lanes of the queries' product: those from `o` times the first table, and those from `o'` times the second. -/
theorem q_turned (X : FVec Ideal S256x6144 .f32) (c s : FVec Ideal S256x128 .f32) (o o' : ℕ) (h : S256x6144.Slices ![0, o] S256x128)
    (h' : S256x6144.Slices ![0, o'] S256x128) (ho : o + 128 ≤ 6144) (ho' : o' + 128 ≤ 6144) (x : S1x1x256x128.Idx) :
    (shapeCast S1x1x256x128 (truncf .bf16 (addf (mulf (extractStridedSlice S256x128 ![0, o] X h) c)
        (mulf (extractStridedSlice S256x128 ![0, o'] X h') s)) bitsLt_bf16_f32) shapeCasts_S256x128_S1x1x256x128 x : EReal)
      = X (ix2 (x 2) ⟨o + x 3, by have := (x 3).isLt; change _ < 128 at this; omega⟩) * c (ix2 (x 2) (x 3))
        + X (ix2 (x 2) ⟨o' + x 3, by have := (x 3).isLt; change _ < 128 at this; omega⟩) * s (ix2 (x 2) (x 3)) := by
  obtain ⟨a, b, r, l, rfl⟩ : ∃ (a b : Fin 1) (r : Fin 256) (l : Fin 128), x = ix4 a b r l :=
    ⟨x 0, x 1, x 2, x 3, by funext a; fin_cases a <;> rfl⟩
  pointwise

/-- Rows stored whole. -/
theorem whole (X : FVec Ideal S256x128 .bf16) (x : S1x1x256x128.Idx) :
    (shapeCast S1x1x256x128 X shapeCasts_S256x128_S1x1x256x128 x : EReal) = X (ix2 (x 2) (x 3)) := by
  obtain ⟨a, b, r, l, rfl⟩ : ∃ (a b : Fin 1) (r : Fin 256) (l : Fin 128), x = ix4 a b r l :=
    ⟨x 0, x 1, x 2, x 3, by funext a; fin_cases a <;> rfl⟩
  pointwise

/-- A block read at equal places. -/
theorem at_eq {n : ℕ} (X : (⟨2, ![256, n]⟩ : Shape).Idx → EReal) {r r' : Fin 256} {l l' : Fin n} (hr : (r : ℕ) = r') (hl : (l : ℕ) = l') :
    X (ix2 r l) = X (ix2 r' l') := by
  rw [Fin.ext hr, Fin.ext hl]

/-- A block read at equal places, the lanes given as numbers. -/
theorem at_nat {n : ℕ} (X : (⟨2, ![256, n]⟩ : Shape).Idx → EReal) {r r' : Fin 256} {l l' : ℕ} (hr : (r : ℕ) = r') (hl : l = l') (h : l < n)
    (h' : l' < n) : X (ix2 r ⟨l, h⟩) = X (ix2 r' ⟨l', h'⟩) :=
  at_eq X hr hl

variable (x0 : Vec Ideal S256x2048 .f32) (x1 : Vec Ideal S1x1x9x2048 .f32) (x2 : Vec Ideal S1x1x2048 .f32) (x3 : Vec Ideal S2048x1280 .bf16)
  (x4 x5 : Vec Ideal S1x512 .f32) (x6 : Vec Ideal S512x6144 .bf16) (x7 : Vec Ideal S512x4096 .bf16) (x8 x9 : Vec Ideal S256x128 .f32)

/-- A head's plain lanes of the queries. -/
theorem q_low (h : Fin 16) (r : Fin 256) (l : Fin 128) :
    (out0_10 (F := Ideal) x0 x1 x2 x3 x4 x5 x6 x7 x8 x9 (ix4 0 h r ⟨l, by omega⟩) : EReal)
      = k0_pay112 (F := Ideal) x0 x1 x2 x3 x4 x5 x6 x7 x8 x9 (ix2 r ⟨h * 128 + l, by omega⟩) := by
  canon_tiles x hx
  all_goals
    generalize k0_pay112 (F := Ideal) x0 x1 x2 x3 x4 x5 x6 x7 x8 x9 = X
    have e1 : (h : ℕ) = _ := hx1
    have e2 : (r : ℕ) = _ := hx2
    have e3 : (l : ℕ) = _ := hx3
    first
      | (exfalso; omega)
      | (open_payloads
         exact (q_lanes _ _ _ (by decide) x).trans (at_nat _ e2.symm (by omega) _ _))

/-- A head's rotated lanes of the queries. -/
theorem q_high (h : Fin 16) (r : Fin 256) (l : Fin 128) :
    (out0_10 (F := Ideal) x0 x1 x2 x3 x4 x5 x6 x7 x8 x9 (ix4 0 h r ⟨128 + l, by omega⟩) : EReal)
      = k0_pay112 (F := Ideal) x0 x1 x2 x3 x4 x5 x6 x7 x8 x9 (ix2 r ⟨2048 + h * 128 + l, by omega⟩)
          * k0_pay109 (F := Ideal) x0 x1 x2 x3 x4 x5 x6 x7 x8 x9 (ix2 r l)
        + k0_pay112 (F := Ideal) x0 x1 x2 x3 x4 x5 x6 x7 x8 x9 (ix2 r ⟨4096 + h * 128 + l, by omega⟩)
          * k0_pay110 (F := Ideal) x0 x1 x2 x3 x4 x5 x6 x7 x8 x9 (ix2 r l) := by
  canon_tiles x hx
  all_goals
    generalize k0_pay112 (F := Ideal) x0 x1 x2 x3 x4 x5 x6 x7 x8 x9 = X
    generalize k0_pay109 (F := Ideal) x0 x1 x2 x3 x4 x5 x6 x7 x8 x9 = C
    generalize k0_pay110 (F := Ideal) x0 x1 x2 x3 x4 x5 x6 x7 x8 x9 = D
    have e1 : (h : ℕ) = _ := hx1
    have e2 : (r : ℕ) = _ := hx2
    have e3 : 128 + (l : ℕ) = _ := hx3
    first
      | (exfalso; omega)
      | (open_payloads
         exact (q_turned _ _ _ _ _ _ _ (by decide) (by decide) x).trans (congrArg₂ (· + ·)
           (congrArg₂ (· * ·) (at_nat _ e2.symm (by omega) _ _) (at_eq _ e2.symm (by omega)))
           (congrArg₂ (· * ·) (at_nat _ e2.symm (by omega) _ _) (at_eq _ e2.symm (by omega)))))

/-- A head's plain lanes of the keys. -/
theorem k_low (h : Fin 16) (r : Fin 256) (l : Fin 128) :
    (out0_11 (F := Ideal) x0 x1 x2 x3 x4 x5 x6 x7 x8 x9 (ix4 0 h r ⟨l, by omega⟩) : EReal)
      = k0_pay113 (F := Ideal) x0 x1 x2 x3 x4 x5 x6 x7 x8 x9 (ix2 r ⟨h * 128 + l, by omega⟩) := by
  canon_tiles x hx
  all_goals
    generalize k0_pay113 (F := Ideal) x0 x1 x2 x3 x4 x5 x6 x7 x8 x9 = X
    have e1 : (h : ℕ) = _ := hx1
    have e2 : (r : ℕ) = _ := hx2
    have e3 : (l : ℕ) = _ := hx3
    first
      | (exfalso; omega)
      | (open_payloads
         exact (kv_lanes _ _ _ (by decide) x).trans (at_nat _ e2.symm (by omega) _ _))

/-- The rotated lanes of the keys, the same for every head. -/
theorem k_high (h : Fin 16) (r : Fin 256) (l : Fin 128) :
    (out0_11 (F := Ideal) x0 x1 x2 x3 x4 x5 x6 x7 x8 x9 (ix4 0 h r ⟨128 + l, by omega⟩) : EReal)
      = k0_pay111 (F := Ideal) x0 x1 x2 x3 x4 x5 x6 x7 x8 x9 (ix2 r l) := by
  canon_tiles x hx
  all_goals
    generalize k0_pay111 (F := Ideal) x0 x1 x2 x3 x4 x5 x6 x7 x8 x9 = X
    have e1 : (h : ℕ) = _ := hx1
    have e2 : (r : ℕ) = _ := hx2
    have e3 : 128 + (l : ℕ) = _ := hx3
    first
      | (exfalso; omega)
      | (open_payloads
         exact (whole _ x).trans (at_eq _ e2.symm (by omega)))

/-- A head's lanes of the values. -/
theorem v_low (h : Fin 16) (r : Fin 256) (l : Fin 128) :
    (out0_12 (F := Ideal) x0 x1 x2 x3 x4 x5 x6 x7 x8 x9 (ix4 0 h r ⟨l, by omega⟩) : EReal)
      = k0_pay113 (F := Ideal) x0 x1 x2 x3 x4 x5 x6 x7 x8 x9 (ix2 r ⟨2048 + h * 128 + l, by omega⟩) := by
  canon_tiles x hx
  all_goals
    generalize k0_pay113 (F := Ideal) x0 x1 x2 x3 x4 x5 x6 x7 x8 x9 = X
    have e1 : (h : ℕ) = _ := hx1
    have e2 : (r : ℕ) = _ := hx2
    have e3 : (l : ℕ) = _ := hx3
    first
      | (exfalso; omega)
      | (open_payloads
         exact (kv_lanes _ _ _ (by decide) x).trans (at_nat _ e2.symm (by omega) _ _))

/-- The lanes after a head's values. -/
theorem v_high (h : Fin 16) (r : Fin 256) (l : Fin 128) :
    (out0_12 (F := Ideal) x0 x1 x2 x3 x4 x5 x6 x7 x8 x9 (ix4 0 h r ⟨128 + l, by omega⟩) : EReal)
      = k0_pay114 (F := Ideal) x0 x1 x2 x3 x4 x5 x6 x7 x8 x9 (ix2 r l) := by
  canon_tiles x hx
  all_goals
    generalize k0_pay114 (F := Ideal) x0 x1 x2 x3 x4 x5 x6 x7 x8 x9 = X
    have e1 : (h : ℕ) = _ := hx1
    have e2 : (r : ℕ) = _ := hx2
    have e3 : 128 + (l : ℕ) = _ := hx3
    first
      | (exfalso; omega)
      | (open_payloads
         exact (whole _ x).trans (at_eq _ e2.symm (by omega)))

end Cert.QkvIdeal.Step

end
-- ==== Proof.QkvMath.lean ====
/- The projections of the latent attention, row by row, over the extended reals: the second norm, the up-projections and the
   rotation of 64 lanes, as functions of one row. -/
module

public import proofs.«01_k».proof.Proof.FfnMath

@[expose] public section

noncomputable section

namespace Cert.Qkv

open Idealize.ShloMosaic

/-- One over the root of the mean square of 512 lanes, with the small constant added under the root. -/
def inv (x : Fin 512 → EReal) : EReal :=
  Ideal.rsqrt (Ideal.div (∑ j, x j * x j) (Ideal.ofBits .f32 1140850688#32) + Ideal.ofBits .f32 897988541#32)

/-- The product of 512 lanes, normed and scaled by `g`, with one column of weights. -/
def up (x g w : Fin 512 → EReal) : EReal := ∑ j, x j * inv x * g j * w j

/-- The flat row of token `s` of batch entry `b`: the latent tokens of all entries come first, then the context tokens. -/
def row (b : Fin 2) (s : Fin 4352) : Fin 8704 :=
  ⟨if (s : ℕ) < 4096 then b * 4096 + s else 8192 + b * 256 + (s - 4096), by split <;> omega⟩

/-- The lane a lane is rotated with. -/
def partner (l : Fin 64) : Fin 64 := ⟨if (l : ℕ) % 32 < 16 then l + 16 else l - 16, by split <;> omega⟩

/-- 64 lanes rotated: two groups of 32, each rotating its first 16 lanes with its last 16. -/
def rot (x : Fin 64 → EReal) (c s : Fin 2 → Fin 16 → EReal) (l : Fin 64) : EReal :=
  if (l : ℕ) % 32 < 16 then x l * c ⟨l / 32, by omega⟩ ⟨l % 16, by omega⟩ - x (partner l) * s ⟨l / 32, by omega⟩ ⟨l % 16, by omega⟩
  else x l * c ⟨l / 32, by omega⟩ ⟨l % 16, by omega⟩ + x (partner l) * s ⟨l / 32, by omega⟩ ⟨l % 16, by omega⟩

/-- The rotation with the sign moved into the sine's table. -/
theorem rot_eq (x : Fin 64 → EReal) (c s : Fin 2 → Fin 16 → EReal) (l : Fin 64) :
    x l * c ⟨l / 32, by omega⟩ ⟨l % 16, by omega⟩
      + x (partner l) * (if (l : ℕ) % 32 < 16 then -s ⟨l / 32, by omega⟩ ⟨l % 16, by omega⟩ else s ⟨l / 32, by omega⟩ ⟨l % 16, by omega⟩)
      = rot x c s l := by
  unfold rot
  split
  · rw [mul_neg, sub_eq_add_neg]
  · rfl

/-- The rotation written half by half. -/
theorem rot_halves (x : Fin 64 → EReal) (c s : Fin 2 → Fin 16 → EReal) (l : Fin 64) :
    (if _ : (l : ℕ) / 16 % 2 < 1 then
      x ⟨l / 32 * 32 + l % 16, by omega⟩ * c ⟨l / 32, by omega⟩ ⟨l % 16, by omega⟩
        - x ⟨l / 32 * 32 + 16 + l % 16, by omega⟩ * s ⟨l / 32, by omega⟩ ⟨l % 16, by omega⟩
     else x ⟨l / 32 * 32 + 16 + l % 16, by omega⟩ * c ⟨l / 32, by omega⟩ ⟨l % 16, by omega⟩
        + x ⟨l / 32 * 32 + l % 16, by omega⟩ * s ⟨l / 32, by omega⟩ ⟨l % 16, by omega⟩) = rot x c s l := by
  unfold rot partner
  rcases Nat.lt_or_ge ((l : ℕ) % 32) 16 with hl | hl
  · have e1 : (⟨l / 32 * 32 + l % 16, by omega⟩ : Fin 64) = l := Fin.ext (by simp only []; omega)
    have e2 : (l : ℕ) / 32 * 32 + 16 + l % 16 = l + 16 := by omega
    rw [dif_pos (by omega), if_pos hl, e1]
    simp only [e2, if_pos hl]
  · have e1 : (l : ℕ) / 32 * 32 + l % 16 = l - 16 := by omega
    have e2 : (⟨l / 32 * 32 + 16 + l % 16, by omega⟩ : Fin 64) = l := Fin.ext (by simp only []; omega)
    rw [dif_neg (by omega), if_neg (by omega), e2]
    simp only [e1, if_neg (show ¬(l : ℕ) % 32 < 16 by omega)]

end Cert.Qkv

end
-- ==== Proof.QkvBlock.lean ====
/- The projections of the latent attention: the products one grid point computes, entry by entry. -/
module

public import proofs.«01_k».proof.Proof.QkvHead
public import proofs.«01_k».proof.Proof.QkvMath
public import proofs.«01_k».proof.Proof.FfnRows

@[expose] public section

set_option maxRecDepth 16384

noncomputable section

namespace Cert.QkvIdeal.Step

open Cert.QkvIdeal Cert.QkvIdeal.Gen Cert.Step Cert.Qkv Idealize.ShloMosaic Idealize.ShloMosaic.TcCoe Idealize.SL.Sem

theorem down_pay (X : Vec Ideal S256x2048 .f32) (G : Vec Ideal S1x1x2048 .f32) (sh sc : Vec Ideal S1x1x1x2048 .f32)
    (W : Vec Ideal S2048x1280 .bf16) (r : Fin 256) (d : Fin 1280) :
    (k0_pay2 (F := Ideal) X G sh sc W (ix2 r d) : EReal)
      = ∑ j, norm (fun j => X (ix2 r j)) (fun j => G (ix3 0 0 j)) (fun j => sh (ix4 0 0 0 j)) (fun j => sc (ix4 0 0 0 j)) j
          * W (ix2 j d) := by
  pointwise [k0_pay2]
  rfl

theorem q_pay (X : Vec Ideal S256x2048 .f32) (G : Vec Ideal S1x1x2048 .f32) (sh sc : Vec Ideal S1x1x1x2048 .f32)
    (W : Vec Ideal S2048x1280 .bf16) (g : Vec Ideal S1x512 .f32) (U : Vec Ideal S512x6144 .bf16) (r : Fin 256) (d : Fin 6144) :
    (k0_pay9 (F := Ideal) (k0_pay3 X G sh sc W) (k0_pay4 X G sh sc W) k0_pay5 g U (ix2 r d) : EReal)
      = up (fun j => k0_pay2 (F := Ideal) X G sh sc W (ix2 r ⟨j, by omega⟩)) (fun j => g (ix2 0 j)) (fun j => U (ix2 j d)) := by
  unfold k0_pay4 k0_pay3
  generalize k0_pay2 (F := Ideal) X G sh sc W = P
  pointwise [k0_pay9, k0_pay5]
  rfl

theorem kv_pay (P : FVec Ideal S256x1280 .f32) (g : Vec Ideal S1x512 .f32) (U : Vec Ideal S512x4096 .bf16) (r : Fin 256) (d : Fin 4096) :
    (k0_pay10 (F := Ideal) P g U (ix2 r d) : EReal)
      = up (fun j => P (ix2 r ⟨512 + j, by omega⟩)) (fun j => g (ix2 0 j)) (fun j => U (ix2 j d)) := by
  pointwise [k0_pay10]
  rfl

theorem kr_pay (P : FVec Ideal S256x1280 .f32) (C D : Vec Ideal S256x128 .f32) (r : Fin 256) (l : Fin 128) :
    (k0_pay8 (F := Ideal) P C D (ix2 r l) : EReal)
      = P (ix2 r ⟨1024 + l, by omega⟩) * C (ix2 r l) + P (ix2 r ⟨1152 + l, by omega⟩) * D (ix2 r l) := by
  pointwise [k0_pay8, k0_pay6, k0_pay7]

variable (x0 : Vec Ideal S256x2048 .f32) (x1 : Vec Ideal S1x1x9x2048 .f32) (x2 : Vec Ideal S1x1x2048 .f32) (x3 : Vec Ideal S2048x1280 .bf16)
  (x4 x5 : Vec Ideal S1x512 .f32) (x6 : Vec Ideal S512x6144 .bf16) (x7 : Vec Ideal S512x4096 .bf16) (x8 x9 : Vec Ideal S256x128 .f32)

/-- The normed rows times the first weights. -/
theorem down_apply (r : Fin 256) (d : Fin 1280) :
    (k0_pay108 (F := Ideal) x0 x1 x2 x3 x4 x5 x6 x7 x8 x9 (ix2 r d) : EReal)
      = ∑ j, norm (fun j => x0 (ix2 r j)) (fun j => x2 (ix3 0 0 j)) (fun j => x1 (ix4 0 0 3 j)) (fun j => x1 (ix4 0 0 4 j)) j
          * x3 (ix2 j d) := by
  have e : k0_pay108 (F := Ideal) x0 x1 x2 x3 x4 x5 x6 x7 x8 x9
      = k0_pay2 (F := Ideal) x0 x2 (modRow x1 3 (by decide)) (modRow x1 4 (by decide)) x3 := by
    unfold k0_pay108
    frame_out
  rw [e]
  refine (down_pay _ _ _ _ _ r d).trans (Finset.sum_congr rfl fun j _ => congrArg (· * (x3 (ix2 j d) : EReal)) ?_)
  congr 1
  · exact funext fun i => modRow_apply _ 3 _ i
  · exact funext fun i => modRow_apply _ 4 _ i

theorem cos_apply (r : Fin 256) (l : Fin 128) :
    (k0_pay109 (F := Ideal) x0 x1 x2 x3 x4 x5 x6 x7 x8 x9 (ix2 r l) : EReal) = x8 (ix2 r l) := by
  unfold k0_pay109
  frame_out
  pointwise [k0_pay6]

theorem sin_apply (r : Fin 256) (l : Fin 128) :
    (k0_pay110 (F := Ideal) x0 x1 x2 x3 x4 x5 x6 x7 x8 x9 (ix2 r l) : EReal) = x9 (ix2 r l) := by
  unfold k0_pay110
  frame_out
  pointwise [k0_pay7]

theorem kr_apply (r : Fin 256) (l : Fin 128) :
    (k0_pay111 (F := Ideal) x0 x1 x2 x3 x4 x5 x6 x7 x8 x9 (ix2 r l) : EReal)
      = k0_pay108 (F := Ideal) x0 x1 x2 x3 x4 x5 x6 x7 x8 x9 (ix2 r ⟨1024 + l, by omega⟩) * x8 (ix2 r l)
        + k0_pay108 (F := Ideal) x0 x1 x2 x3 x4 x5 x6 x7 x8 x9 (ix2 r ⟨1152 + l, by omega⟩) * x9 (ix2 r l) := by
  unfold k0_pay111
  generalize k0_pay108 (F := Ideal) x0 x1 x2 x3 x4 x5 x6 x7 x8 x9 = P
  frame_out
  exact kr_pay P x8 x9 r l

theorem q_apply (r : Fin 256) (d : Fin 6144) :
    (k0_pay112 (F := Ideal) x0 x1 x2 x3 x4 x5 x6 x7 x8 x9 (ix2 r d) : EReal)
      = up (fun j => k0_pay108 (F := Ideal) x0 x1 x2 x3 x4 x5 x6 x7 x8 x9 (ix2 r ⟨j, by omega⟩)) (fun j => x4 (ix2 0 j))
          (fun j => x6 (ix2 j d)) := by
  have e4 : View.ld x4 r0_5 = x4 := by frame_out
  have e6 : View.ld x6 r0_7 = x6 := by frame_out
  unfold k0_pay112 k0_pay108
  rw [e4, e6]
  exact q_pay _ _ _ _ _ _ _ r d

theorem kv_apply (r : Fin 256) (d : Fin 4096) :
    (k0_pay113 (F := Ideal) x0 x1 x2 x3 x4 x5 x6 x7 x8 x9 (ix2 r d) : EReal)
      = up (fun j => k0_pay108 (F := Ideal) x0 x1 x2 x3 x4 x5 x6 x7 x8 x9 (ix2 r ⟨512 + j, by omega⟩)) (fun j => x5 (ix2 0 j))
          (fun j => x7 (ix2 j d)) := by
  unfold k0_pay113
  generalize k0_pay108 (F := Ideal) x0 x1 x2 x3 x4 x5 x6 x7 x8 x9 = P
  frame_out
  exact kv_pay P x5 x7 r d

theorem one_apply (r : Fin 256) (l : Fin 128) :
    (k0_pay114 (F := Ideal) x0 x1 x2 x3 x4 x5 x6 x7 x8 x9 (ix2 r l) : EReal) = if (l : ℕ) = 0 then 1 else 0 := by
  pointwise [k0_pay114, k0_pay12, k0_pay11]
  have e : ∀ l : Fin 128, IntOp.cmpi .eq (BitVec.ofNat 32 l) 0#32 = if (l : ℕ) = 0 then 1#1 else 0#1 := by decide +kernel
  rw [e l]
  split <;> rfl

end Cert.QkvIdeal.Step

end
-- ==== Proof.QkvTake.lean ====
/- The rotary columns the host takes in the partners' order. -/
module

public import proofs.«01_k».proof.Proof.Gen.QkvIdeal.Value
public import proofs.«01_k».proof.Proof.QkvMath
public import Idealize.ShloMosaic.Lib.Pointwise
public import Idealize.ShloMosaic.Lib.Pipeline.ValueKit

@[expose] public section

set_option maxRecDepth 16384

noncomputable section

namespace Cert.QkvIdeal.Step

open Cert.QkvIdeal Cert.QkvIdeal.Gen Cert.Qkv Idealize.ShloMosaic Idealize.ShloMosaic.TcCoe Idealize.SL.Sem

/-- Sixteen of 64 numbers are exchanged with the next sixteen, twice. -/
theorem partner_word (n : ℕ) (hn : n < 64) : min (BitVec.toInt (Scalar.select
      (IntOp.cmpi CmpIPredicate.slt (IntOp.xori (BitVec.ofNat 32 n) 16#32) 0#32)
      (IntOp.addi (IntOp.xori (BitVec.ofNat 32 n) 16#32) 64#32) (IntOp.xori (BitVec.ofNat 32 n) 16#32))).toNat 63
    = n / 32 * 32 + (n + 16) % 32 := by
  have h : ∀ l : Fin 64, min (BitVec.toInt (Scalar.select
      (IntOp.cmpi CmpIPredicate.slt (IntOp.xori (BitVec.ofNat 32 l) 16#32) 0#32)
      (IntOp.addi (IntOp.xori (BitVec.ofNat 32 l) 16#32) 64#32) (IntOp.xori (BitVec.ofNat 32 l) 16#32))).toNat 63
    = (l : ℕ) / 32 * 32 + ((l : ℕ) + 16) % 32 := by
    decide +kernel
  exact h ⟨n, hn⟩

/-- Columns of a matrix by a list of their numbers. -/
theorem take_down {α : Type} (x : S2048x64.Idx → α) (i : IVec S64x1 32) (j : Fin 2048) (l q : Fin 64)
    (h : min (i (ix2 l 0)).toInt.toNat 63 = q) :
    Host.gather gather_S2048x64_S64x1_S2048x64_0_1_n_n_1_1_20481 x i (ix2 j l) = x (ix2 j q) := by
  unfold Host.gather
  refine congrArg x ?_
  funext a
  apply Fin.ext
  have hb : ∀ a : Fin 2, a ∉ gather_S2048x64_S64x1_S2048x64_0_1_n_n_1_1_20481.operandBatchingDims := fun a => List.not_mem_nil
  have hs : gather_S2048x64_S64x1_S2048x64_0_1_n_n_1_1_20481.sKept = [0] := rfl
  have hb' : gather_S2048x64_S64x1_S2048x64_0_1_n_n_1_1_20481.batchDims = [1] := rfl
  match a with
  | ⟨0, _⟩ =>
    show GatherDims.start gather_S2048x64_S64x1_S2048x64_0_1_n_n_1_1_20481 (ix2 j l) i 0
      + GatherDims.batchCoord gather_S2048x64_S64x1_S2048x64_0_1_n_n_1_1_20481 (ix2 j l) 0
      + GatherDims.offCoord gather_S2048x64_S64x1_S2048x64_0_1_n_n_1_1_20481 (ix2 j l) 0 = (j : ℕ)
    rw [GatherDims.batchCoord_eq_zero _ _ _ (hb 0)]
    unfold GatherDims.start GatherDims.offCoord
    rw [dif_neg (show (0 : Fin 2) ∉ GatherDims.startIndexMap gather_S2048x64_S64x1_S2048x64_0_1_n_n_1_1_20481 from fun e => absurd (List.mem_singleton.mp e) (by decide)), dif_pos (by rw [hs]; decide)]
    have e : ∀ z : Fin 2, z = 0 → ((ix2 j l : S2048x64.Idx) z).val = j.val := by rintro _ rfl; rfl
    refine (Nat.zero_add _).trans ?_
    exact e _ ((List.mem_singleton.mp (List.getElem_mem _)))
  | ⟨1, _⟩ =>
    show GatherDims.start gather_S2048x64_S64x1_S2048x64_0_1_n_n_1_1_20481 (ix2 j l) i 1
      + GatherDims.batchCoord gather_S2048x64_S64x1_S2048x64_0_1_n_n_1_1_20481 (ix2 j l) 1
      + GatherDims.offCoord gather_S2048x64_S64x1_S2048x64_0_1_n_n_1_1_20481 (ix2 j l) 1 = (q : ℕ)
    rw [GatherDims.batchCoord_eq_zero _ _ _ (hb 1), GatherDims.offCoord_eq_zero _ _ _ (by rw [hs]; decide)]
    unfold GatherDims.start
    rw [dif_pos (show (1 : Fin 2) ∈ GatherDims.startIndexMap gather_S2048x64_S64x1_S2048x64_0_1_n_n_1_1_20481 from List.mem_singleton.mpr rfl), ← h]
    show min (i _).toInt.toNat 63 = _
    refine congrArg (fun e => min (i e).toInt.toNat 63) ?_
    funext b
    match b with
    | ⟨0, _⟩ =>
      unfold GatherDims.siIdx
      rw [dif_neg (by show ¬ (0 = 1); decide)]
      unfold GatherDims.siCoord
      apply Fin.ext
      have e : ∀ z : Fin 2, z = 1 → ((ix2 j l : S2048x64.Idx) z).val = l.val := by rintro _ rfl; rfl
      exact e _ (List.mem_singleton.mp (by rw [← hb']; exact List.getElem_mem _))
    | ⟨1, _⟩ =>
      exact Subsingleton.elim (α := Fin 1) _ _

/-- The same for each head of the queries' weights. -/
theorem take_up {α : Type} (x : S512x16x64.Idx → α) (i : IVec S64x1 32) (j : Fin 512) (n : Fin 16) (l q : Fin 64)
    (h : min (i (ix2 l 0)).toInt.toNat 63 = q) :
    Host.gather gather_S512x16x64_S64x1_S512x16x64_01_2_n_n_2_1_512161 x i (ix3 j n l) = x (ix3 j n q) := by
  unfold Host.gather
  refine congrArg x ?_
  funext a
  apply Fin.ext
  have hb : ∀ a : Fin 3, a ∉ gather_S512x16x64_S64x1_S512x16x64_01_2_n_n_2_1_512161.operandBatchingDims := fun a => List.not_mem_nil
  have hs : gather_S512x16x64_S64x1_S512x16x64_01_2_n_n_2_1_512161.sKept = [0, 1] := rfl
  have hb' : gather_S512x16x64_S64x1_S512x16x64_01_2_n_n_2_1_512161.batchDims = [2] := rfl
  match a with
  | ⟨0, _⟩ =>
    show GatherDims.start gather_S512x16x64_S64x1_S512x16x64_01_2_n_n_2_1_512161 (ix3 j n l) i 0
      + GatherDims.batchCoord gather_S512x16x64_S64x1_S512x16x64_01_2_n_n_2_1_512161 (ix3 j n l) 0
      + GatherDims.offCoord gather_S512x16x64_S64x1_S512x16x64_01_2_n_n_2_1_512161 (ix3 j n l) 0 = (j : ℕ)
    rw [GatherDims.batchCoord_eq_zero _ _ _ (hb 0)]
    unfold GatherDims.start GatherDims.offCoord
    rw [dif_neg (show (0 : Fin 3) ∉ GatherDims.startIndexMap gather_S512x16x64_S64x1_S512x16x64_01_2_n_n_2_1_512161 from fun e => absurd (List.mem_singleton.mp e) (by decide)), dif_pos (by rw [hs]; decide)]
    have e : ∀ z : Fin 3, z = 0 → ((ix3 j n l : S512x16x64.Idx) z).val = j.val := by rintro _ rfl; rfl
    refine (Nat.zero_add _).trans ?_
    exact e _ (rfl)
  | ⟨1, _⟩ =>
    show GatherDims.start gather_S512x16x64_S64x1_S512x16x64_01_2_n_n_2_1_512161 (ix3 j n l) i 1
      + GatherDims.batchCoord gather_S512x16x64_S64x1_S512x16x64_01_2_n_n_2_1_512161 (ix3 j n l) 1
      + GatherDims.offCoord gather_S512x16x64_S64x1_S512x16x64_01_2_n_n_2_1_512161 (ix3 j n l) 1 = (n : ℕ)
    rw [GatherDims.batchCoord_eq_zero _ _ _ (hb 1)]
    unfold GatherDims.start GatherDims.offCoord
    rw [dif_neg (show (1 : Fin 3) ∉ GatherDims.startIndexMap gather_S512x16x64_S64x1_S512x16x64_01_2_n_n_2_1_512161 from fun e => absurd (List.mem_singleton.mp e) (by decide)), dif_pos (by rw [hs]; decide)]
    have e : ∀ z : Fin 3, z = 1 → ((ix3 j n l : S512x16x64.Idx) z).val = n.val := by rintro _ rfl; rfl
    refine (Nat.zero_add _).trans ?_
    exact e _ (rfl)
  | ⟨2, _⟩ =>
    show GatherDims.start gather_S512x16x64_S64x1_S512x16x64_01_2_n_n_2_1_512161 (ix3 j n l) i 2
      + GatherDims.batchCoord gather_S512x16x64_S64x1_S512x16x64_01_2_n_n_2_1_512161 (ix3 j n l) 2
      + GatherDims.offCoord gather_S512x16x64_S64x1_S512x16x64_01_2_n_n_2_1_512161 (ix3 j n l) 2 = (q : ℕ)
    rw [GatherDims.batchCoord_eq_zero _ _ _ (hb 2), GatherDims.offCoord_eq_zero _ _ _ (by rw [hs]; decide)]
    unfold GatherDims.start
    rw [dif_pos (show (2 : Fin 3) ∈ GatherDims.startIndexMap gather_S512x16x64_S64x1_S512x16x64_01_2_n_n_2_1_512161 from List.mem_singleton.mpr rfl), ← h]
    show min (i _).toInt.toNat 63 = _
    refine congrArg (fun e => min (i e).toInt.toNat 63) ?_
    funext b
    match b with
    | ⟨0, _⟩ =>
      unfold GatherDims.siIdx
      rw [dif_neg (by show ¬ (0 = 1); decide)]
      unfold GatherDims.siCoord
      apply Fin.ext
      have e : ∀ z : Fin 3, z = 2 → ((ix3 j n l : S512x16x64.Idx) z).val = l.val := by rintro _ rfl; rfl
      exact e _ (List.mem_singleton.mp (by rw [← hb']; exact List.getElem_mem _))
    | ⟨1, _⟩ =>
      exact Subsingleton.elim (α := Fin 1) _ _

end Cert.QkvIdeal.Step

end
-- ==== Proof.QkvWeights.lean ====
/- The weights and tables the host arranges for the projections of the latent attention, entry by entry. -/
module

public import proofs.«01_k».proof.Proof.Gen.QkvIdeal.Value
public import proofs.«01_k».proof.Proof.QkvMath
public import proofs.«01_k».proof.Proof.QkvTake
public import Idealize.ShloMosaic.Lib.Pointwise
public import Idealize.ShloMosaic.Lib.Pipeline.ValueKit
public import Idealize.ShloMosaic.Lib.StableHlo.ReadAt

@[expose] public section

set_option maxRecDepth 16384

noncomputable section

namespace Cert.QkvIdeal.Step

open Cert.QkvIdeal Cert.QkvIdeal.Gen Cert.Qkv Idealize.ShloMosaic Idealize.ShloMosaic.TcCoe Idealize.SL.Sem

variable (m : (ℓ : Loc nD τ sig) → Buf (Elt Ideal) ℓ)

/-- A row of the hidden state. -/
abbrev xrow (c : Dev nD) (r : Fin 8704) (j : Fin 2048) : EReal := m ((c : Thread nD τ).loc main_arg0) (ix2 r j)

/-- A modulation row of batch entry `b`. -/
abbrev mod (c : Dev nD) (b : Fin 8) (k : Fin 9) (j : Fin 2048) : EReal := m ((c : Thread nD τ).loc main_arg1) (ix4 1 b k j)

/-- The first norm's scale. -/
abbrev gain (c : Dev nD) (j : Fin 2048) : EReal := m ((c : Thread nD τ).loc main_arg2) (ix3 1 1 j)

/-- The weights of the first product. -/
abbrev wdown (c : Dev nD) (j : Fin 2048) (d : Fin 1088) : EReal := m ((c : Thread nD τ).loc main_arg3) (ix3 0 j d)

/-- The second norms' scales. -/
abbrev qgain (c : Dev nD) (j : Fin 512) : EReal := m ((c : Thread nD τ).loc main_arg4) (ix2 0 j)

abbrev kgain (c : Dev nD) (j : Fin 512) : EReal := m ((c : Thread nD τ).loc main_arg5) (ix2 0 j)

/-- The weights of the queries and of the keys and values. -/
abbrev wq (c : Dev nD) (j : Fin 512) (d : Fin 3072) : EReal := m ((c : Thread nD τ).loc main_arg6) (ix3 0 j d)

abbrev wkv (c : Dev nD) (j : Fin 512) (d : Fin 4096) : EReal := m ((c : Thread nD τ).loc main_arg7) (ix3 0 j d)

/-- The rotation's tables. -/
abbrev tcos (c : Dev nD) (s : Fin 4096) (a : Fin 2) (f : Fin 16) : EReal := m ((c : Thread nD τ).loc main_arg8) (ix3 s a f)

abbrev tsin (c : Dev nD) (s : Fin 4096) (a : Fin 2) (f : Fin 16) : EReal := m ((c : Thread nD τ).loc main_arg9) (ix3 s a f)

/-- The first weights' columns before the rotated ones. -/
theorem wdown_low (c : Dev nD) (j : Fin 2048) (d : Fin 1024) :
    (V m c main_v43 (ix2 j ⟨d, by omega⟩) : EReal) = wdown m c j ⟨d, by omega⟩ := by
  show StableHlo.after hostOps0 _ _ _ = _
  after_reads_simp
  pointwise
  after_reads_simp
  pointwise

/-- The columns to rotate. -/
theorem wdown_mid (c : Dev nD) (j : Fin 2048) (l : Fin 64) :
    (V m c main_v43 (ix2 j ⟨1024 + l, by omega⟩) : EReal) = wdown m c j ⟨1024 + l, by omega⟩ := by
  show StableHlo.after hostOps0 _ _ _ = _
  after_reads_simp
  pointwise
  after_reads_simp
  pointwise

/-- The columns they are rotated with. -/
theorem wdown_high (c : Dev nD) (j : Fin 2048) (l q : Fin 64)
    (hp : (q : ℕ) = l / 32 * 32 + (l + 16) % 32) :
    (V m c main_v43 (ix2 j ⟨1152 + l, by omega⟩) : EReal) = wdown m c j ⟨1024 + q, by omega⟩ := by
  show StableHlo.after hostOps0 _ _ _ = _
  after_reads_simp
  pointwise
  rw [dif_neg (by omega), dif_neg (by omega), dif_neg (by omega), dif_pos (by omega)]
  after_reads_simp
  refine (take_down _ _ j _ q ?_).trans ?_
  · pointwise
    exact (partner_word _ (by omega)).trans (by omega)
  · pointwise

/-- The queries' plain columns, head by head. -/
theorem wq_low (c : Dev nD) (j : Fin 512) (h : Fin 16) (l : Fin 128) :
    (V m c main_v44 (ix2 j ⟨h * 128 + l, by omega⟩) : EReal) = wq m c j ⟨h * 192 + l, by omega⟩ := by
  show StableHlo.after hostOps0 _ _ _ = _
  after_reads_simp
  pointwise
  rw [dif_pos (by omega)]
  after_reads_simp
  pointwise

/-- The queries' columns to rotate. -/
theorem wq_mid (c : Dev nD) (j : Fin 512) (h : Fin 16) (l : Fin 64) :
    (V m c main_v44 (ix2 j ⟨2048 + (h * 128 + l), by omega⟩) : EReal) = wq m c j ⟨h * 192 + (128 + l), by omega⟩ := by
  show StableHlo.after hostOps0 _ _ _ = _
  after_reads_simp
  pointwise
  rw [dif_pos (by omega)]
  after_reads_simp
  pointwise
  rw [dif_pos (by omega)]
  after_reads_simp
  pointwise
  exact congrArg (fun e => (wq m c j e : EReal)) (Fin.ext (by simp only []; omega))

/-- The columns they are rotated with. -/
theorem wq_high (c : Dev nD) (j : Fin 512) (h : Fin 16) (l q : Fin 64)
    (hp : (q : ℕ) = l / 32 * 32 + (l + 16) % 32) :
    (V m c main_v44 (ix2 j ⟨4096 + (h * 128 + l), by omega⟩) : EReal) = wq m c j ⟨h * 192 + (128 + q), by omega⟩ := by
  show StableHlo.after hostOps0 _ _ _ = _
  after_reads_simp
  pointwise
  rw [dif_neg (by omega), dif_neg (by omega)]
  simp only [show 4096 + ((h : ℕ) * 128 + l) - 2048 - 2048 = h * 128 + l by omega]
  after_reads_simp
  pointwise
  rw [dif_pos (by omega)]
  after_reads_simp
  pointwise
  refine (take_up _ _ j h _ q ?_).trans ?_
  · pointwise
    exact (partner_word _ (by omega)).trans (by omega)
  · pointwise

/-- The keys' columns. -/
theorem wkv_low (c : Dev nD) (j : Fin 512) (h : Fin 16) (l : Fin 128) :
    (V m c main_v45 (ix2 j ⟨h * 128 + l, by omega⟩) : EReal) = wkv m c j ⟨h * 256 + l, by omega⟩ := by
  show StableHlo.after hostOps0 _ _ _ = _
  after_reads_simp
  pointwise
  rw [dif_pos (by omega)]
  after_reads_simp
  pointwise

/-- The values' columns. -/
theorem wkv_high (c : Dev nD) (j : Fin 512) (h : Fin 16) (l : Fin 128) :
    (V m c main_v45 (ix2 j ⟨2048 + (h * 128 + l), by omega⟩) : EReal) = wkv m c j ⟨h * 256 + (128 + l), by omega⟩ := by
  show StableHlo.after hostOps0 _ _ _ = _
  after_reads_simp
  pointwise
  after_reads_simp
  pointwise

/-- The cosines, and ones for the context. -/
theorem cos_read (c : Dev nD) (s : Fin 4352) (d : Fin 64) : (V m c main_v60 (ix2 s ⟨d, by omega⟩) : EReal)
    = if h : (s : ℕ) < 4096 then tcos m c ⟨s, h⟩ ⟨d / 32, by omega⟩ ⟨d % 16, by omega⟩ else 1 := by
  show StableHlo.after hostOps0 _ _ _ = _
  after_reads_simp
  pointwise
  after_reads_simp
  pointwise

/-- The pad lanes of both tables. -/
theorem cos_pad (c : Dev nD) (s : Fin 4352) (d : Fin 64) : (V m c main_v60 (ix2 s ⟨64 + d, by omega⟩) : EReal) = (0 : EReal) := by
  show StableHlo.after hostOps0 _ _ _ = _
  after_reads_simp
  pointwise
  by_cases hs : (s : ℕ) < 4096
  · rw [dif_pos hs]
    after_reads_simp
    pointwise
  · rw [dif_neg hs]
    after_reads_simp
    pointwise

/-- The signed sines. -/
theorem sin_read (c : Dev nD) (s : Fin 4352) (d : Fin 64) : (V m c main_v62 (ix2 s ⟨d, by omega⟩) : EReal)
    = if h : (s : ℕ) < 4096 then if (d : ℕ) % 32 < 16 then - tsin m c ⟨s, h⟩ ⟨d / 32, by omega⟩ ⟨d % 16, by omega⟩
        else tsin m c ⟨s, h⟩ ⟨d / 32, by omega⟩ ⟨d % 16, by omega⟩ else 0 := by
  show StableHlo.after hostOps0 _ _ _ = _
  after_reads_simp
  pointwise
  by_cases hs : (s : ℕ) < 4096
  · rw [dif_pos hs, dif_pos hs]
    after_reads_simp
    pointwise
    rcases Nat.lt_or_ge ((d : ℕ) % 32) 16 with hd | hd
    · simp only [if_pos hd, dif_pos (show (d : ℕ) / 16 % 2 < 1 by omega)]
      after_reads_simp
      pointwise
    · simp only [if_neg (show ¬(d : ℕ) % 32 < 16 by omega), dif_neg (show ¬(d : ℕ) / 16 % 2 < 1 by omega)]
      after_reads_simp
      pointwise
  · rw [dif_neg hs, dif_neg hs]

theorem sin_pad (c : Dev nD) (s : Fin 4352) (d : Fin 64) : (V m c main_v62 (ix2 s ⟨64 + d, by omega⟩) : EReal) = (0 : EReal) := by
  show StableHlo.after hostOps0 _ _ _ = _
  after_reads_simp
  pointwise
  by_cases hs : (s : ℕ) < 4096
  · rw [dif_pos hs]
    after_reads_simp
    pointwise
  · rw [dif_neg hs]

end Cert.QkvIdeal.Step

end
-- ==== Proof.QkvHost.lean ====
/- What the operands of the projections of the latent attention hold, entry by entry. -/
module

public import proofs.«01_k».proof.Proof.QkvWeights
public import Idealize.ShloMosaic.Lib.Pointwise
public import Idealize.ShloMosaic.Lib.Pipeline.ValueKit

@[expose] public section

set_option maxRecDepth 16384

noncomputable section

namespace Cert.QkvIdeal.Step

open Cert.QkvIdeal Cert.QkvIdeal.Gen Cert.Qkv Idealize.ShloMosaic Idealize.ShloMosaic.TcCoe Idealize.SL.Sem

variable (m : (ℓ : Loc nD τ sig) → Buf (Elt Ideal) ℓ)

/-- The batch entry of a grid point's rows, and their block within it. -/
abbrev entryOf (t : ℕ) : ℕ := if t < 32 then t / 16 else t - 32

abbrev blockOf (t : ℕ) : ℕ := if t < 32 then t % 16 else 16

/-- Where each window's block lies. -/
theorem idx : ∀ t : Fin cfg0.N, win0_0.index t = ![t.val, 0] ∧ win0_1.index t = ![1, t.val / 16, 0, 0] ∧ win0_2.index t = ![4, 0, 0]
    ∧ win0_3.index t = ![0, 0] ∧ win0_4.index t = ![0, 0] ∧ win0_5.index t = ![0, 0] ∧ win0_6.index t = ![0, 0] ∧ win0_7.index t = ![0, 0]
    ∧ win0_8.index t = ![blockOf t.val, 0] ∧ win0_9.index t = ![blockOf t.val, 0] ∧ win0_10.index t = ![entryOf t.val, 0, blockOf t.val, 0]
    ∧ win0_11.index t = ![entryOf t.val, 0, blockOf t.val, 0] ∧ win0_12.index t = ![entryOf t.val, 0, blockOf t.val, 0] :=
  (by decide +kernel : ∀ t : Fin grid0.N, _)

theorem x_read (c : Dev nD) (t : Fin cfg0.N) (r : Fin 256) (j : Fin 2048) (R : Fin 8704) (hR : (R : ℕ) = t.val * 256 + r) :
    (iblk m c 0 t (ix2 r j) : EReal) = xrow m c R j := by
  have e : iblk m c 0 t (ix2 r j) = V m c main_arg0 (ix2 R j) := by blk_ext [iblk, idx t]
  rw [e]
  entry_read
  rfl

theorem mod_read (c : Dev nD) (t : Fin cfg0.N) (k : Fin 9) (j : Fin 2048) (b : Fin 8) (hb : (b : ℕ) = t.val / 16) :
    (iblk m c 1 t (ix4 0 0 k j) : EReal) = mod m c b k j := by
  have e : iblk m c 1 t (ix4 0 0 k j) = V m c main_arg1 (ix4 1 b k j) := by blk_ext [iblk, idx t]
  rw [e]
  entry_read
  rfl

theorem gain_read (c : Dev nD) (t : Fin cfg0.N) (j : Fin 2048) : (iblk m c 2 t (ix3 0 0 j) : EReal) = gain m c j := by
  have e : iblk m c 2 t (ix3 0 0 j) = V m c main_v63 (ix3 4 0 j) := by blk_ext [iblk, idx t]
  rw [e]
  entry_read
  pointwise

theorem qgain_read (c : Dev nD) (t : Fin cfg0.N) (j : Fin 512) : (iblk m c 4 t (ix2 0 j) : EReal) = qgain m c j := by
  have e : iblk m c 4 t (ix2 0 j) = V m c main_arg4 (ix2 0 j) := by blk_ext [iblk, idx t]
  rw [e]
  entry_read
  rfl

theorem kgain_read (c : Dev nD) (t : Fin cfg0.N) (j : Fin 512) : (iblk m c 5 t (ix2 0 j) : EReal) = kgain m c j := by
  have e : iblk m c 5 t (ix2 0 j) = V m c main_arg5 (ix2 0 j) := by blk_ext [iblk, idx t]
  rw [e]
  entry_read
  rfl

/-- The weights' blocks are the whole arrays. -/
theorem wd_block (c : Dev nD) (t : Fin cfg0.N) (j : Fin 2048) (d : Fin 1280) :
    (iblk m c 3 t (ix2 j d) : EReal) = V m c main_v43 (ix2 j d) := by
  blk_ext [iblk, idx t]

theorem wuq_block (c : Dev nD) (t : Fin cfg0.N) (j : Fin 512) (d : Fin 6144) :
    (iblk m c 6 t (ix2 j d) : EReal) = V m c main_v44 (ix2 j d) := by
  blk_ext [iblk, idx t]

theorem wukv_block (c : Dev nD) (t : Fin cfg0.N) (j : Fin 512) (d : Fin 4096) :
    (iblk m c 7 t (ix2 j d) : EReal) = V m c main_v45 (ix2 j d) := by
  blk_ext [iblk, idx t]

/-- The tables' rows. -/
theorem cos_block (c : Dev nD) (t : Fin cfg0.N) (r : Fin 256) (l : Fin 128) (s : Fin 4352) (hs : (s : ℕ) = blockOf t.val * 256 + r) :
    (iblk m c 8 t (ix2 r l) : EReal) = V m c main_v60 (ix2 s l) := by
  blk_ext [iblk, idx t]

theorem sin_block (c : Dev nD) (t : Fin cfg0.N) (r : Fin 256) (l : Fin 128) (s : Fin 4352) (hs : (s : ℕ) = blockOf t.val * 256 + r) :
    (iblk m c 9 t (ix2 r l) : EReal) = V m c main_v62 (ix2 s l) := by
  blk_ext [iblk, idx t]

end Cert.QkvIdeal.Step

end
-- ==== Proof.QkvRef.lean ====
/- What the reference of the projections of the latent attention leaves, entry by entry. -/
module

public import proofs.«01_k».proof.Proof.Gen.QkvRefIdeal.Read
public import proofs.«01_k».proof.Proof.FfnMath
public import proofs.«01_k».proof.Proof.QkvMath
public import Idealize.ShloMosaic.Lib.Pointwise

@[expose] public section

set_option maxRecDepth 16384

noncomputable section

namespace Cert.QkvRefIdeal.Step

open Cert.QkvRefIdeal Cert.QkvRefIdeal.Gen Cert.QkvRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S1x2048x1088, .f32⟩ : BufTy).Contents (Elt Ideal))
  (x4 x5 : (⟨S1x512, .f32⟩ : BufTy).Contents (Elt Ideal)) (x6 : (⟨S1x512x3072, .f32⟩ : BufTy).Contents (Elt Ideal))
  (x7 : (⟨S1x512x4096, .f32⟩ : BufTy).Contents (Elt Ideal)) (x8 x9 : (⟨S4096x2x16, .f32⟩ : BufTy).Contents (Elt Ideal))

/-- Token `r`'s modulation row `k` in layer 1: its batch entry's for the latent tokens, the third for the context tokens. -/
abbrev lane (k : Fin 9) (r : Fin 8704) (j : Fin 2048) : EReal := x1 (ix4 1 ⟨(r : ℕ) / 4096, by omega⟩ k j)

/-- Every token's modulation rows. -/
theorem rows_apply (r : Fin 8704) (k : Fin 9) (j : Fin 2048) : (val_main_v8 x1 (ix3 r k j) : EReal) = lane x1 k r j := by
  pointwise [val_main_v8, val_main_v7, val_main_v6, val_main_v5, val_main_v4, val_main_v3, val_main_v2, val_main_v1, val_main_v0]
  split_ifs with hr
  · rfl
  · refine congrArg (fun b => (x1 (ix4 1 b k j) : EReal)) (Fin.ext ?_)
    show 2 = (r : ℕ) / 4096
    omega

theorem shift_apply (r : Fin 8704) (j : Fin 2048) : (val_main_v13 x1 (ix2 r j) : EReal) = lane x1 3 r j := by
  have h := rows_apply x1 r 3 j
  unfold val_main_v13 val_main_v12 val_main_v9
  generalize val_main_v8 (F := Ideal) x1 = y at h ⊢
  pointwise
  exact h

theorem scale_apply (r : Fin 8704) (j : Fin 2048) : (val_main_v15 x1 (ix2 r j) : EReal) = lane x1 4 r j := by
  have h := rows_apply x1 r 4 j
  unfold val_main_v15 val_main_v14 val_main_v9
  generalize val_main_v8 (F := Ideal) x1 = y at h ⊢
  pointwise
  exact h

theorem gain_apply (j : Fin 2048) : (val_main_v11 x2 (ix1 j) : EReal) = x2 (ix3 1 1 j) := by
  pointwise [val_main_v11, val_main_v10]

theorem inv_apply (r : Fin 8704) : (val_main_v23 x0 (ix2 r 0) : EReal) = Cert.Step.inv (fun j => x0 (ix2 r j)) := by
  pointwise [val_main_v23, val_main_v22, val_main_v21, val_main_cst_1, val_main_v20, val_main_v19, val_main_cst_0, val_main_v18, val_main_v17,
    val_main_cst, val_main_v16]
  rfl

theorem norm_apply (r : Fin 8704) (d : Fin 2048) : (val_main_v32 x0 x1 x2 (ix2 r d) : EReal)
    = norm (fun j => x0 (ix2 r j)) (fun j => x2 (ix3 1 1 j)) (lane x1 3 r) (lane x1 4 r) d := by
  have hs := shift_apply x1 r
  have hc := scale_apply x1 r
  have hg := gain_apply x2
  have hi := inv_apply x0 r
  unfold val_main_v32 val_main_v31 val_main_v30 val_main_v29 val_main_cst_2 val_main_v28 val_main_v27 val_main_v26 val_main_v25
    val_main_v24
  generalize val_main_v13 (F := Ideal) x1 = s at hs ⊢
  generalize val_main_v15 (F := Ideal) x1 = k at hc ⊢
  generalize val_main_v11 (F := Ideal) x2 = g at hg ⊢
  generalize val_main_v23 (F := Ideal) x0 = i at hi ⊢
  pointwise
  rw [hi, hg, hc, hs]
  rfl

/-- Two entries at equal places. -/
theorem at_eq {n k : ℕ} (f : Fin n → Fin k → EReal) {r r' : Fin n} {d d' : Fin k} (hr : (r : ℕ) = r') (hd : (d : ℕ) = d') : f r d = f r' d' := by
  rw [Fin.ext hr, Fin.ext hd]

/-- The flat rows of the latent and of the context tokens. -/
theorem row_lat (b : Fin 2) (s : Fin 4352) (h : (s : ℕ) < 4096) : (Cert.Qkv.row b s : ℕ) = b * 4096 + s := if_pos h

theorem row_ctx (b : Fin 2) (s : Fin 4352) (h : ¬(s : ℕ) < 4096) : (Cert.Qkv.row b s : ℕ) = 8192 + b * 256 + (s - 4096) := if_neg h

/-- A token's row times the first weights. -/
def down (r : Fin 8704) (d : Fin 1088) : EReal :=
  ∑ j, norm (fun j => x0 (ix2 r j)) (fun j => x2 (ix3 1 1 j)) (lane x1 3 r) (lane x1 4 r) j * x3 (ix3 0 j d)

theorem down_apply (r : Fin 8704) (d : Fin 1088) : (val_main_v34 x0 x1 x2 x3 (ix2 r d) : EReal) = down x0 x1 x2 x3 r d := by
  have hn := norm_apply x0 x1 x2 r
  unfold val_main_v34 val_main_v33
  generalize val_main_v32 (F := Ideal) x0 x1 x2 = y at hn ⊢
  pointwise
  simp only [hn]
  rfl

/-- A token's queries, and its keys and values. -/
def qrow (r : Fin 8704) (d : Fin 3072) : EReal :=
  Cert.Qkv.up (fun j => down x0 x1 x2 x3 r ⟨j, by omega⟩) (fun j => x4 (ix2 0 j)) (fun j => x6 (ix3 0 j d))

def kvrow (r : Fin 8704) (d : Fin 4096) : EReal :=
  Cert.Qkv.up (fun j => down x0 x1 x2 x3 r ⟨512 + j, by omega⟩) (fun j => x5 (ix2 0 j)) (fun j => x7 (ix3 0 j d))

theorem qnorm_apply (r : Fin 8704) (j : Fin 512) : (val_main_v51 x0 x1 x2 x3 x4 (ix2 r j) : EReal)
    = down x0 x1 x2 x3 r ⟨j, by omega⟩ * Cert.Qkv.inv (fun j => down x0 x1 x2 x3 r ⟨j, by omega⟩) * x4 (ix2 0 j) := by
  have hd := down_apply x0 x1 x2 x3 r
  unfold val_main_v51 val_main_v50 val_main_v49 val_main_v48 val_main_v47 val_main_v46 val_main_v45 val_main_v44 val_main_v43 val_main_v42
    val_main_v41 val_main_v40 val_main_v39 val_main_v38 val_main_v35 val_main_cst_3 val_main_cst_4 val_main_cst_5
  generalize val_main_v34 (F := Ideal) x0 x1 x2 x3 = y at hd ⊢
  pointwise
  simp only [hd]
  rfl

theorem kvnorm_apply (r : Fin 8704) (j : Fin 512) : (val_main_v68 x0 x1 x2 x3 x5 (ix2 r j) : EReal)
    = down x0 x1 x2 x3 r ⟨512 + j, by omega⟩ * Cert.Qkv.inv (fun j => down x0 x1 x2 x3 r ⟨512 + j, by omega⟩) * x5 (ix2 0 j) := by
  have hd := down_apply x0 x1 x2 x3 r
  unfold val_main_v68 val_main_v67 val_main_v66 val_main_v65 val_main_v64 val_main_v63 val_main_v62 val_main_v61 val_main_v60 val_main_v59
    val_main_v58 val_main_v57 val_main_v56 val_main_v55 val_main_v36 val_main_cst_6 val_main_cst_7 val_main_cst_8
  generalize val_main_v34 (F := Ideal) x0 x1 x2 x3 = y at hd ⊢
  pointwise
  simp only [hd]
  rfl

theorem q_apply (r : Fin 8704) (d : Fin 3072) : (val_main_v53 x0 x1 x2 x3 x4 x6 (ix2 r d) : EReal) = qrow x0 x1 x2 x3 x4 x6 r d := by
  have hn := qnorm_apply x0 x1 x2 x3 x4 r
  unfold val_main_v53 val_main_v52
  generalize val_main_v51 (F := Ideal) x0 x1 x2 x3 x4 = y at hn ⊢
  pointwise
  simp only [hn]
  rfl

theorem kv_apply (r : Fin 8704) (d : Fin 4096) : (val_main_v70 x0 x1 x2 x3 x5 x7 (ix2 r d) : EReal) = kvrow x0 x1 x2 x3 x5 x7 r d := by
  have hn := kvnorm_apply x0 x1 x2 x3 x5 r
  unfold val_main_v70 val_main_v69
  generalize val_main_v68 (F := Ideal) x0 x1 x2 x3 x5 = y at hn ⊢
  pointwise
  simp only [hn]
  rfl

end Cert.QkvRefIdeal.Step

end
-- ==== Proof.QkvPoint.lean ====
/- The products one grid point computes, in the reference's terms. -/
module

public import proofs.«01_k».proof.Proof.QkvBlock
public import proofs.«01_k».proof.Proof.QkvHost
public import proofs.«01_k».proof.Proof.QkvRef

@[expose] public section

set_option maxRecDepth 16384

noncomputable section

namespace Cert.QkvIdeal.Step

open Cert.QkvIdeal Cert.QkvIdeal.Gen Cert.Step Cert.Qkv Idealize.ShloMosaic Idealize.ShloMosaic.TcCoe Idealize.SL.Sem

variable (m : (ℓ : Loc nD τ sig) → Buf (Elt Ideal) ℓ)

/-- The reference's rows, of the kernel's arguments. -/
abbrev down (c : Dev nD) (R : Fin 8704) (d : Fin 1088) : EReal :=
  QkvRefIdeal.Step.down (m ((c : Thread nD τ).loc main_arg0)) (m ((c : Thread nD τ).loc main_arg1))
    (m ((c : Thread nD τ).loc main_arg2)) (m ((c : Thread nD τ).loc main_arg3)) R d

abbrev qrow (c : Dev nD) (R : Fin 8704) (d : Fin 3072) : EReal :=
  QkvRefIdeal.Step.qrow (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg6)) R d

abbrev kvrow (c : Dev nD) (R : Fin 8704) (d : Fin 4096) : EReal :=
  QkvRefIdeal.Step.kvrow (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg7)) R d

variable (c : Dev nD) (t : Fin cfg0.N) (r : Fin 256) (R : Fin 8704)

/-- A column of the first product, where the host's weights there are column `d` of the argument. -/
theorem down_block (hR : (R : ℕ) = t.val * 256 + r) (D : Fin 1280) (d : Fin 1088)
    (hw : ∀ j : Fin 2048, (V m c main_v43 (ix2 j D) : EReal) = wdown m c j d) :
    (k0_pay108 (F := Ideal) (iblk m c 0 t) (iblk m c 1 t) (iblk m c 2 t) (iblk m c 3 t) (iblk m c 4 t) (iblk m c 5 t) (iblk m c 6 t)
      (iblk m c 7 t) (iblk m c 8 t) (iblk m c 9 t) (ix2 r D) : EReal) = down m c R d := by
  have hb : (R : ℕ) / 4096 = t.val / 16 := by omega
  refine (down_apply _ _ _ _ _ _ _ _ _ _ r D).trans ?_
  unfold down QkvRefIdeal.Step.down
  refine Finset.sum_congr rfl fun j _ => congrArg₂ (· * ·) ?_ ((wd_block m c t j D).trans (hw j))
  congr 1
  · exact funext fun i => x_read m c t r i R hR
  · exact funext fun i => gain_read m c t i
  · exact funext fun i => mod_read m c t 3 i _ hb
  · exact funext fun i => mod_read m c t 4 i _ hb

/-- A column of the queries. -/
theorem q_block (hR : (R : ℕ) = t.val * 256 + r) (D : Fin 6144) (d : Fin 3072)
    (hw : ∀ j : Fin 512, (V m c main_v44 (ix2 j D) : EReal) = wq m c j d) :
    (k0_pay112 (F := Ideal) (iblk m c 0 t) (iblk m c 1 t) (iblk m c 2 t) (iblk m c 3 t) (iblk m c 4 t) (iblk m c 5 t) (iblk m c 6 t)
      (iblk m c 7 t) (iblk m c 8 t) (iblk m c 9 t) (ix2 r D) : EReal) = qrow m c R d := by
  refine (q_apply _ _ _ _ _ _ _ _ _ _ r D).trans ?_
  unfold qrow QkvRefIdeal.Step.qrow
  congr 1
  · exact funext fun j => down_block m c t r R hR _ _ fun i => wdown_low m c i ⟨j, by omega⟩
  · exact funext fun j => qgain_read m c t j
  · exact funext fun j => (wuq_block m c t j D).trans (hw j)

/-- A column of the keys and values. -/
theorem kv_block (hR : (R : ℕ) = t.val * 256 + r) (D : Fin 4096) (d : Fin 4096)
    (hw : ∀ j : Fin 512, (V m c main_v45 (ix2 j D) : EReal) = wkv m c j d) :
    (k0_pay113 (F := Ideal) (iblk m c 0 t) (iblk m c 1 t) (iblk m c 2 t) (iblk m c 3 t) (iblk m c 4 t) (iblk m c 5 t) (iblk m c 6 t)
      (iblk m c 7 t) (iblk m c 8 t) (iblk m c 9 t) (ix2 r D) : EReal) = kvrow m c R d := by
  refine (kv_apply _ _ _ _ _ _ _ _ _ _ r D).trans ?_
  unfold kvrow QkvRefIdeal.Step.kvrow
  congr 1
  · exact funext fun j => down_block m c t r R hR _ _ fun i => wdown_low m c i ⟨512 + j, by omega⟩
  · exact funext fun j => kgain_read m c t j
  · exact funext fun j => (wukv_block m c t j D).trans (hw j)

end Cert.QkvIdeal.Step

end
-- ==== Proof.QkvRefQ.lean ====
/- What the reference of the projections of the latent attention leaves: the queries. -/
module

public import proofs.«01_k».proof.Proof.QkvRef

@[expose] public section

set_option maxRecDepth 16384

noncomputable section

namespace Cert.QkvRefIdeal.Step

open Cert.QkvRefIdeal Cert.QkvRefIdeal.Gen Cert.QkvRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S1x2048x1088, .f32⟩ : BufTy).Contents (Elt Ideal))
  (x4 x5 : (⟨S1x512, .f32⟩ : BufTy).Contents (Elt Ideal)) (x6 : (⟨S1x512x3072, .f32⟩ : BufTy).Contents (Elt Ideal))
  (x7 : (⟨S1x512x4096, .f32⟩ : BufTy).Contents (Elt Ideal)) (x8 x9 : (⟨S4096x2x16, .f32⟩ : BufTy).Contents (Elt Ideal))

/-- The plain queries of head `h`. -/
theorem qplain_apply (b : Fin 2) (s : Fin 4352) (h : Fin 16) (l : Fin 128) : (val_main_v139 x0 x1 x2 x3 x4 x6 (ix4 b s h l) : EReal)
    = qrow x0 x1 x2 x3 x4 x6 (Cert.Qkv.row b s) ⟨h * 192 + l, by omega⟩ := by
  have hq := q_apply x0 x1 x2 x3 x4 x6
  have h1 : ∀ s : Fin 4096, (val_main_v136 x0 x1 x2 x3 x4 x6 (ix4 b s h l) : EReal)
      = qrow x0 x1 x2 x3 x4 x6 ⟨b * 4096 + s, by omega⟩ ⟨h * 192 + l, by omega⟩ := fun s => by
    unfold val_main_v136 val_main_v135 val_main_v134 val_main_v54
    generalize val_main_v53 (F := Ideal) x0 x1 x2 x3 x4 x6 = y at hq ⊢
    pointwise
    exact hq _ _
  have h2 : ∀ s : Fin 256, (val_main_v138 x0 x1 x2 x3 x4 x6 (ix4 b s h l) : EReal)
      = qrow x0 x1 x2 x3 x4 x6 ⟨8192 + (b * 256 + s), by omega⟩ ⟨h * 192 + l, by omega⟩ := fun s => by
    unfold val_main_v138 val_main_v137 val_main_v134 val_main_v54
    generalize val_main_v53 (F := Ideal) x0 x1 x2 x3 x4 x6 = y at hq ⊢
    pointwise
    exact hq _ _
  unfold val_main_v139
  generalize val_main_v136 (F := Ideal) x0 x1 x2 x3 x4 x6 = y1 at h1 ⊢
  generalize val_main_v138 (F := Ideal) x0 x1 x2 x3 x4 x6 = y2 at h2 ⊢
  pointwise
  by_cases hs : (s : ℕ) < 4096
  · rw [dif_pos hs]
    exact (h1 _).trans (at_eq (qrow x0 x1 x2 x3 x4 x6) (row_lat b s hs).symm rfl)
  · rw [dif_neg hs]
    exact (h2 _).trans (at_eq (qrow x0 x1 x2 x3 x4 x6) ((row_ctx b s hs).trans (by simp only []; omega)).symm rfl)

/-- The rotated queries of the latent tokens. -/
theorem qturned_lat (b : Fin 2) (s : Fin 4096) (h : Fin 16) (l : Fin 64) : (val_main_v99 x0 x1 x2 x3 x4 x6 x8 x9 (ix4 b s h l) : EReal)
    = Cert.Qkv.rot (fun l => qrow x0 x1 x2 x3 x4 x6 ⟨b * 4096 + s, by omega⟩ ⟨h * 192 + (128 + l), by omega⟩)
        (fun a f => x8 (ix3 s a f)) (fun a f => x9 (ix3 s a f)) l := by
  have hq := q_apply x0 x1 x2 x3 x4 x6
  unfold val_main_v99 val_main_v98 val_main_v97 val_main_v96 val_main_v95 val_main_v94 val_main_v93 val_main_v92 val_main_v91 val_main_v90
    val_main_v89 val_main_v88 val_main_v87 val_main_v86 val_main_v85 val_main_v84 val_main_v83 val_main_v82 val_main_v81 val_main_v80
    val_main_v79 val_main_v78 val_main_v77 val_main_v76 val_main_v75 val_main_v74 val_main_v73 val_main_v72 val_main_v54
  generalize val_main_v53 (F := Ideal) x0 x1 x2 x3 x4 x6 = y at hq ⊢
  generalize qrow x0 x1 x2 x3 x4 x6 = Q at hq ⊢
  pointwise
  simp only [hq]
  exact Cert.Qkv.rot_halves (fun l => Q ⟨b * 4096 + s, by omega⟩ ⟨h * 192 + (128 + l), by omega⟩) (fun a f => x8 (ix3 s a f))
    (fun a f => x9 (ix3 s a f)) l

/-- The last 64 query lanes of head `h`: rotated for the latent tokens, as they are for the context. -/
theorem qturned_apply (b : Fin 2) (s : Fin 4352) (h : Fin 16) (l : Fin 64) :
    (val_main_v103 x0 x1 x2 x3 x4 x6 x8 x9 (ix4 b s h l) : EReal)
    = if hs : (s : ℕ) < 4096 then Cert.Qkv.rot (fun l => qrow x0 x1 x2 x3 x4 x6 (Cert.Qkv.row b s) ⟨h * 192 + (128 + l), by omega⟩)
        (fun a f => x8 (ix3 ⟨s, hs⟩ a f)) (fun a f => x9 (ix3 ⟨s, hs⟩ a f)) l
      else qrow x0 x1 x2 x3 x4 x6 (Cert.Qkv.row b s) ⟨h * 192 + (128 + l), by omega⟩ := by
  have h1 := fun s => qturned_lat x0 x1 x2 x3 x4 x6 x8 x9 b s h l
  have h2 : ∀ s : Fin 256, (val_main_v102 x0 x1 x2 x3 x4 x6 (ix4 b s h l) : EReal)
      = qrow x0 x1 x2 x3 x4 x6 ⟨8192 + (b * 256 + s), by omega⟩ ⟨h * 192 + (128 + l), by omega⟩ := fun s => by
    have hq := q_apply x0 x1 x2 x3 x4 x6
    unfold val_main_v102 val_main_v101 val_main_v100 val_main_v54
    generalize val_main_v53 (F := Ideal) x0 x1 x2 x3 x4 x6 = y at hq ⊢
    pointwise
    exact hq _ _
  unfold val_main_v103
  generalize val_main_v99 (F := Ideal) x0 x1 x2 x3 x4 x6 x8 x9 = y1 at h1 ⊢
  generalize val_main_v102 (F := Ideal) x0 x1 x2 x3 x4 x6 = y2 at h2 ⊢
  pointwise
  by_cases hs : (s : ℕ) < 4096
  · rw [dif_pos hs, dif_pos hs]
    rw [h1, show Cert.Qkv.row b s = ⟨b * 4096 + s, by omega⟩ from Fin.ext (row_lat b s hs)]
  · rw [dif_neg hs, dif_neg hs]
    exact (h2 _).trans (at_eq (qrow x0 x1 x2 x3 x4 x6) ((row_ctx b s hs).trans (by simp only []; omega)).symm rfl)

end Cert.QkvRefIdeal.Step

end
-- ==== Proof.QkvRefK.lean ====
/- What the reference of the projections of the latent attention leaves: the rotated keys. -/
module

public import proofs.«01_k».proof.Proof.QkvRef

@[expose] public section

set_option maxRecDepth 16384

noncomputable section

namespace Cert.QkvRefIdeal.Step

open Cert.QkvRefIdeal Cert.QkvRefIdeal.Gen Cert.QkvRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S1x2048x1088, .f32⟩ : BufTy).Contents (Elt Ideal))
  (x4 x5 : (⟨S1x512, .f32⟩ : BufTy).Contents (Elt Ideal)) (x6 : (⟨S1x512x3072, .f32⟩ : BufTy).Contents (Elt Ideal))
  (x7 : (⟨S1x512x4096, .f32⟩ : BufTy).Contents (Elt Ideal)) (x8 x9 : (⟨S4096x2x16, .f32⟩ : BufTy).Contents (Elt Ideal))

/-- The rotated keys of the latent tokens. -/
theorem kturned_lat (b : Fin 2) (s : Fin 4096) (l : Fin 64) : (val_main_v128 x0 x1 x2 x3 x8 x9 (ix3 b s l) : EReal)
    = Cert.Qkv.rot (fun l => down x0 x1 x2 x3 ⟨b * 4096 + s, by omega⟩ ⟨1024 + l, by omega⟩)
        (fun a f => x8 (ix3 s a f)) (fun a f => x9 (ix3 s a f)) l := by
  have hq := down_apply x0 x1 x2 x3
  unfold val_main_v128 val_main_v127 val_main_v126 val_main_v125 val_main_v124 val_main_v123 val_main_v122 val_main_v121 val_main_v120
    val_main_v119 val_main_v118 val_main_v117 val_main_v116 val_main_v115 val_main_v114 val_main_v113 val_main_v112 val_main_v111
    val_main_v110 val_main_v109 val_main_v108 val_main_v107 val_main_v106 val_main_v105 val_main_v104 val_main_v37
  generalize val_main_v34 (F := Ideal) x0 x1 x2 x3 = y at hq ⊢
  generalize down x0 x1 x2 x3 = Q at hq ⊢
  pointwise
  simp only [hq]
  exact Cert.Qkv.rot_halves (fun l => Q ⟨b * 4096 + s, by omega⟩ ⟨1024 + l, by omega⟩) (fun a f => x8 (ix3 s a f))
    (fun a f => x9 (ix3 s a f)) l

/-- The keys' last 64 lanes, the same for every head. -/
theorem kturned_apply (b : Fin 2) (s : Fin 4352) (h : Fin 16) (l : Fin 64) : (val_main_v133 x0 x1 x2 x3 x8 x9 (ix4 b s h l) : EReal)
    = if hs : (s : ℕ) < 4096 then Cert.Qkv.rot (fun l => down x0 x1 x2 x3 (Cert.Qkv.row b s) ⟨1024 + l, by omega⟩)
        (fun a f => x8 (ix3 ⟨s, hs⟩ a f)) (fun a f => x9 (ix3 ⟨s, hs⟩ a f)) l
      else down x0 x1 x2 x3 (Cert.Qkv.row b s) ⟨1024 + l, by omega⟩ := by
  have h1 := fun s => kturned_lat x0 x1 x2 x3 x8 x9 b s l
  have h2 : ∀ s : Fin 256, (val_main_v130 x0 x1 x2 x3 (ix3 b s l) : EReal)
      = down x0 x1 x2 x3 ⟨8192 + (b * 256 + s), by omega⟩ ⟨1024 + l, by omega⟩ := fun s => by
    have hq := down_apply x0 x1 x2 x3
    unfold val_main_v130 val_main_v129 val_main_v37
    generalize val_main_v34 (F := Ideal) x0 x1 x2 x3 = y at hq ⊢
    pointwise
    exact hq _ _
  unfold val_main_v133 val_main_v132 val_main_v131
  generalize val_main_v128 (F := Ideal) x0 x1 x2 x3 x8 x9 = y1 at h1 ⊢
  generalize val_main_v130 (F := Ideal) x0 x1 x2 x3 = y2 at h2 ⊢
  pointwise
  by_cases hs : (s : ℕ) < 4096
  · rw [dif_pos hs, dif_pos hs]
    rw [h1, show Cert.Qkv.row b s = ⟨b * 4096 + s, by omega⟩ from Fin.ext (row_lat b s hs)]
  · rw [dif_neg hs, dif_neg hs]
    exact (h2 _).trans (at_eq (down x0 x1 x2 x3) ((row_ctx b s hs).trans (by simp only []; omega)).symm rfl)

end Cert.QkvRefIdeal.Step

end
-- ==== Proof.QkvRefV.lean ====
/- What the reference of the projections of the latent attention leaves: the plain keys and the values. -/
module

public import proofs.«01_k».proof.Proof.QkvRef

@[expose] public section

set_option maxRecDepth 16384

noncomputable section

namespace Cert.QkvRefIdeal.Step

open Cert.QkvRefIdeal Cert.QkvRefIdeal.Gen Cert.QkvRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S1x2048x1088, .f32⟩ : BufTy).Contents (Elt Ideal))
  (x4 x5 : (⟨S1x512, .f32⟩ : BufTy).Contents (Elt Ideal)) (x6 : (⟨S1x512x3072, .f32⟩ : BufTy).Contents (Elt Ideal))
  (x7 : (⟨S1x512x4096, .f32⟩ : BufTy).Contents (Elt Ideal)) (x8 x9 : (⟨S4096x2x16, .f32⟩ : BufTy).Contents (Elt Ideal))

/-- The plain keys and the values of head `h`. -/
theorem kplain_apply (b : Fin 2) (s : Fin 4352) (h : Fin 16) (l : Fin 128) : (val_main_v149 x0 x1 x2 x3 x5 x7 (ix4 b s h l) : EReal)
    = kvrow x0 x1 x2 x3 x5 x7 (Cert.Qkv.row b s) ⟨h * 256 + l, by omega⟩ := by
  have hq := kv_apply x0 x1 x2 x3 x5 x7
  have h1 : ∀ s : Fin 4096, (val_main_v146 x0 x1 x2 x3 x5 x7 (ix4 b s h l) : EReal)
      = kvrow x0 x1 x2 x3 x5 x7 ⟨b * 4096 + s, by omega⟩ ⟨h * 256 + l, by omega⟩ := fun s => by
    unfold val_main_v146 val_main_v145 val_main_v144 val_main_v71
    generalize val_main_v70 (F := Ideal) x0 x1 x2 x3 x5 x7 = y at hq ⊢
    pointwise
    exact hq _ _
  have h2 : ∀ s : Fin 256, (val_main_v148 x0 x1 x2 x3 x5 x7 (ix4 b s h l) : EReal)
      = kvrow x0 x1 x2 x3 x5 x7 ⟨8192 + (b * 256 + s), by omega⟩ ⟨h * 256 + l, by omega⟩ := fun s => by
    unfold val_main_v148 val_main_v147 val_main_v144 val_main_v71
    generalize val_main_v70 (F := Ideal) x0 x1 x2 x3 x5 x7 = y at hq ⊢
    pointwise
    exact hq _ _
  unfold val_main_v149
  generalize val_main_v146 (F := Ideal) x0 x1 x2 x3 x5 x7 = y1 at h1 ⊢
  generalize val_main_v148 (F := Ideal) x0 x1 x2 x3 x5 x7 = y2 at h2 ⊢
  pointwise
  by_cases hs : (s : ℕ) < 4096
  · rw [dif_pos hs]
    exact (h1 _).trans (at_eq (kvrow x0 x1 x2 x3 x5 x7) (row_lat b s hs).symm rfl)
  · rw [dif_neg hs]
    exact (h2 _).trans (at_eq (kvrow x0 x1 x2 x3 x5 x7) ((row_ctx b s hs).trans (by simp only []; omega)).symm rfl)

theorem vplain_apply (b : Fin 2) (s : Fin 4352) (h : Fin 16) (l : Fin 128) : (val_main_v159 x0 x1 x2 x3 x5 x7 (ix4 b s h l) : EReal)
    = kvrow x0 x1 x2 x3 x5 x7 (Cert.Qkv.row b s) ⟨h * 256 + (128 + l), by omega⟩ := by
  have hq := kv_apply x0 x1 x2 x3 x5 x7
  have h1 : ∀ s : Fin 4096, (val_main_v156 x0 x1 x2 x3 x5 x7 (ix4 b s h l) : EReal)
      = kvrow x0 x1 x2 x3 x5 x7 ⟨b * 4096 + s, by omega⟩ ⟨h * 256 + (128 + l), by omega⟩ := fun s => by
    unfold val_main_v156 val_main_v155 val_main_v154 val_main_v71
    generalize val_main_v70 (F := Ideal) x0 x1 x2 x3 x5 x7 = y at hq ⊢
    pointwise
    exact hq _ _
  have h2 : ∀ s : Fin 256, (val_main_v158 x0 x1 x2 x3 x5 x7 (ix4 b s h l) : EReal)
      = kvrow x0 x1 x2 x3 x5 x7 ⟨8192 + (b * 256 + s), by omega⟩ ⟨h * 256 + (128 + l), by omega⟩ := fun s => by
    unfold val_main_v158 val_main_v157 val_main_v154 val_main_v71
    generalize val_main_v70 (F := Ideal) x0 x1 x2 x3 x5 x7 = y at hq ⊢
    pointwise
    exact hq _ _
  unfold val_main_v159
  generalize val_main_v156 (F := Ideal) x0 x1 x2 x3 x5 x7 = y1 at h1 ⊢
  generalize val_main_v158 (F := Ideal) x0 x1 x2 x3 x5 x7 = y2 at h2 ⊢
  pointwise
  by_cases hs : (s : ℕ) < 4096
  · rw [dif_pos hs]
    exact (h1 _).trans (at_eq (kvrow x0 x1 x2 x3 x5 x7) (row_lat b s hs).symm rfl)
  · rw [dif_neg hs]
    exact (h2 _).trans (at_eq (kvrow x0 x1 x2 x3 x5 x7) ((row_ctx b s hs).trans (by simp only []; omega)).symm rfl)

end Cert.QkvRefIdeal.Step

end
-- ==== Proof.QkvRefOut.lean ====
/- What the reference of the projections of the latent attention leaves: its three results, lane by lane. -/
module

public import proofs.«01_k».proof.Proof.QkvRefQ
public import proofs.«01_k».proof.Proof.QkvRefK
public import proofs.«01_k».proof.Proof.QkvRefV

@[expose] public section

set_option maxRecDepth 16384

noncomputable section

namespace Cert.QkvRefIdeal.Step

open Cert.QkvRefIdeal Cert.QkvRefIdeal.Gen Cert.QkvRefIdeal.Read Cert.Step Idealize.ShloMosaic Idealize.ShloMosaic.TcCoe Idealize.SL.Sem

variable (x0 : (⟨S8704x2048, .f32⟩ : BufTy).Contents (Elt Ideal)) (x1 : (⟨S4x8x9x2048, .f32⟩ : BufTy).Contents (Elt Ideal))
  (x2 : (⟨S4x3x2048, .f32⟩ : BufTy).Contents (Elt Ideal)) (x3 : (⟨S1x2048x1088, .f32⟩ : BufTy).Contents (Elt Ideal))
  (x4 x5 : (⟨S1x512, .f32⟩ : BufTy).Contents (Elt Ideal)) (x6 : (⟨S1x512x3072, .f32⟩ : BufTy).Contents (Elt Ideal))
  (x7 : (⟨S1x512x4096, .f32⟩ : BufTy).Contents (Elt Ideal)) (x8 x9 : (⟨S4096x2x16, .f32⟩ : BufTy).Contents (Elt Ideal))

/-- The queries: plain lanes, rotated lanes, pad. -/
theorem q_low (b : Fin 2) (h : Fin 16) (s : Fin 4352) (l : Fin 128) :
    (val_main_v143 x0 x1 x2 x3 x4 x6 x8 x9 (ix4 b h s ⟨l, by omega⟩) : EReal)
      = qrow x0 x1 x2 x3 x4 x6 (Cert.Qkv.row b s) ⟨h * 192 + l, by omega⟩ := by
  have e := qplain_apply x0 x1 x2 x3 x4 x6 b s h l
  unfold val_main_v143 val_main_v142 val_main_v141
  generalize val_main_v139 (F := Ideal) x0 x1 x2 x3 x4 x6 = y at e ⊢
  generalize val_main_v103 (F := Ideal) x0 x1 x2 x3 x4 x6 x8 x9 = y'
  generalize val_main_v140 (F := Ideal) = y''
  pointwise
  exact e

theorem q_mid (b : Fin 2) (h : Fin 16) (s : Fin 4352) (l : Fin 64) :
    (val_main_v143 x0 x1 x2 x3 x4 x6 x8 x9 (ix4 b h s ⟨128 + l, by omega⟩) : EReal)
      = if hs : (s : ℕ) < 4096 then Cert.Qkv.rot (fun l => qrow x0 x1 x2 x3 x4 x6 (Cert.Qkv.row b s) ⟨h * 192 + (128 + l), by omega⟩)
          (fun a f => x8 (ix3 ⟨s, hs⟩ a f)) (fun a f => x9 (ix3 ⟨s, hs⟩ a f)) l
        else qrow x0 x1 x2 x3 x4 x6 (Cert.Qkv.row b s) ⟨h * 192 + (128 + l), by omega⟩ := by
  refine Eq.trans ?_ (qturned_apply x0 x1 x2 x3 x4 x6 x8 x9 b s h l)
  unfold val_main_v143 val_main_v142 val_main_v141
  generalize val_main_v139 (F := Ideal) x0 x1 x2 x3 x4 x6 = y
  generalize val_main_v103 (F := Ideal) x0 x1 x2 x3 x4 x6 x8 x9 = y'
  generalize val_main_v140 (F := Ideal) = y''
  pointwise

theorem q_pad (b : Fin 2) (h : Fin 16) (s : Fin 4352) (l : Fin 64) :
    (val_main_v143 x0 x1 x2 x3 x4 x6 x8 x9 (ix4 b h s ⟨192 + l, by omega⟩) : EReal) = 0 := by
  unfold val_main_v143 val_main_v142 val_main_v141
  generalize val_main_v139 (F := Ideal) x0 x1 x2 x3 x4 x6 = y
  generalize val_main_v103 (F := Ideal) x0 x1 x2 x3 x4 x6 x8 x9 = y'
  pointwise [val_main_v140, val_main_cst_9]
  rw [dif_neg (by omega), dif_neg (by omega)]

/-- The keys: plain lanes, rotated lanes, pad. -/
theorem k_low (b : Fin 2) (h : Fin 16) (s : Fin 4352) (l : Fin 128) :
    (val_main_v153 x0 x1 x2 x3 x5 x7 x8 x9 (ix4 b h s ⟨l, by omega⟩) : EReal)
      = kvrow x0 x1 x2 x3 x5 x7 (Cert.Qkv.row b s) ⟨h * 256 + l, by omega⟩ := by
  have e := kplain_apply x0 x1 x2 x3 x5 x7 b s h l
  unfold val_main_v153 val_main_v152 val_main_v151
  generalize val_main_v149 (F := Ideal) x0 x1 x2 x3 x5 x7 = y at e ⊢
  generalize val_main_v133 (F := Ideal) x0 x1 x2 x3 x8 x9 = y'
  generalize val_main_v150 (F := Ideal) = y''
  pointwise
  exact e

theorem k_mid (b : Fin 2) (h : Fin 16) (s : Fin 4352) (l : Fin 64) :
    (val_main_v153 x0 x1 x2 x3 x5 x7 x8 x9 (ix4 b h s ⟨128 + l, by omega⟩) : EReal)
      = if hs : (s : ℕ) < 4096 then Cert.Qkv.rot (fun l => down x0 x1 x2 x3 (Cert.Qkv.row b s) ⟨1024 + l, by omega⟩)
          (fun a f => x8 (ix3 ⟨s, hs⟩ a f)) (fun a f => x9 (ix3 ⟨s, hs⟩ a f)) l
        else down x0 x1 x2 x3 (Cert.Qkv.row b s) ⟨1024 + l, by omega⟩ := by
  refine Eq.trans ?_ (kturned_apply x0 x1 x2 x3 x8 x9 b s h l)
  unfold val_main_v153 val_main_v152 val_main_v151
  generalize val_main_v149 (F := Ideal) x0 x1 x2 x3 x5 x7 = y
  generalize val_main_v133 (F := Ideal) x0 x1 x2 x3 x8 x9 = y'
  generalize val_main_v150 (F := Ideal) = y''
  pointwise

theorem k_pad (b : Fin 2) (h : Fin 16) (s : Fin 4352) (l : Fin 64) :
    (val_main_v153 x0 x1 x2 x3 x5 x7 x8 x9 (ix4 b h s ⟨192 + l, by omega⟩) : EReal) = 0 := by
  unfold val_main_v153 val_main_v152 val_main_v151
  generalize val_main_v149 (F := Ideal) x0 x1 x2 x3 x5 x7 = y
  generalize val_main_v133 (F := Ideal) x0 x1 x2 x3 x8 x9 = y'
  pointwise [val_main_v150, val_main_cst_10]
  rw [dif_neg (by omega), dif_neg (by omega)]

/-- The values: plain lanes, then a one and zeros. -/
theorem v_low (b : Fin 2) (h : Fin 16) (s : Fin 4352) (l : Fin 128) :
    (val_main_v164 x0 x1 x2 x3 x5 x7 (ix4 b h s ⟨l, by omega⟩) : EReal)
      = kvrow x0 x1 x2 x3 x5 x7 (Cert.Qkv.row b s) ⟨h * 256 + (128 + l), by omega⟩ := by
  have e := vplain_apply x0 x1 x2 x3 x5 x7 b s h l
  unfold val_main_v164 val_main_v163 val_main_v162
  generalize val_main_v159 (F := Ideal) x0 x1 x2 x3 x5 x7 = y at e ⊢
  generalize val_main_v160 (F := Ideal) = y'
  generalize val_main_v161 (F := Ideal) = y''
  pointwise
  exact e

theorem v_one (b : Fin 2) (h : Fin 16) (s : Fin 4352) (l : Fin 128) :
    (val_main_v164 x0 x1 x2 x3 x5 x7 (ix4 b h s ⟨128 + l, by omega⟩) : EReal) = if (l : ℕ) = 0 then 1 else 0 := by
  unfold val_main_v164 val_main_v163 val_main_v162
  generalize val_main_v159 (F := Ideal) x0 x1 x2 x3 x5 x7 = y
  pointwise [val_main_v160, val_main_v161, val_main_cst_11, val_main_cst_12]
  by_cases hl : (l : ℕ) = 0
  · rw [dif_pos (by omega), if_pos hl]
  · rw [dif_neg (by omega), if_neg hl]

end Cert.QkvRefIdeal.Step

end
-- ==== Proof.QkvEntry.lean ====
/- The projections of the latent attention leave the entries their reference leaves. -/
module

public import proofs.«01_k».proof.Proof.QkvPoint
public import proofs.«01_k».proof.Proof.QkvRefOut

@[expose] public section

set_option maxRecDepth 16384

noncomputable section

namespace Cert.QkvIdeal.Step

open Cert.QkvIdeal Cert.QkvIdeal.Gen Cert.Step Cert.Qkv Idealize.ShloMosaic Idealize.ShloMosaic.TcCoe Idealize.SL.Sem

variable (m : (ℓ : Loc nD τ sig) → Buf (Elt Ideal) ℓ)

/-- What the reference makes of the arguments. -/
abbrev wantedQ (c : Dev nD) : Vec Ideal S2x16x4352x256 .bf16 :=
  QkvRefIdeal.Read.val_main_v143 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg8)) (m ((c : Thread nD τ).loc main_arg9))

abbrev wantedK (c : Dev nD) : Vec Ideal S2x16x4352x256 .bf16 :=
  QkvRefIdeal.Read.val_main_v153 (F := Ideal) (m ((c : Thread nD τ).loc main_arg0)) (m ((c : Thread nD τ).loc main_arg1)) (m ((c : Thread nD τ).loc main_arg2)) (m ((c : Thread nD τ).loc main_arg3))
    (m ((c : Thread nD τ).loc main_arg5)) (m ((c : Thread nD τ).loc main_arg7)) (m ((c : Thread nD τ).loc main_arg8)) (m ((c : Thread nD τ).loc main_arg9))

abbrev wantedV (c : Dev nD) : Vec Ideal S2x16x4352x256 .bf16 :=
  QkvRefIdeal.Read.val_main_v164 (F := Ideal) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))

/-- 64 lanes and their partners' times the tables' rows: rotated for the latent tokens, as they are for the context. -/
theorem turn (c : Dev nD) (x : Fin 64 → EReal) (s : Fin 4352) (l : Fin 64) :
    x l * (V m c main_v60 (ix2 s ⟨l, by omega⟩) : EReal) + x (partner l) * (V m c main_v62 (ix2 s ⟨l, by omega⟩) : EReal)
      = if hs : (s : ℕ) < 4096 then rot x (tcos m c ⟨s, hs⟩) (tsin m c ⟨s, hs⟩) l else x l := by
  rw [cos_read m c s l, sin_read m c s l]
  by_cases hs : (s : ℕ) < 4096
  · rw [dif_pos hs, dif_pos hs, dif_pos hs]
    exact rot_eq x (tcos m c ⟨s, hs⟩) (tsin m c ⟨s, hs⟩) l
  · rw [dif_neg hs, dif_neg hs, dif_neg hs, mul_one, mul_zero, add_zero]

theorem partner_at (l : Fin 64) : (partner l : ℕ) = l / 32 * 32 + (l + 16) % 32 := by
  unfold partner
  rcases Nat.lt_or_ge ((l : ℕ) % 32) 16 with hl | hl
  · simp only [if_pos hl]
    omega
  · simp only [if_neg (show ¬(l : ℕ) % 32 < 16 by omega)]
    omega

/-- A lane is plain, rotated or pad. -/
theorem lane_cases {P : Fin 256 → Prop} (h1 : ∀ l : Fin 128, P ⟨l, by omega⟩) (h2 : ∀ l : Fin 64, P ⟨128 + l, by omega⟩)
    (h3 : ∀ l : Fin 64, P ⟨192 + l, by omega⟩) (d : Fin 256) : P d := by
  by_cases a : (d : ℕ) < 128
  · exact h1 ⟨d, a⟩
  · by_cases b : (d : ℕ) < 192
    · have e : d = ⟨128 + (d - 128), by omega⟩ := Fin.ext (by simp only []; omega)
      rw [e]
      exact h2 ⟨d - 128, by omega⟩
    · have e : d = ⟨192 + (d - 192), by omega⟩ := Fin.ext (by simp only []; omega)
      rw [e]
      exact h3 ⟨d - 192, by omega⟩

variable (c : Dev nD) (t : Fin cfg0.N) (h : Fin 16) (r : Fin 256) (b : Fin 2) (s : Fin 4352)

/-- The grid point's rows among the flat ones. -/
theorem row_at (hb : (b : ℕ) = entryOf t.val) (hs : (s : ℕ) = blockOf t.val * 256 + r) : (row b s : ℕ) = t.val * 256 + r := by
  have ht : t.val < 34 := t.isLt
  unfold entryOf at hb
  unfold blockOf at hs
  unfold row
  by_cases h32 : t.val < 32
  · rw [if_pos h32] at hb hs
    simp only [if_pos (show (s : ℕ) < 4096 by omega)]
    omega
  · rw [if_neg h32] at hb hs
    simp only [if_neg (show ¬(s : ℕ) < 4096 by omega)]
    omega

/-- Each query entry a grid point leaves is the wanted one. -/
theorem q_entry (hb : (b : ℕ) = entryOf t.val) (hs : (s : ℕ) = blockOf t.val * 256 + r) (d : Fin 256) :
    (out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) (ix4 0 h r d) : EReal) = wantedQ m c (ix4 b h s d) := by
  have hR := row_at t r b s hb hs
  refine lane_cases (P := fun d => (out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) (ix4 0 h r d) : EReal) = wantedQ m c (ix4 b h s d))
    (fun l => ?_) (fun l => ?_) (fun l => ?_) d
  · refine Eq.trans ?_ (QkvRefIdeal.Step.q_low _ _ _ _ _ _ _ _ b h s l).symm
    refine (q_low _ _ _ _ _ _ _ _ _ _ h r l).trans ?_
    exact q_block m c t r _ hR _ _ fun j => wq_low m c j h l
  · refine Eq.trans ?_ (QkvRefIdeal.Step.q_mid _ _ _ _ _ _ _ _ b h s l).symm
    refine (q_high _ _ _ _ _ _ _ _ _ _ h r ⟨l, by omega⟩).trans ?_
    rw [cos_apply, sin_apply, cos_block m c t r _ s hs, sin_block m c t r _ s hs]
    rw [q_block m c t r _ hR ⟨2048 + h * 128 + l, by omega⟩ ⟨h * 192 + (128 + l), by omega⟩ fun j =>
        (congrArg (fun e => (V m c main_v44 (ix2 j e) : EReal)) (Fin.ext (by simp only []; omega))).trans (wq_mid m c j h l),
      q_block m c t r _ hR ⟨4096 + h * 128 + l, by omega⟩ ⟨h * 192 + (128 + partner l), by omega⟩ fun j =>
        (congrArg (fun e => (V m c main_v44 (ix2 j e) : EReal)) (Fin.ext (by simp only []; omega))).trans
          (wq_high m c j h l (partner l) (partner_at l))]
    exact turn m c (fun l => qrow m c (row b s) ⟨h * 192 + (128 + l), by omega⟩) s l
  · refine Eq.trans ?_ (QkvRefIdeal.Step.q_pad _ _ _ _ _ _ _ _ b h s l).symm
    have e : (⟨192 + l, by omega⟩ : Fin 256) = ⟨128 + (64 + l), by omega⟩ := Fin.ext (by simp only []; omega)
    rw [e]
    refine (q_high _ _ _ _ _ _ _ _ _ _ h r ⟨64 + l, by omega⟩).trans ?_
    rw [cos_apply, sin_apply, cos_block m c t r _ s hs, sin_block m c t r _ s hs, cos_pad m c s l, sin_pad m c s l, mul_zero, mul_zero, add_zero]

/-- Each key entry a grid point leaves is the wanted one. -/
theorem k_entry (hb : (b : ℕ) = entryOf t.val) (hs : (s : ℕ) = blockOf t.val * 256 + r) (d : Fin 256) :
    (out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (ix4 0 h r d) : EReal) = wantedK m c (ix4 b h s d) := by
  have hR := row_at t r b s hb hs
  refine lane_cases (P := fun d => (out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (ix4 0 h r d) : EReal) = wantedK m c (ix4 b h s d))
    (fun l => ?_) (fun l => ?_) (fun l => ?_) d
  · refine Eq.trans ?_ (QkvRefIdeal.Step.k_low _ _ _ _ _ _ _ _ b h s l).symm
    refine (k_low _ _ _ _ _ _ _ _ _ _ h r l).trans ?_
    exact kv_block m c t r _ hR _ _ fun j => wkv_low m c j h l
  · refine Eq.trans ?_ (QkvRefIdeal.Step.k_mid _ _ _ _ _ _ _ _ b h s l).symm
    refine (k_high _ _ _ _ _ _ _ _ _ _ h r ⟨l, by omega⟩).trans ?_
    rw [kr_apply, cos_block m c t r _ s hs, sin_block m c t r _ s hs]
    rw [down_block m c t r _ hR ⟨1024 + l, by omega⟩ ⟨1024 + l, by omega⟩ fun j => wdown_mid m c j l,
      down_block m c t r _ hR ⟨1152 + l, by omega⟩ ⟨1024 + partner l, by omega⟩ fun j => wdown_high m c j l (partner l) (partner_at l)]
    exact turn m c (fun l => down m c (row b s) ⟨1024 + l, by omega⟩) s l
  · refine Eq.trans ?_ (QkvRefIdeal.Step.k_pad _ _ _ _ _ _ _ _ b h s l).symm
    have e : (⟨192 + l, by omega⟩ : Fin 256) = ⟨128 + (64 + l), by omega⟩ := Fin.ext (by simp only []; omega)
    rw [e]
    refine (k_high _ _ _ _ _ _ _ _ _ _ h r ⟨64 + l, by omega⟩).trans ?_
    rw [kr_apply, cos_block m c t r _ s hs, sin_block m c t r _ s hs, cos_pad m c s l, sin_pad m c s l, mul_zero, mul_zero, add_zero]

/-- Each value entry a grid point leaves is the wanted one. -/
theorem v_entry (hb : (b : ℕ) = entryOf t.val) (hs : (s : ℕ) = blockOf t.val * 256 + r) (d : Fin 256) :
    (out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (ix4 0 h r d) : EReal) = wantedV m c (ix4 b h s d) := by
  have hR := row_at t r b s hb hs
  by_cases a : (d : ℕ) < 128
  · refine Eq.trans ?_ (QkvRefIdeal.Step.v_low _ _ _ _ _ _ b h s ⟨d, a⟩).symm
    refine (v_low _ _ _ _ _ _ _ _ _ _ h r ⟨d, a⟩).trans ?_
    exact kv_block m c t r _ hR ⟨2048 + h * 128 + d, by omega⟩ _ fun j =>
      (congrArg (fun e => (V m c main_v45 (ix2 j e) : EReal)) (Fin.ext (by simp only []; omega))).trans (wkv_high m c j h ⟨d, a⟩)
  · have e : d = ⟨128 + (d - 128), by omega⟩ := Fin.ext (by simp only []; omega)
    rw [e]
    refine Eq.trans ?_ (QkvRefIdeal.Step.v_one _ _ _ _ _ _ b h s ⟨d - 128, by omega⟩).symm
    refine (v_high _ _ _ _ _ _ _ _ _ _ h r ⟨d - 128, by omega⟩).trans ?_
    exact one_apply _ _ _ _ _ _ _ _ _ _ r ⟨d - 128, by omega⟩

end Cert.QkvIdeal.Step

end
-- ==== Proof.QkvEq.lean ====
/- The projections of the latent attention and their reference leave equal results. -/
module

public import proofs.«01_k».proof.Proof.QkvEntry

@[expose] public section

set_option maxRecDepth 16384

noncomputable section

namespace Cert.QkvIdeal.Step

open Cert.QkvIdeal Cert.QkvIdeal.Gen Idealize.ShloMosaic Idealize.ShloMosaic.TcCoe Idealize.SL.Sem

variable (m : (ℓ : Loc nD τ sig) → Buf (Elt Ideal) ℓ)

theorem equalQ (c : Dev nD) : (dats m 0 c).arrAt 10 cfg0.N = wantedQ m c := by
  refine (dats m 0 c).arrAt_eq_of_covers 10 _ (by decide +kernel) fun t hf y => ?_
  blk_simp
  rw [after0_10]
  have ht : t.val < 34 := t.isLt
  have hb : entryOf t.val < 2 := by unfold entryOf; split <;> omega
  have hs : blockOf t.val < 17 := by unfold blockOf; split <;> omega
  obtain ⟨a, h, r, d, rfl⟩ : ∃ (a : Fin 1) (h : Fin 16) (r : Fin 256) (d : Fin 256), y = ix4 a h r d :=
    ⟨y 0, y 1, y 2, y 3, by funext a; fin_cases a <;> rfl⟩
  obtain rfl : a = 0 := Subsingleton.elim _ _
  refine (q_entry m c t h r ⟨entryOf t.val, hb⟩ ⟨blockOf t.val * 256 + r, by omega⟩ rfl rfl d).trans ?_
  blk_ext [idx t]

theorem equalK (c : Dev nD) : (dats m 0 c).arrAt 11 cfg0.N = wantedK m c := by
  refine (dats m 0 c).arrAt_eq_of_covers 11 _ (by decide +kernel) fun t hf y => ?_
  blk_simp
  rw [after0_11]
  have ht : t.val < 34 := t.isLt
  have hb : entryOf t.val < 2 := by unfold entryOf; split <;> omega
  have hs : blockOf t.val < 17 := by unfold blockOf; split <;> omega
  obtain ⟨a, h, r, d, rfl⟩ : ∃ (a : Fin 1) (h : Fin 16) (r : Fin 256) (d : Fin 256), y = ix4 a h r d :=
    ⟨y 0, y 1, y 2, y 3, by funext a; fin_cases a <;> rfl⟩
  obtain rfl : a = 0 := Subsingleton.elim _ _
  refine (k_entry m c t h r ⟨entryOf t.val, hb⟩ ⟨blockOf t.val * 256 + r, by omega⟩ rfl rfl d).trans ?_
  blk_ext [idx t]

theorem equalV (c : Dev nD) : (dats m 0 c).arrAt 12 cfg0.N = wantedV m c := by
  refine (dats m 0 c).arrAt_eq_of_covers 12 _ (by decide +kernel) fun t hf y => ?_
  blk_simp
  rw [after0_12]
  have ht : t.val < 34 := t.isLt
  have hb : entryOf t.val < 2 := by unfold entryOf; split <;> omega
  have hs : blockOf t.val < 17 := by unfold blockOf; split <;> omega
  obtain ⟨a, h, r, d, rfl⟩ : ∃ (a : Fin 1) (h : Fin 16) (r : Fin 256) (d : Fin 256), y = ix4 a h r d :=
    ⟨y 0, y 1, y 2, y 3, by funext a; fin_cases a <;> rfl⟩
  obtain rfl : a = 0 := Subsingleton.elim _ _
  refine (v_entry m c t h r ⟨entryOf t.val, hb⟩ ⟨blockOf t.val * 256 + r, by omega⟩ rfl rfl d).trans ?_
  blk_ext [idx t]

end Cert.QkvIdeal.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Half
public import proofs.«01_k».proof.Proof.Gen.Half.Skeleton
public import proofs.«01_k».proof.Proof.Gen.Half.Launch
public import proofs.«01_k».proof.Proof.Gen.Half.Points
public import proofs.«01_k».proof.Proof.Gen.Half.Frame
public import proofs.«01_k».proof.Proof.Gen.HalfIdeal
public import proofs.«01_k».proof.Proof.Gen.HalfIdeal.Skeleton
public import proofs.«01_k».proof.Proof.Gen.HalfIdeal.Launch
public import proofs.«01_k».proof.Proof.Gen.HalfIdeal.Points
public import proofs.«01_k».proof.Proof.Gen.HalfIdeal.Frame
public import proofs.«01_k».proof.Proof.Gen.HalfIdeal.Value
public import proofs.«01_k».proof.Proof.Gen.HalfRefIdeal
public import proofs.«01_k».proof.Proof.Gen.HalfRefIdeal.Run
public import proofs.«01_k».proof.Proof.Gen.HalfRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.AttnFinal
public import proofs.«01_k».proof.Proof.FfnEq
public import proofs.«01_k».proof.Proof.HalfEq
public import proofs.«01_k».proof.Proof.ProjEq
public import proofs.«01_k».proof.Proof.OutEq
public import proofs.«01_k».proof.Proof.GateEq
public import proofs.«01_k».proof.Proof.LastEq
public import proofs.«01_k».proof.Proof.QkvEq
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The attention kernel and its reference leave equal results. -/
theorem attention : Cert.algebraic_KernelIdeal_ReferenceIdeal_pre_finite_keys := by
  pair_intro
  · run_from Cert.KernelIdeal.Value.run_blocks m g
  · run_from Cert.ReferenceIdeal.Value.run m' g'
    obtain ⟨h0, h1, h2, h3, h7, h8⟩ := Cert.Pre_finite_keys.real_of_pre _ _ _ _ _ _ _ _ _ _ (hpre c)
    obtain ⟨a0, a1, a2, a3, a4, -, -, a7, a8, a9⟩ := hagree c
    rw [Cert.KernelIdeal.Attn.final m (c := c) ⟨h0, h1, h2, h3, h7, h8⟩, Cert.ReferenceIdeal.Read.val_main_v24_eq,
      a0, a1, a2, a3, a4, a7, a8, a9]

theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

theorem frame_reference_keys : Cert.quiescent_ReferenceIdeal_pre_finite_keys := by
  intro m g _
  exact frame_reference m g trivial

theorem frame_ffn_reference : Cert.quiescent_FfnRefIdeal := by
  intro m g _
  exact (θ_run Cert.FfnRefIdeal.defs _ _).mono (fun r h => ⟨fun c => (h c).2, sem_eq_zero_of_no_sems (by decide) r.2⟩)
    (Cert.FfnRefIdeal.Value.run (F := Ideal) m g)

theorem frame_half_reference : Cert.quiescent_HalfRefIdeal := by
  intro m g _
  exact (θ_run Cert.HalfRefIdeal.defs _ _).mono (fun r h => ⟨fun c => (h c).2, sem_eq_zero_of_no_sems (by decide) r.2⟩)
    (Cert.HalfRefIdeal.Value.run (F := Ideal) m g)

/-- The last feed-forward call and its reference leave equal results. -/
theorem ffn : Cert.algebraic_FfnIdeal_FfnRefIdeal := by
  pair_intro
  · run_from Cert.FfnIdeal.Value.run_blocks m g
  · run_from Cert.FfnRefIdeal.Value.run m' g'
    obtain ⟨a0, a1, a2, a3, a4, a5⟩ := hagree c
    rw [Cert.FfnIdeal.Value.final7 m c, Cert.FfnIdeal.Step.equal m c, Cert.FfnRefIdeal.Read.val_main_v60_eq, a0, a1, a2, a3, a4, a5]

/-- The first feed-forward call and its reference leave equal results. -/
theorem half : Cert.algebraic_HalfIdeal_HalfRefIdeal := by
  pair_intro
  · run_from Cert.HalfIdeal.Value.run_blocks m g
  · run_from Cert.HalfRefIdeal.Value.run m' g'
    obtain ⟨a0, a1, a2, a3, a4, -⟩ := hagree c
    rw [Cert.HalfIdeal.Value.final7 m c, Cert.HalfIdeal.Step.equal m c, Cert.HalfRefIdeal.Read.val_main_v48_eq, a0, a1, a2, a3, a4]

theorem frame_proj_reference : Cert.quiescent_ProjRefIdeal := by
  intro m g _
  exact (θ_run Cert.ProjRefIdeal.defs _ _).mono (fun r h => ⟨fun c => (h c).2, sem_eq_zero_of_no_sems (by decide) r.2⟩)
    (Cert.ProjRefIdeal.Value.run (F := Ideal) m g)

theorem frame_out_reference : Cert.quiescent_OutRefIdeal := by
  intro m g _
  exact (θ_run Cert.OutRefIdeal.defs _ _).mono (fun r h => ⟨fun c => (h c).2, sem_eq_zero_of_no_sems (by decide) r.2⟩)
    (Cert.OutRefIdeal.Value.run (F := Ideal) m g)

/-- The projections of the gated recurrence and their reference leave equal results. -/
theorem proj : Cert.algebraic_ProjIdeal_ProjRefIdeal := by
  pair_intro
  · run_from Cert.ProjIdeal.Value.run_blocks m g
  · run_from Cert.ProjRefIdeal.Value.run m' g'
    obtain ⟨-, a1, -, -⟩ := hagree c
    rw [Cert.ProjIdeal.Step.equal m c]
    refine (Cert.ProjRefIdeal.Read.val_main_v35_eq (F := Ideal) _ _ _ _).trans ?_
    rw [a1]

/-- The output product of the attention and its reference leave equal results. -/
theorem out : Cert.algebraic_OutIdeal_OutRefIdeal := by
  pair_intro
  · run_from Cert.OutIdeal.Value.run_blocks m g
  · run_from Cert.OutRefIdeal.Value.run m' g'
    obtain ⟨a0, a1, a2, a3, a4⟩ := hagree c
    rw [Cert.OutIdeal.Step.equal m c]
    refine (Cert.OutRefIdeal.Read.val_main_v28_eq _ _ _ _ _).trans ?_
    unfold Cert.OutIdeal.Step.wanted
    rw [a4]

theorem frame_gate_reference : Cert.quiescent_GateRefIdeal := by
  intro m g _
  exact (θ_run Cert.GateRefIdeal.defs _ _).mono (fun r h => ⟨fun c => (h c).2, sem_eq_zero_of_no_sems (by decide) r.2⟩)
    (Cert.GateRefIdeal.Value.run (F := Ideal) m g)

/-- The output of the gated recurrence and its reference leave equal results. -/
theorem gate : Cert.algebraic_GateIdeal_GateRefIdeal := by
  pair_intro
  · run_from Cert.GateIdeal.Value.run_blocks m g
  · run_from Cert.GateRefIdeal.Value.run m' g'
    obtain ⟨-, -, -, -, -, -, a6⟩ := hagree c
    rw [Cert.GateIdeal.Step.equal m c]
    refine (Cert.GateRefIdeal.Read.val_main_v38_eq (F := Ideal) _ _ _ _ _ _ _).trans ?_
    rw [a6]

theorem frame_last_reference : Cert.quiescent_LastRefIdeal := by
  intro m g _
  exact (θ_run Cert.LastRefIdeal.defs _ _).mono (fun r h => ⟨fun c => (h c).2, sem_eq_zero_of_no_sems (by decide) r.2⟩)
    (Cert.LastRefIdeal.Value.run (F := Ideal) m g)

/-- The output of the gated recurrence in the last layer and its reference leave equal results. -/
theorem last : Cert.algebraic_LastIdeal_LastRefIdeal := by
  pair_intro
  · run_from Cert.LastIdeal.Value.run_blocks m g
  · run_from Cert.LastRefIdeal.Value.run m' g'
    obtain ⟨-, -, -, -, a4, a5, a6⟩ := hagree c
    rw [Cert.LastIdeal.Step.equal m c]
    refine (Cert.LastRefIdeal.Read.val_main_v38_eq (F := Ideal) _ _ _ _ _ _ _).trans ?_
    rw [a4, a5, a6]

theorem frame_qkv_reference : Cert.quiescent_QkvRefIdeal := by
  intro m g _
  exact (θ_run Cert.QkvRefIdeal.defs _ _).mono (fun r h => ⟨fun c => (h c).2.2.2, sem_eq_zero_of_no_sems (by decide) r.2⟩)
    (Cert.QkvRefIdeal.Value.run (F := Ideal) m g)

/-- The projections of the latent attention and their reference leave equal queries, keys and values. -/
theorem qkv : Cert.algebraic_QkvIdeal_QkvRefIdeal := by
  pair_intro
  · run_from Cert.QkvIdeal.Value.run_blocks m g
  · run_from Cert.QkvRefIdeal.Value.run m' g'
    · obtain ⟨a0, a1, a2, a3, a4, -, a6, -, a8, a9⟩ := hagree c
      rw [Cert.QkvIdeal.Step.equalQ m c]
      refine (Cert.QkvRefIdeal.Read.val_main_v143_eq (F := Ideal) _ _).trans ?_
      rw [a0, a1, a2, a3, a4, a6, a8, a9]
    · obtain ⟨a0, a1, a2, a3, -, a5, -, a7, a8, a9⟩ := hagree c
      rw [Cert.QkvIdeal.Step.equalK m c]
      refine (Cert.QkvRefIdeal.Read.val_main_v153_eq (F := Ideal) _ _).trans ?_
      rw [a0, a1, a2, a3, a5, a7, a8, a9]
    · obtain ⟨a0, a1, a2, a3, -, a5, -, a7, -, -⟩ := hagree c
      rw [Cert.QkvIdeal.Step.equalV m c]
      refine (Cert.QkvRefIdeal.Read.val_main_v164_eq (F := Ideal) _ _).trans ?_
      rw [a0, a1, a2, a3, a5, a7]

theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Half.Gen.facts, Cert.HalfIdeal.Gen.facts, Cert.HalfRefIdeal.Gen.facts,
    Cert.Proj.Gen.facts, Cert.ProjIdeal.Gen.facts, Cert.ProjRefIdeal.Gen.facts, Cert.Out.Gen.facts, Cert.OutIdeal.Gen.facts,
    Cert.OutRefIdeal.Gen.facts, Cert.Gate.Gen.facts, Cert.GateIdeal.Gen.facts, Cert.GateRefIdeal.Gen.facts,
    Cert.Last.Gen.facts, Cert.LastIdeal.Gen.facts, Cert.LastRefIdeal.Gen.facts,
    Cert.Qkv.Gen.facts, Cert.QkvIdeal.Gen.facts, Cert.QkvRefIdeal.Gen.facts, Cert.Pre_finite_keys.facts,
    fun m ρ _ => Cert.Kernel.Gen.frame m ρ, fun m ρ _ => Cert.KernelIdeal.Gen.frame m ρ, fun m ρ _ => Cert.KernelIdeal.Gen.frame m ρ,
    frame_reference, frame_reference_keys,
    fun m ρ _ => Cert.Ffn.Gen.frame m ρ, fun m ρ _ => Cert.FfnIdeal.Gen.frame m ρ, frame_ffn_reference,
    fun m ρ _ => Cert.Half.Gen.frame m ρ, fun m ρ _ => Cert.HalfIdeal.Gen.frame m ρ, frame_half_reference,
    fun m ρ _ => Cert.Proj.Gen.frame m ρ, fun m ρ _ => Cert.ProjIdeal.Gen.frame m ρ, frame_proj_reference,
    fun m ρ _ => Cert.Out.Gen.frame m ρ, fun m ρ _ => Cert.OutIdeal.Gen.frame m ρ, frame_out_reference,
    fun m ρ _ => Cert.Gate.Gen.frame m ρ, fun m ρ _ => Cert.GateIdeal.Gen.frame m ρ, frame_gate_reference,
    fun m ρ _ => Cert.Last.Gen.frame m ρ, fun m ρ _ => Cert.LastIdeal.Gen.frame m ρ, frame_last_reference,
    fun m ρ _ => Cert.Qkv.Gen.frame m ρ, fun m ρ _ => Cert.QkvIdeal.Gen.frame m ρ, frame_qkv_reference,
    IdealRules.named_const.statement Cert.KernelIdeal.κ "scale_log2e" .f32 0x3DD53B95#32 _ rfl,
    attention, trivial, ffn, trivial, half, trivial, proj, trivial, out, trivial, gate, trivial, last,
    trivial, qkv⟩

end Cert.Proof

end
